-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_InWide (m : (ℓ : Loc Cert.InWide.nD Cert.InWide.τ Cert.InWide.sig) → Buf (Elt Bits) ℓ) : Prop :=
  True

def Pre_InWideIdeal (m : (ℓ : Loc Cert.InWideIdeal.nD Cert.InWideIdeal.τ Cert.InWideIdeal.sig) → Buf (Elt Ideal) ℓ) : Prop :=
  True

def Pre_InWideReferenceIdeal (m : (ℓ : Loc Cert.InWideReferenceIdeal.nD Cert.InWideReferenceIdeal.τ Cert.InWideReferenceIdeal.sig) → Buf (Elt Ideal) ℓ) : Prop :=
  True

def Pre_InState (m : (ℓ : Loc Cert.InState.nD Cert.InState.τ Cert.InState.sig) → Buf (Elt Bits) ℓ) : Prop :=
  True

def Pre_InStateIdeal (m : (ℓ : Loc Cert.InStateIdeal.nD Cert.InStateIdeal.τ Cert.InStateIdeal.sig) → Buf (Elt Ideal) ℓ) : Prop :=
  True

def Pre_InStateReferenceIdeal (m : (ℓ : Loc Cert.InStateReferenceIdeal.nD Cert.InStateReferenceIdeal.τ Cert.InStateReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepReferenceIdeal (m : (ℓ : Loc Cert.PrepReferenceIdeal.nD Cert.PrepReferenceIdeal.τ Cert.PrepReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolReferenceIdeal (m : (ℓ : Loc Cert.PoolReferenceIdeal.nD Cert.PoolReferenceIdeal.τ Cert.PoolReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_InWide [hInWide : Cert.InWide.Facts] : Prop :=
  ∀ (m : (ℓ : Loc Cert.InWide.nD Cert.InWide.τ Cert.InWide.sig) → Buf (Elt Bits) ℓ) (g : Dev Cert.InWide.nD → PrngReg), Pre_InWide m →
    θ_run (Cert.InWide.defs (F := Bits)) (onTc (τ := Cert.InWide.τ) (Cert.InWide.main (F := Bits))) ⟨m, fun _ => 0, g⟩ (fun r => (∀ c : Dev Cert.InWide.nD,
      r.2.mem ((c.tc : Thread Cert.InWide.nD Cert.InWide.τ).loc Cert.InWide.main_arg0) = m ((c.tc : Thread Cert.InWide.nD Cert.InWide.τ).loc Cert.InWide.main_arg0)
      ∧ r.2.mem ((c.tc : Thread Cert.InWide.nD Cert.InWide.τ).loc Cert.InWide.main_arg1) = m ((c.tc : Thread Cert.InWide.nD Cert.InWide.τ).loc Cert.InWide.main_arg1)
      ∧ r.2.mem ((c.tc : Thread Cert.InWide.nD Cert.InWide.τ).loc Cert.InWide.main_arg2) = m ((c.tc : Thread Cert.InWide.nD Cert.InWide.τ).loc Cert.InWide.main_arg2))
      ∧ r.2.sem = fun _ => 0)

def quiescent_InWideIdeal [hInWideIdeal : Cert.InWideIdeal.Facts] : Prop :=
  ∀ (m : (ℓ : Loc Cert.InWideIdeal.nD Cert.InWideIdeal.τ Cert.InWideIdeal.sig) → Buf (Elt Ideal) ℓ) (g : Dev Cert.InWideIdeal.nD → PrngReg), Pre_InWideIdeal m →
    θ_run (Cert.InWideIdeal.defs (F := Ideal)) (onTc (τ := Cert.InWideIdeal.τ) (Cert.InWideIdeal.main (F := Ideal))) ⟨m, fun _ => 0, g⟩ (fun r => (∀ c : Dev Cert.InWideIdeal.nD,
      r.2.mem ((c.tc : Thread Cert.InWideIdeal.nD Cert.InWideIdeal.τ).loc Cert.InWideIdeal.main_arg0) = m ((c.tc : Thread Cert.InWideIdeal.nD Cert.InWideIdeal.τ).loc Cert.InWideIdeal.main_arg0)
      ∧ r.2.mem ((c.tc : Thread Cert.InWideIdeal.nD Cert.InWideIdeal.τ).loc Cert.InWideIdeal.main_arg1) = m ((c.tc : Thread Cert.InWideIdeal.nD Cert.InWideIdeal.τ).loc Cert.InWideIdeal.main_arg1)
      ∧ r.2.mem ((c.tc : Thread Cert.InWideIdeal.nD Cert.InWideIdeal.τ).loc Cert.InWideIdeal.main_arg2) = m ((c.tc : Thread Cert.InWideIdeal.nD Cert.InWideIdeal.τ).loc Cert.InWideIdeal.main_arg2))
      ∧ r.2.sem = fun _ => 0)

def quiescent_InWideReferenceIdeal [hInWideReferenceIdeal : Cert.InWideReferenceIdeal.Facts] : Prop :=
  ∀ (m : (ℓ : Loc Cert.InWideReferenceIdeal.nD Cert.InWideReferenceIdeal.τ Cert.InWideReferenceIdeal.sig) → Buf (Elt Ideal) ℓ) (g : Dev Cert.InWideReferenceIdeal.nD → PrngReg), Pre_InWideReferenceIdeal m →
    θ_run (Cert.InWideReferenceIdeal.defs (F := Ideal)) (onTc (τ := Cert.InWideReferenceIdeal.τ) (Cert.InWideReferenceIdeal.main (F := Ideal))) ⟨m, fun _ => 0, g⟩ (fun r => (∀ c : Dev Cert.InWideReferenceIdeal.nD,
      r.2.mem ((c.tc : Thread Cert.InWideReferenceIdeal.nD Cert.InWideReferenceIdeal.τ).loc Cert.InWideReferenceIdeal.main_arg0) = m ((c.tc : Thread Cert.InWideReferenceIdeal.nD Cert.InWideReferenceIdeal.τ).loc Cert.InWideReferenceIdeal.main_arg0)
      ∧ r.2.mem ((c.tc : Thread Cert.InWideReferenceIdeal.nD Cert.InWideReferenceIdeal.τ).loc Cert.InWideReferenceIdeal.main_arg1) = m ((c.tc : Thread Cert.InWideReferenceIdeal.nD Cert.InWideReferenceIdeal.τ).loc Cert.InWideReferenceIdeal.main_arg1)
      ∧ r.2.mem ((c.tc : Thread Cert.InWideReferenceIdeal.nD Cert.InWideReferenceIdeal.τ).loc Cert.InWideReferenceIdeal.main_arg2) = m ((c.tc : Thread Cert.InWideReferenceIdeal.nD Cert.InWideReferenceIdeal.τ).loc Cert.InWideReferenceIdeal.main_arg2))
      ∧ r.2.sem = fun _ => 0)

def quiescent_InState [hInState : Cert.InState.Facts] : Prop :=
  ∀ (m : (ℓ : Loc Cert.InState.nD Cert.InState.τ Cert.InState.sig) → Buf (Elt Bits) ℓ) (g : Dev Cert.InState.nD → PrngReg), Pre_InState m →
    θ_run (Cert.InState.defs (F := Bits)) (onTc (τ := Cert.InState.τ) (Cert.InState.main (F := Bits))) ⟨m, fun _ => 0, g⟩ (fun r => (∀ c : Dev Cert.InState.nD,
      r.2.mem ((c.tc : Thread Cert.InState.nD Cert.InState.τ).loc Cert.InState.main_arg0) = m ((c.tc : Thread Cert.InState.nD Cert.InState.τ).loc Cert.InState.main_arg0)
      ∧ r.2.mem ((c.tc : Thread Cert.InState.nD Cert.InState.τ).loc Cert.InState.main_arg1) = m ((c.tc : Thread Cert.InState.nD Cert.InState.τ).loc Cert.InState.main_arg1)
      ∧ r.2.mem ((c.tc : Thread Cert.InState.nD Cert.InState.τ).loc Cert.InState.main_arg2) = m ((c.tc : Thread Cert.InState.nD Cert.InState.τ).loc Cert.InState.main_arg2))
      ∧ r.2.sem = fun _ => 0)

def quiescent_InStateIdeal [hInStateIdeal : Cert.InStateIdeal.Facts] : Prop :=
  ∀ (m : (ℓ : Loc Cert.InStateIdeal.nD Cert.InStateIdeal.τ Cert.InStateIdeal.sig) → Buf (Elt Ideal) ℓ) (g : Dev Cert.InStateIdeal.nD → PrngReg), Pre_InStateIdeal m →
    θ_run (Cert.InStateIdeal.defs (F := Ideal)) (onTc (τ := Cert.InStateIdeal.τ) (Cert.InStateIdeal.main (F := Ideal))) ⟨m, fun _ => 0, g⟩ (fun r => (∀ c : Dev Cert.InStateIdeal.nD,
      r.2.mem ((c.tc : Thread Cert.InStateIdeal.nD Cert.InStateIdeal.τ).loc Cert.InStateIdeal.main_arg0) = m ((c.tc : Thread Cert.InStateIdeal.nD Cert.InStateIdeal.τ).loc Cert.InStateIdeal.main_arg0)
      ∧ r.2.mem ((c.tc : Thread Cert.InStateIdeal.nD Cert.InStateIdeal.τ).loc Cert.InStateIdeal.main_arg1) = m ((c.tc : Thread Cert.InStateIdeal.nD Cert.InStateIdeal.τ).loc Cert.InStateIdeal.main_arg1)
      ∧ r.2.mem ((c.tc : Thread Cert.InStateIdeal.nD Cert.InStateIdeal.τ).loc Cert.InStateIdeal.main_arg2) = m ((c.tc : Thread Cert.InStateIdeal.nD Cert.InStateIdeal.τ).loc Cert.InStateIdeal.main_arg2))
      ∧ r.2.sem = fun _ => 0)

def quiescent_InStateReferenceIdeal [hInStateReferenceIdeal : Cert.InStateReferenceIdeal.Facts] : Prop :=
  ∀ (m : (ℓ : Loc Cert.InStateReferenceIdeal.nD Cert.InStateReferenceIdeal.τ Cert.InStateReferenceIdeal.sig) → Buf (Elt Ideal) ℓ) (g : Dev Cert.InStateReferenceIdeal.nD → PrngReg), Pre_InStateReferenceIdeal m →
    θ_run (Cert.InStateReferenceIdeal.defs (F := Ideal)) (onTc (τ := Cert.InStateReferenceIdeal.τ) (Cert.InStateReferenceIdeal.main (F := Ideal))) ⟨m, fun _ => 0, g⟩ (fun r => (∀ c : Dev Cert.InStateReferenceIdeal.nD,
      r.2.mem ((c.tc : Thread Cert.InStateReferenceIdeal.nD Cert.InStateReferenceIdeal.τ).loc Cert.InStateReferenceIdeal.main_arg0) = m ((c.tc : Thread Cert.InStateReferenceIdeal.nD Cert.InStateReferenceIdeal.τ).loc Cert.InStateReferenceIdeal.main_arg0)
      ∧ r.2.mem ((c.tc : Thread Cert.InStateReferenceIdeal.nD Cert.InStateReferenceIdeal.τ).loc Cert.InStateReferenceIdeal.main_arg1) = m ((c.tc : Thread Cert.InStateReferenceIdeal.nD Cert.InStateReferenceIdeal.τ).loc Cert.InStateReferenceIdeal.main_arg1)
      ∧ r.2.mem ((c.tc : Thread Cert.InStateReferenceIdeal.nD Cert.InStateReferenceIdeal.τ).loc Cert.InStateReferenceIdeal.main_arg2) = m ((c.tc : Thread Cert.InStateReferenceIdeal.nD Cert.InStateReferenceIdeal.τ).loc Cert.InStateReferenceIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3)
      ∧ r.2.mem ((c.tc : Thread Cert.PrepReferenceIdeal.nD Cert.PrepReferenceIdeal.τ).loc Cert.PrepReferenceIdeal.main_arg4) = m ((c.tc : Thread Cert.PrepReferenceIdeal.nD Cert.PrepReferenceIdeal.τ).loc Cert.PrepReferenceIdeal.main_arg4)
      ∧ r.2.mem ((c.tc : Thread Cert.PrepReferenceIdeal.nD Cert.PrepReferenceIdeal.τ).loc Cert.PrepReferenceIdeal.main_arg5) = m ((c.tc : Thread Cert.PrepReferenceIdeal.nD Cert.PrepReferenceIdeal.τ).loc Cert.PrepReferenceIdeal.main_arg5)
      ∧ r.2.mem ((c.tc : Thread Cert.PrepReferenceIdeal.nD Cert.PrepReferenceIdeal.τ).loc Cert.PrepReferenceIdeal.main_arg6) = m ((c.tc : Thread Cert.PrepReferenceIdeal.nD Cert.PrepReferenceIdeal.τ).loc Cert.PrepReferenceIdeal.main_arg6))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolReferenceIdeal [hPoolReferenceIdeal : Cert.PoolReferenceIdeal.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2)
      ∧ r.2.mem ((c.tc : Thread Cert.PoolReferenceIdeal.nD Cert.PoolReferenceIdeal.τ).loc Cert.PoolReferenceIdeal.main_arg3) = m ((c.tc : Thread Cert.PoolReferenceIdeal.nD Cert.PoolReferenceIdeal.τ).loc Cert.PoolReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_InWide_InWideIdeal : Prop :=
  True

def algebraic_InWideIdeal_InWideReferenceIdeal [hInWideIdeal : Cert.InWideIdeal.Facts] [hInWideReferenceIdeal : Cert.InWideReferenceIdeal.Facts] : Prop :=
  ∀ (m : (ℓ : Loc Cert.InWideIdeal.nD Cert.InWideIdeal.τ Cert.InWideIdeal.sig) → Buf (Elt Ideal) ℓ) (g : Dev Cert.InWideIdeal.nD → PrngReg)
    (m' : (ℓ : Loc Cert.InWideReferenceIdeal.nD Cert.InWideReferenceIdeal.τ Cert.InWideReferenceIdeal.sig) → Buf (Elt Ideal) ℓ) (g' : Dev Cert.InWideReferenceIdeal.nD → PrngReg), Pre_InWideIdeal m →
    (∀ c : Dev Cert.InWideIdeal.nD,
      m' ((c.tc : Thread Cert.InWideReferenceIdeal.nD Cert.InWideReferenceIdeal.τ).loc Cert.InWideReferenceIdeal.main_arg0) = m ((c.tc : Thread Cert.InWideIdeal.nD Cert.InWideIdeal.τ).loc Cert.InWideIdeal.main_arg0)
      ∧ m' ((c.tc : Thread Cert.InWideReferenceIdeal.nD Cert.InWideReferenceIdeal.τ).loc Cert.InWideReferenceIdeal.main_arg1) = m ((c.tc : Thread Cert.InWideIdeal.nD Cert.InWideIdeal.τ).loc Cert.InWideIdeal.main_arg1)
      ∧ m' ((c.tc : Thread Cert.InWideReferenceIdeal.nD Cert.InWideReferenceIdeal.τ).loc Cert.InWideReferenceIdeal.main_arg2) = m ((c.tc : Thread Cert.InWideIdeal.nD Cert.InWideIdeal.τ).loc Cert.InWideIdeal.main_arg2)) →
    ∃ (v0 : (c : Dev Cert.InWideIdeal.nD) → Buf (Elt Ideal) ((c.tc : Thread Cert.InWideIdeal.nD Cert.InWideIdeal.τ).loc Cert.InWideIdeal.main_v0)),
      θ_run (Cert.InWideIdeal.defs (F := Ideal)) (onTc (τ := Cert.InWideIdeal.τ) (Cert.InWideIdeal.main (F := Ideal))) ⟨m, fun _ => 0, g⟩ (fun r => ∀ c : Dev Cert.InWideIdeal.nD,
          r.2.mem ((c.tc : Thread Cert.InWideIdeal.nD Cert.InWideIdeal.τ).loc Cert.InWideIdeal.main_v0) = v0 c
          ∧ r.2.mem ((c.tc : Thread Cert.InWideIdeal.nD Cert.InWideIdeal.τ).loc Cert.InWideIdeal.main_arg0) = m ((c.tc : Thread Cert.InWideIdeal.nD Cert.InWideIdeal.τ).loc Cert.InWideIdeal.main_arg0)
          ∧ r.2.mem ((c.tc : Thread Cert.InWideIdeal.nD Cert.InWideIdeal.τ).loc Cert.InWideIdeal.main_arg1) = m ((c.tc : Thread Cert.InWideIdeal.nD Cert.InWideIdeal.τ).loc Cert.InWideIdeal.main_arg1)
          ∧ r.2.mem ((c.tc : Thread Cert.InWideIdeal.nD Cert.InWideIdeal.τ).loc Cert.InWideIdeal.main_arg2) = m ((c.tc : Thread Cert.InWideIdeal.nD Cert.InWideIdeal.τ).loc Cert.InWideIdeal.main_arg2))
      ∧ θ_run (Cert.InWideReferenceIdeal.defs (F := Ideal)) (onTc (τ := Cert.InWideReferenceIdeal.τ) (Cert.InWideReferenceIdeal.main (F := Ideal))) ⟨m', fun _ => 0, g'⟩ (fun r => ∀ c : Dev Cert.InWideReferenceIdeal.nD,
          r.2.mem ((c.tc : Thread Cert.InWideReferenceIdeal.nD Cert.InWideReferenceIdeal.τ).loc Cert.InWideReferenceIdeal.main_v15) = v0 c
          ∧ r.2.mem ((c.tc : Thread Cert.InWideReferenceIdeal.nD Cert.InWideReferenceIdeal.τ).loc Cert.InWideReferenceIdeal.main_arg0) = m' ((c.tc : Thread Cert.InWideReferenceIdeal.nD Cert.InWideReferenceIdeal.τ).loc Cert.InWideReferenceIdeal.main_arg0)
          ∧ r.2.mem ((c.tc : Thread Cert.InWideReferenceIdeal.nD Cert.InWideReferenceIdeal.τ).loc Cert.InWideReferenceIdeal.main_arg1) = m' ((c.tc : Thread Cert.InWideReferenceIdeal.nD Cert.InWideReferenceIdeal.τ).loc Cert.InWideReferenceIdeal.main_arg1)
          ∧ r.2.mem ((c.tc : Thread Cert.InWideReferenceIdeal.nD Cert.InWideReferenceIdeal.τ).loc Cert.InWideReferenceIdeal.main_arg2) = m' ((c.tc : Thread Cert.InWideReferenceIdeal.nD Cert.InWideReferenceIdeal.τ).loc Cert.InWideReferenceIdeal.main_arg2))

def preserves_InState_InStateIdeal : Prop :=
  True

def algebraic_InStateIdeal_InStateReferenceIdeal [hInStateIdeal : Cert.InStateIdeal.Facts] [hInStateReferenceIdeal : Cert.InStateReferenceIdeal.Facts] : Prop :=
  ∀ (m : (ℓ : Loc Cert.InStateIdeal.nD Cert.InStateIdeal.τ Cert.InStateIdeal.sig) → Buf (Elt Ideal) ℓ) (g : Dev Cert.InStateIdeal.nD → PrngReg)
    (m' : (ℓ : Loc Cert.InStateReferenceIdeal.nD Cert.InStateReferenceIdeal.τ Cert.InStateReferenceIdeal.sig) → Buf (Elt Ideal) ℓ) (g' : Dev Cert.InStateReferenceIdeal.nD → PrngReg), Pre_InStateIdeal m →
    (∀ c : Dev Cert.InStateIdeal.nD,
      m' ((c.tc : Thread Cert.InStateReferenceIdeal.nD Cert.InStateReferenceIdeal.τ).loc Cert.InStateReferenceIdeal.main_arg0) = m ((c.tc : Thread Cert.InStateIdeal.nD Cert.InStateIdeal.τ).loc Cert.InStateIdeal.main_arg0)
      ∧ m' ((c.tc : Thread Cert.InStateReferenceIdeal.nD Cert.InStateReferenceIdeal.τ).loc Cert.InStateReferenceIdeal.main_arg1) = m ((c.tc : Thread Cert.InStateIdeal.nD Cert.InStateIdeal.τ).loc Cert.InStateIdeal.main_arg1)
      ∧ m' ((c.tc : Thread Cert.InStateReferenceIdeal.nD Cert.InStateReferenceIdeal.τ).loc Cert.InStateReferenceIdeal.main_arg2) = m ((c.tc : Thread Cert.InStateIdeal.nD Cert.InStateIdeal.τ).loc Cert.InStateIdeal.main_arg2)) →
    ∃ (v0 : (c : Dev Cert.InStateIdeal.nD) → Buf (Elt Ideal) ((c.tc : Thread Cert.InStateIdeal.nD Cert.InStateIdeal.τ).loc Cert.InStateIdeal.main_v0)),
      θ_run (Cert.InStateIdeal.defs (F := Ideal)) (onTc (τ := Cert.InStateIdeal.τ) (Cert.InStateIdeal.main (F := Ideal))) ⟨m, fun _ => 0, g⟩ (fun r => ∀ c : Dev Cert.InStateIdeal.nD,
          r.2.mem ((c.tc : Thread Cert.InStateIdeal.nD Cert.InStateIdeal.τ).loc Cert.InStateIdeal.main_v0) = v0 c
          ∧ r.2.mem ((c.tc : Thread Cert.InStateIdeal.nD Cert.InStateIdeal.τ).loc Cert.InStateIdeal.main_arg0) = m ((c.tc : Thread Cert.InStateIdeal.nD Cert.InStateIdeal.τ).loc Cert.InStateIdeal.main_arg0)
          ∧ r.2.mem ((c.tc : Thread Cert.InStateIdeal.nD Cert.InStateIdeal.τ).loc Cert.InStateIdeal.main_arg1) = m ((c.tc : Thread Cert.InStateIdeal.nD Cert.InStateIdeal.τ).loc Cert.InStateIdeal.main_arg1)
          ∧ r.2.mem ((c.tc : Thread Cert.InStateIdeal.nD Cert.InStateIdeal.τ).loc Cert.InStateIdeal.main_arg2) = m ((c.tc : Thread Cert.InStateIdeal.nD Cert.InStateIdeal.τ).loc Cert.InStateIdeal.main_arg2))
      ∧ θ_run (Cert.InStateReferenceIdeal.defs (F := Ideal)) (onTc (τ := Cert.InStateReferenceIdeal.τ) (Cert.InStateReferenceIdeal.main (F := Ideal))) ⟨m', fun _ => 0, g'⟩ (fun r => ∀ c : Dev Cert.InStateReferenceIdeal.nD,
          r.2.mem ((c.tc : Thread Cert.InStateReferenceIdeal.nD Cert.InStateReferenceIdeal.τ).loc Cert.InStateReferenceIdeal.main_v14) = v0 c
          ∧ r.2.mem ((c.tc : Thread Cert.InStateReferenceIdeal.nD Cert.InStateReferenceIdeal.τ).loc Cert.InStateReferenceIdeal.main_arg0) = m' ((c.tc : Thread Cert.InStateReferenceIdeal.nD Cert.InStateReferenceIdeal.τ).loc Cert.InStateReferenceIdeal.main_arg0)
          ∧ r.2.mem ((c.tc : Thread Cert.InStateReferenceIdeal.nD Cert.InStateReferenceIdeal.τ).loc Cert.InStateReferenceIdeal.main_arg1) = m' ((c.tc : Thread Cert.InStateReferenceIdeal.nD Cert.InStateReferenceIdeal.τ).loc Cert.InStateReferenceIdeal.main_arg1)
          ∧ r.2.mem ((c.tc : Thread Cert.InStateReferenceIdeal.nD Cert.InStateReferenceIdeal.τ).loc Cert.InStateReferenceIdeal.main_arg2) = m' ((c.tc : Thread Cert.InStateReferenceIdeal.nD Cert.InStateReferenceIdeal.τ).loc Cert.InStateReferenceIdeal.main_arg2))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v29) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v3) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2))

def preserves_Prep_PrepIdeal : Prop :=
  True

def algebraic_PrepIdeal_PrepReferenceIdeal [hPrepIdeal : Cert.PrepIdeal.Facts] [hPrepReferenceIdeal : Cert.PrepReferenceIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepIdeal m →
    (∀ c : Dev Cert.PrepIdeal.nD,
      m' ((c.tc : Thread Cert.PrepReferenceIdeal.nD Cert.PrepReferenceIdeal.τ).loc Cert.PrepReferenceIdeal.main_arg0) = m ((c.tc : Thread Cert.PrepIdeal.nD Cert.PrepIdeal.τ).loc Cert.PrepIdeal.main_arg0)
      ∧ m' ((c.tc : Thread Cert.PrepReferenceIdeal.nD Cert.PrepReferenceIdeal.τ).loc Cert.PrepReferenceIdeal.main_arg1) = m ((c.tc : Thread Cert.PrepIdeal.nD Cert.PrepIdeal.τ).loc Cert.PrepIdeal.main_arg1)
      ∧ m' ((c.tc : Thread Cert.PrepReferenceIdeal.nD Cert.PrepReferenceIdeal.τ).loc Cert.PrepReferenceIdeal.main_arg2) = m ((c.tc : Thread Cert.PrepIdeal.nD Cert.PrepIdeal.τ).loc Cert.PrepIdeal.main_arg2)
      ∧ m' ((c.tc : Thread Cert.PrepReferenceIdeal.nD Cert.PrepReferenceIdeal.τ).loc Cert.PrepReferenceIdeal.main_arg3) = m ((c.tc : Thread Cert.PrepIdeal.nD Cert.PrepIdeal.τ).loc Cert.PrepIdeal.main_arg3)
      ∧ m' ((c.tc : Thread Cert.PrepReferenceIdeal.nD Cert.PrepReferenceIdeal.τ).loc Cert.PrepReferenceIdeal.main_arg4) = m ((c.tc : Thread Cert.PrepIdeal.nD Cert.PrepIdeal.τ).loc Cert.PrepIdeal.main_arg4)
      ∧ m' ((c.tc : Thread Cert.PrepReferenceIdeal.nD Cert.PrepReferenceIdeal.τ).loc Cert.PrepReferenceIdeal.main_arg5) = m ((c.tc : Thread Cert.PrepIdeal.nD Cert.PrepIdeal.τ).loc Cert.PrepIdeal.main_arg5)
      ∧ m' ((c.tc : Thread Cert.PrepReferenceIdeal.nD Cert.PrepReferenceIdeal.τ).loc Cert.PrepReferenceIdeal.main_arg6) = m ((c.tc : Thread Cert.PrepIdeal.nD Cert.PrepIdeal.τ).loc Cert.PrepIdeal.main_arg6)) →
    ∃ (v0 : (c : Dev Cert.PrepIdeal.nD) → Buf (Elt Ideal) ((c.tc : Thread Cert.PrepIdeal.nD Cert.PrepIdeal.τ).loc Cert.PrepIdeal.main_v0_0)) (v1 : (c : Dev Cert.PrepIdeal.nD) → Buf (Elt Ideal) ((c.tc : Thread Cert.PrepIdeal.nD Cert.PrepIdeal.τ).loc Cert.PrepIdeal.main_v0_1)) (v2 : (c : Dev Cert.PrepIdeal.nD) → Buf (Elt Ideal) ((c.tc : Thread Cert.PrepIdeal.nD Cert.PrepIdeal.τ).loc Cert.PrepIdeal.main_v0_2)) (v3 : (c : Dev Cert.PrepIdeal.nD) → Buf (Elt Ideal) ((c.tc : Thread Cert.PrepIdeal.nD Cert.PrepIdeal.τ).loc Cert.PrepIdeal.main_v0_3)) (v4 : (c : Dev Cert.PrepIdeal.nD) → Buf (Elt Ideal) ((c.tc : Thread Cert.PrepIdeal.nD Cert.PrepIdeal.τ).loc Cert.PrepIdeal.main_v0_4)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v0_0) = v0 c
          ∧ r.2.mem ((c.tc : Thread Cert.PrepIdeal.nD Cert.PrepIdeal.τ).loc Cert.PrepIdeal.main_v0_1) = v1 c
          ∧ r.2.mem ((c.tc : Thread Cert.PrepIdeal.nD Cert.PrepIdeal.τ).loc Cert.PrepIdeal.main_v0_2) = v2 c
          ∧ r.2.mem ((c.tc : Thread Cert.PrepIdeal.nD Cert.PrepIdeal.τ).loc Cert.PrepIdeal.main_v0_3) = v3 c
          ∧ r.2.mem ((c.tc : Thread Cert.PrepIdeal.nD Cert.PrepIdeal.τ).loc Cert.PrepIdeal.main_v0_4) = v4 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v39) = v0 c
          ∧ r.2.mem ((c.tc : Thread Cert.PrepReferenceIdeal.nD Cert.PrepReferenceIdeal.τ).loc Cert.PrepReferenceIdeal.main_v61) = v1 c
          ∧ r.2.mem ((c.tc : Thread Cert.PrepReferenceIdeal.nD Cert.PrepReferenceIdeal.τ).loc Cert.PrepReferenceIdeal.main_v63) = v2 c
          ∧ r.2.mem ((c.tc : Thread Cert.PrepReferenceIdeal.nD Cert.PrepReferenceIdeal.τ).loc Cert.PrepReferenceIdeal.main_v52) = v3 c
          ∧ r.2.mem ((c.tc : Thread Cert.PrepReferenceIdeal.nD Cert.PrepReferenceIdeal.τ).loc Cert.PrepReferenceIdeal.main_v58) = v4 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2)
          ∧ r.2.mem ((c.tc : Thread Cert.PrepReferenceIdeal.nD Cert.PrepReferenceIdeal.τ).loc Cert.PrepReferenceIdeal.main_arg3) = m' ((c.tc : Thread Cert.PrepReferenceIdeal.nD Cert.PrepReferenceIdeal.τ).loc Cert.PrepReferenceIdeal.main_arg3)
          ∧ r.2.mem ((c.tc : Thread Cert.PrepReferenceIdeal.nD Cert.PrepReferenceIdeal.τ).loc Cert.PrepReferenceIdeal.main_arg4) = m' ((c.tc : Thread Cert.PrepReferenceIdeal.nD Cert.PrepReferenceIdeal.τ).loc Cert.PrepReferenceIdeal.main_arg4)
          ∧ r.2.mem ((c.tc : Thread Cert.PrepReferenceIdeal.nD Cert.PrepReferenceIdeal.τ).loc Cert.PrepReferenceIdeal.main_arg5) = m' ((c.tc : Thread Cert.PrepReferenceIdeal.nD Cert.PrepReferenceIdeal.τ).loc Cert.PrepReferenceIdeal.main_arg5)
          ∧ r.2.mem ((c.tc : Thread Cert.PrepReferenceIdeal.nD Cert.PrepReferenceIdeal.τ).loc Cert.PrepReferenceIdeal.main_arg6) = m' ((c.tc : Thread Cert.PrepReferenceIdeal.nD Cert.PrepReferenceIdeal.τ).loc Cert.PrepReferenceIdeal.main_arg6))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v11) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_Pool_PoolIdeal : Prop :=
  True

def algebraic_PoolIdeal_PoolReferenceIdeal [hPoolIdeal : Cert.PoolIdeal.Facts] [hPoolReferenceIdeal : Cert.PoolReferenceIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolReferenceIdeal.nD Cert.PoolReferenceIdeal.τ Cert.PoolReferenceIdeal.sig) → Buf (Elt Ideal) ℓ) (g' : Dev Cert.PoolReferenceIdeal.nD → PrngReg), Pre_PoolIdeal m →
    (∀ c : Dev Cert.PoolIdeal.nD,
      m' ((c.tc : Thread Cert.PoolReferenceIdeal.nD Cert.PoolReferenceIdeal.τ).loc Cert.PoolReferenceIdeal.main_arg0) = m ((c.tc : Thread Cert.PoolIdeal.nD Cert.PoolIdeal.τ).loc Cert.PoolIdeal.main_arg0)
      ∧ m' ((c.tc : Thread Cert.PoolReferenceIdeal.nD Cert.PoolReferenceIdeal.τ).loc Cert.PoolReferenceIdeal.main_arg1) = m ((c.tc : Thread Cert.PoolIdeal.nD Cert.PoolIdeal.τ).loc Cert.PoolIdeal.main_arg1)
      ∧ m' ((c.tc : Thread Cert.PoolReferenceIdeal.nD Cert.PoolReferenceIdeal.τ).loc Cert.PoolReferenceIdeal.main_arg2) = m ((c.tc : Thread Cert.PoolIdeal.nD Cert.PoolIdeal.τ).loc Cert.PoolIdeal.main_arg2)
      ∧ m' ((c.tc : Thread Cert.PoolReferenceIdeal.nD Cert.PoolReferenceIdeal.τ).loc Cert.PoolReferenceIdeal.main_arg3) = m ((c.tc : Thread Cert.PoolIdeal.nD Cert.PoolIdeal.τ).loc Cert.PoolIdeal.main_arg3)) →
    ∃ (v0 : (c : Dev Cert.PoolIdeal.nD) → Buf (Elt Ideal) ((c.tc : Thread Cert.PoolIdeal.nD Cert.PoolIdeal.τ).loc Cert.PoolIdeal.main_v0)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v0) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ θ_run (Cert.PoolReferenceIdeal.defs (F := Ideal)) (onTc (τ := Cert.PoolReferenceIdeal.τ) (Cert.PoolReferenceIdeal.main (F := Ideal))) ⟨m', fun _ => 0, g'⟩ (fun r => ∀ c : Dev Cert.PoolReferenceIdeal.nD,
          r.2.mem ((c.tc : Thread Cert.PoolReferenceIdeal.nD Cert.PoolReferenceIdeal.τ).loc Cert.PoolReferenceIdeal.main_v54) = v0 c
          ∧ r.2.mem ((c.tc : Thread Cert.PoolReferenceIdeal.nD Cert.PoolReferenceIdeal.τ).loc Cert.PoolReferenceIdeal.main_arg0) = m' ((c.tc : Thread Cert.PoolReferenceIdeal.nD Cert.PoolReferenceIdeal.τ).loc Cert.PoolReferenceIdeal.main_arg0)
          ∧ r.2.mem ((c.tc : Thread Cert.PoolReferenceIdeal.nD Cert.PoolReferenceIdeal.τ).loc Cert.PoolReferenceIdeal.main_arg1) = m' ((c.tc : Thread Cert.PoolReferenceIdeal.nD Cert.PoolReferenceIdeal.τ).loc Cert.PoolReferenceIdeal.main_arg1)
          ∧ r.2.mem ((c.tc : Thread Cert.PoolReferenceIdeal.nD Cert.PoolReferenceIdeal.τ).loc Cert.PoolReferenceIdeal.main_arg2) = m' ((c.tc : Thread Cert.PoolReferenceIdeal.nD Cert.PoolReferenceIdeal.τ).loc Cert.PoolReferenceIdeal.main_arg2)
          ∧ r.2.mem ((c.tc : Thread Cert.PoolReferenceIdeal.nD Cert.PoolReferenceIdeal.τ).loc Cert.PoolReferenceIdeal.main_arg3) = m' ((c.tc : Thread Cert.PoolReferenceIdeal.nD Cert.PoolReferenceIdeal.τ).loc Cert.PoolReferenceIdeal.main_arg3))

def Claim : Prop :=
  ∃ (hKernel : Cert.Kernel.Facts) (hKernelIdeal : Cert.KernelIdeal.Facts) (hReferenceIdeal : Cert.ReferenceIdeal.Facts) (hInWide : Cert.InWide.Facts) (hInWideIdeal : Cert.InWideIdeal.Facts) (hInWideReferenceIdeal : Cert.InWideReferenceIdeal.Facts) (hInState : Cert.InState.Facts) (hInStateIdeal : Cert.InStateIdeal.Facts) (hInStateReferenceIdeal : Cert.InStateReferenceIdeal.Facts) (hMerge : Cert.Merge.Facts) (hMergeIdeal : Cert.MergeIdeal.Facts) (hMergeReferenceIdeal : Cert.MergeReferenceIdeal.Facts) (hOut : Cert.Out.Facts) (hOutIdeal : Cert.OutIdeal.Facts) (hOutReferenceIdeal : Cert.OutReferenceIdeal.Facts) (hPrep : Cert.Prep.Facts) (hPrepIdeal : Cert.PrepIdeal.Facts) (hPrepReferenceIdeal : Cert.PrepReferenceIdeal.Facts) (hNorm : Cert.Norm.Facts) (hNormIdeal : Cert.NormIdeal.Facts) (hNormReferenceIdeal : Cert.NormReferenceIdeal.Facts) (hPool : Cert.Pool.Facts) (hPoolIdeal : Cert.PoolIdeal.Facts) (hPoolReferenceIdeal : Cert.PoolReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InWide (hInWide := hInWide)
    ∧ quiescent_InWideIdeal (hInWideIdeal := hInWideIdeal)
    ∧ quiescent_InWideReferenceIdeal (hInWideReferenceIdeal := hInWideReferenceIdeal)
    ∧ quiescent_InState (hInState := hInState)
    ∧ quiescent_InStateIdeal (hInStateIdeal := hInStateIdeal)
    ∧ quiescent_InStateReferenceIdeal (hInStateReferenceIdeal := hInStateReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Out (hOut := hOut)
    ∧ quiescent_OutIdeal (hOutIdeal := hOutIdeal)
    ∧ quiescent_OutReferenceIdeal (hOutReferenceIdeal := hOutReferenceIdeal)
    ∧ quiescent_Prep (hPrep := hPrep)
    ∧ quiescent_PrepIdeal (hPrepIdeal := hPrepIdeal)
    ∧ quiescent_PrepReferenceIdeal (hPrepReferenceIdeal := hPrepReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_Pool (hPool := hPool)
    ∧ quiescent_PoolIdeal (hPoolIdeal := hPoolIdeal)
    ∧ quiescent_PoolReferenceIdeal (hPoolReferenceIdeal := hPoolReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_InWide_InWideIdeal
    ∧ algebraic_InWideIdeal_InWideReferenceIdeal (hInWideIdeal := hInWideIdeal) (hInWideReferenceIdeal := hInWideReferenceIdeal)
    ∧ preserves_InState_InStateIdeal
    ∧ algebraic_InStateIdeal_InStateReferenceIdeal (hInStateIdeal := hInStateIdeal) (hInStateReferenceIdeal := hInStateReferenceIdeal)
    ∧ preserves_Merge_MergeIdeal
    ∧ algebraic_MergeIdeal_MergeReferenceIdeal (hMergeIdeal := hMergeIdeal) (hMergeReferenceIdeal := hMergeReferenceIdeal)
    ∧ preserves_Out_OutIdeal
    ∧ algebraic_OutIdeal_OutReferenceIdeal (hOutIdeal := hOutIdeal) (hOutReferenceIdeal := hOutReferenceIdeal)
    ∧ preserves_Prep_PrepIdeal
    ∧ algebraic_PrepIdeal_PrepReferenceIdeal (hPrepIdeal := hPrepIdeal) (hPrepReferenceIdeal := hPrepReferenceIdeal)
    ∧ preserves_Norm_NormIdeal
    ∧ algebraic_NormIdeal_NormReferenceIdeal (hNormIdeal := hNormIdeal) (hNormReferenceIdeal := hNormReferenceIdeal)
    ∧ preserves_Pool_PoolIdeal
    ∧ algebraic_PoolIdeal_PoolReferenceIdeal (hPoolIdeal := hPoolIdeal) (hPoolReferenceIdeal := hPoolReferenceIdeal)
-- ==== Pre_finite.lean ====
abbrev S16x8192x384 : Shape := ⟨3, ![16, 8192, 384]⟩
abbrev S8192x384 : Shape := ⟨2, ![8192, 384]⟩
abbrev S256x8192 : Shape := ⟨2, ![256, 8192]⟩
abbrev S8192x11264 : Shape := ⟨2, ![8192, 11264]⟩
abbrev S16x256x128 : Shape := ⟨3, ![16, 256, 128]⟩
abbrev S_ : Shape := ⟨0, ![]⟩

class Facts : Prop where
  bcast_S_S16x8192x384 : S_.BroadcastsInDim S16x8192x384 (![] : Fin 0 → Fin S16x8192x384.rank)
  reducesTo_S16x8192x384_S_d0_1_2 : S16x8192x384.ReducesTo [0, 1, 2] S_
  h_S_ : 0 < S_.numel
  bcast_S_S8192x384 : S_.BroadcastsInDim S8192x384 (![] : Fin 0 → Fin S8192x384.rank)
  reducesTo_S8192x384_S_d0_1 : S8192x384.ReducesTo [0, 1] S_

variable [Facts]

def fn {F : FTy → Type} [FloatOps F] (main_arg0 : FVec F S16x8192x384 .bf16) (main_arg1 : FVec F S8192x384 .bf16) (main_arg2 : FVec F S256x8192 .bf16) (main_arg3 : FVec F S8192x11264 .bf16) (main_arg4 : FVec F S16x256x128 .bf16) : IVec S_ 1 :=
  let main_v0 : FVec F S16x8192x384 .bf16 := Host.absf main_arg0
  let main_cst : FVec F S_ .bf16 := constant S_ .bf16 0x7F80#16
  let main_v1 : FVec F S16x8192x384 .bf16 := broadcastInDim S16x8192x384 ![] bcast_S_S16x8192x384 main_cst
  let main_v2 : IVec S16x8192x384 1 := cmpf .olt main_v0 main_v1
  let main_c : IVec S_ 1 := constantI S_ 1 1#1
  let main_v3 : IVec S_ 1 := (fun x v => Host.reduce IntOp.andi x v reducesTo_S16x8192x384_S_d0_1_2 h_S_) main_v2 main_c
  let main_v4 : FVec F S8192x384 .bf16 := Host.absf main_arg1
  let main_cst_0 : FVec F S_ .bf16 := constant S_ .bf16 0x7F80#16
  let main_v5 : FVec F S8192x384 .bf16 := broadcastInDim S8192x384 ![] bcast_S_S8192x384 main_cst_0
  let main_v6 : IVec S8192x384 1 := cmpf .olt main_v4 main_v5
  let main_c_1 : IVec S_ 1 := constantI S_ 1 1#1
  let main_v7 : IVec S_ 1 := (fun x v => Host.reduce IntOp.andi x v reducesTo_S8192x384_S_d0_1 h_S_) main_v6 main_c_1
  let main_v8 : IVec S_ 1 := andi main_v3 main_v7
  main_v8
-- ==== Kernel.lean ====
abbrev S16x8192x384 : Shape := ⟨3, ![16, 8192, 384]⟩
abbrev S8192x384 : Shape := ⟨2, ![8192, 384]⟩
abbrev S256x8192 : Shape := ⟨2, ![256, 8192]⟩
abbrev S8192x11264 : Shape := ⟨2, ![8192, 11264]⟩
abbrev S16x256x128 : Shape := ⟨3, ![16, 256, 128]⟩
abbrev S72 : Shape := ⟨1, ![72]⟩
abbrev S8192x2048 : Shape := ⟨2, ![8192, 2048]⟩
abbrev S16x256x384 : Shape := ⟨3, ![16, 256, 384]⟩
abbrev S1 : Shape := ⟨1, ![1]⟩
abbrev S512x384 : Shape := ⟨2, ![512, 384]⟩
abbrev S256x512 : Shape := ⟨2, ![256, 512]⟩
abbrev S256x2048 : Shape := ⟨2, ![256, 2048]⟩
abbrev S1x4096 : Shape := ⟨2, ![1, 4096]⟩
abbrev S256x4096 : Shape := ⟨2, ![256, 4096]⟩
abbrev S4096x384 : Shape := ⟨2, ![4096, 384]⟩
abbrev S512x4096 : Shape := ⟨2, ![512, 4096]⟩
abbrev S4096 : Shape := ⟨1, ![4096]⟩
abbrev S512x1 : Shape := ⟨2, ![512, 1]⟩
abbrev S256x256 : Shape := ⟨2, ![256, 256]⟩
abbrev S1x256x128 : Shape := ⟨3, ![1, 256, 128]⟩
abbrev S256x128 : Shape := ⟨2, ![256, 128]⟩

abbrev nBuf : Space → Nat
  | .hbm => 7
  | .vmem => 14
  | .smem => 2
  | _ => 0

abbrev bufTy : (tb : Table) → Fin (tcTables nBuf tb) → BufTy
  | .hbm, ⟨0, _⟩ => ⟨S16x8192x384, .bf16⟩
  | .hbm, ⟨1, _⟩ => ⟨S8192x384, .bf16⟩
  | .hbm, ⟨2, _⟩ => ⟨S256x8192, .bf16⟩
  | .hbm, ⟨3, _⟩ => ⟨S8192x11264, .bf16⟩
  | .hbm, ⟨4, _⟩ => ⟨S16x256x128, .bf16⟩
  | .hbm, ⟨5, _⟩ => ⟨S8192x2048, .bf16⟩
  | .hbm, ⟨6, _⟩ => ⟨S8192x2048, .bf16⟩
  | .local _ .vmem, ⟨0, _⟩ => ⟨S16x256x384, .bf16⟩
  | .local _ .vmem, ⟨1, _⟩ => ⟨S16x256x384, .bf16⟩
  | .local _ .vmem, ⟨2, _⟩ => ⟨S512x384, .bf16⟩
  | .local _ .vmem, ⟨3, _⟩ => ⟨S512x384, .bf16⟩
  | .local _ .vmem, ⟨4, _⟩ => ⟨S256x512, .bf16⟩
  | .local _ .vmem, ⟨5, _⟩ => ⟨S256x512, .bf16⟩
  | .local _ .vmem, ⟨6, _⟩ => ⟨S256x2048, .bf16⟩
  | .local _ .vmem, ⟨7, _⟩ => ⟨S256x2048, .bf16⟩
  | .local _ .vmem, ⟨8, _⟩ => ⟨S16x256x128, .bf16⟩
  | .local _ .vmem, ⟨9, _⟩ => ⟨S256x2048, .bf16⟩
  | .local _ .vmem, ⟨10, _⟩ => ⟨S256x2048, .bf16⟩
  | .local _ .vmem, ⟨11, _⟩ => ⟨S1x4096, .f32⟩
  | .local _ .vmem, ⟨12, _⟩ => ⟨S1x4096, .f32⟩
  | .local _ .vmem, ⟨13, _⟩ => ⟨S256x4096, .f32⟩
  | .local _ .smem, ⟨0, _⟩ => ⟨S72, .i32⟩
  | .local _ .smem, ⟨1, _⟩ => ⟨S72, .i32⟩
  | _, _ => ⟨S16x8192x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 72], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v1 : Index := Scalar.indexCast arg1
  ![v1.toNat]
def k0_cond3 (v1 : BitVec 32) (v3 : BitVec 32) : BitVec 1 :=
  let c256_i32 : BitVec 32 := 256#32
  let v4 : BitVec 32 := Scalar.muli v1 c256_i32
  let c256_i32_0 : BitVec 32 := 256#32
  let v5 : BitVec 32 := Scalar.addi v4 c256_i32_0
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c512_i32 : BitVec 32 := 512#32
  let c0_i32_2 : BitVec 32 := 0#32
  let v13 : BitVec 1 := Scalar.cmpi .sgt c512_i32 c0_i32_2
  let v14 : BitVec 32 := Scalar.extui v13
  let c0_i32_3 : BitVec 32 := 0#32
  let v15 : BitVec 1 := Scalar.cmpi .slt c512_i32 c0_i32_3
  let v16 : BitVec 32 := Scalar.extui v15
  let v17 : BitVec 32 := Scalar.subi v14 v16
  let v18 : BitVec 1 := Scalar.cmpi .ne v12 v17
  let v19 : BitVec 32 := Scalar.remsi v6 c512_i32
  let c0_i32_4 : BitVec 32 := 0#32
  let v20 : BitVec 1 := Scalar.cmpi .ne v19 c0_i32_4
  let v21 : BitVec 1 := Scalar.andi v18 v20
  let v7 : BitVec 32 := Scalar.divsi v6 c512_i32
  let c1_i32_5 : BitVec 32 := 1#32
  let v22 : BitVec 32 := Scalar.subi v7 c1_i32_5
  let v23 : BitVec 32 := Scalar.select v21 v22 v7
  let v30 : BitVec 1 := Scalar.cmpi .eq v3 v23
  let v31 : BitVec 32 := Scalar.extui v30
  let c0_i32_9 : BitVec 32 := 0#32
  let v32 : BitVec 1 := Scalar.cmpi .ne v31 c0_i32_9
  v32

def cc0_transform_0 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : Index := Scalar.indexCast arg1
  let v2 : BitVec 32 := pf.at 0 (Rect.unit (s := S72) ![v1.toNat] S1.size (k0_off1_inb i)) numel1_S1
  let v3 : BitVec 32 := Scalar.addi v0 v2
  let c0_i32 : BitVec 32 := 0#32
  let c0_i32_0 : BitVec 32 := 0#32
  let c0_i32_1 : BitVec 32 := 0#32
  ![c0_i32.toNat, v3.toNat, c0_i32_0.toNat]

def cc0_transform_1 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : Index := Scalar.indexCast arg1
  let v2 : BitVec 32 := pf.at 1 (Rect.unit (s := S72) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

def cc0_transform_2 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : Index := Scalar.indexCast arg1
  let v2 : BitVec 32 := pf.at 1 (Rect.unit (s := S72) ![v1.toNat] S1.size (k0_off1_inb i)) numel1_S1
  let v3 : BitVec 32 := Scalar.addi v0 v2
  let c0_i32 : BitVec 32 := 0#32
  let c0_i32_0 : BitVec 32 := 0#32
  ![c0_i32.toNat, v3.toNat]

def cc0_transform_3 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : Index := Scalar.indexCast arg1
  let v2 : BitVec 32 := pf.at 0 (Rect.unit (s := S72) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : Index := Scalar.indexCast arg1
  let v2 : BitVec 32 := pf.at 0 (Rect.unit (s := S72) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

abbrev stage0_0 : Fin 2 → Memref sig .tc .vmem S16x256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S16x256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16x8192x384 : Shape := ⟨3, ![16, 8192, 384]⟩
abbrev S8192x384 : Shape := ⟨2, ![8192, 384]⟩
abbrev S256x8192 : Shape := ⟨2, ![256, 8192]⟩
abbrev S8192x11264 : Shape := ⟨2, ![8192, 11264]⟩
abbrev S16x256x128 : Shape := ⟨3, ![16, 256, 128]⟩
abbrev S16x2x4096x384 : Shape := ⟨4, ![16, 2, 4096, 384]⟩
abbrev S2x4096x384 : Shape := ⟨3, ![2, 4096, 384]⟩
abbrev S8192x256 : Shape := ⟨2, ![8192, 256]⟩
abbrev S2x4096x256 : Shape := ⟨3, ![2, 4096, 256]⟩
abbrev S2x16x4096x4096 : Shape := ⟨4, ![2, 16, 4096, 4096]⟩
abbrev S4096 : Shape := ⟨1, ![4096]⟩
abbrev S1x1x1x4096 : Shape := ⟨4, ![1, 1, 1, 4096]⟩
abbrev S1x1x4096x1 : Shape := ⟨4, ![1, 1, 4096, 1]⟩
abbrev S1x1x4096x4096 : Shape := ⟨4, ![1, 1, 4096, 4096]⟩
abbrev S_ : Shape := ⟨0, ![]⟩
abbrev S2x16x4096 : Shape := ⟨3, ![2, 16, 4096]⟩
abbrev S2x16x4096x1 : Shape := ⟨4, ![2, 16, 4096, 1]⟩
abbrev S2x256x16x4096 : Shape := ⟨4, ![2, 256, 16, 4096]⟩
abbrev S2x4096x16x256 : Shape := ⟨4, ![2, 4096, 16, 256]⟩
abbrev S16x128x2x4096 : Shape := ⟨4, ![16, 128, 2, 4096]⟩
abbrev S2x4096x16x128 : Shape := ⟨4, ![2, 4096, 16, 128]⟩
abbrev S8192x2048 : Shape := ⟨2, ![8192, 2048]⟩

abbrev nBuf : Space → Nat
  | .hbm => 53
  | .vmem => 0
  | .smem => 0
  | _ => 0

abbrev bufTy : (tb : Table) → Fin (tcTables nBuf tb) → BufTy
  | .hbm, ⟨0, _⟩ => ⟨S16x8192x384, .bf16⟩
  | .hbm, ⟨1, _⟩ => ⟨S8192x384, .bf16⟩
  | .hbm, ⟨2, _⟩ => ⟨S256x8192, .bf16⟩
  | .hbm, ⟨3, _⟩ => ⟨S8192x11264, .bf16⟩
  | .hbm, ⟨4, _⟩ => ⟨S16x256x128, .bf16⟩
  | .hbm, ⟨5, _⟩ => ⟨S16x2x4096x384, .bf16⟩
  | .hbm, ⟨6, _⟩ => ⟨S2x4096x384, .bf16⟩
  | .hbm, ⟨7, _⟩ => ⟨S8192x256, .bf16⟩
  | .hbm, ⟨8, _⟩ => ⟨S2x4096x256, .bf16⟩
  | .hbm, ⟨9, _⟩ => ⟨S2x16x4096x4096, .f32⟩
  | .hbm, ⟨10, _⟩ => ⟨S4096, .i32⟩
  | .hbm, ⟨11, _⟩ => ⟨S1x1x1x4096, .i32⟩
  | .hbm, ⟨12, _⟩ => ⟨S1x1x4096x1, .i32⟩
  | .hbm, ⟨13, _⟩ => ⟨S1x1x4096x4096, .i32⟩
  | .hbm, ⟨14, _⟩ => ⟨S1x1x4096x4096, .i32⟩
  | .hbm, ⟨15, _⟩ => ⟨S1x1x4096x4096, .i1⟩
  | .hbm, ⟨16, _⟩ => ⟨S_, .f32⟩
  | .hbm, ⟨17, _⟩ => ⟨S_, .f32⟩
  | .hbm, ⟨18, _⟩ => ⟨S2x16x4096x4096, .i1⟩
  | .hbm, ⟨19, _⟩ => ⟨S2x16x4096x4096, .f32⟩
  | .hbm, ⟨20, _⟩ => ⟨S2x16x4096x4096, .f32⟩
  | .hbm, ⟨21, _⟩ => ⟨S_, .f32⟩
  | .hbm, ⟨22, _⟩ => ⟨S2x16x4096x4096, .f32⟩
  | .hbm, ⟨23, _⟩ => ⟨S_, .f32⟩
  | .hbm, ⟨24, _⟩ => ⟨S2x16x4096, .f32⟩
  | .hbm, ⟨25, _⟩ => ⟨S2x16x4096x1, .f32⟩
  | .hbm, ⟨26, _⟩ => ⟨S2x16x4096x4096, .f32⟩
  | .hbm, ⟨27, _⟩ => ⟨S2x16x4096x4096, .f32⟩
  | .hbm, ⟨28, _⟩ => ⟨S2x16x4096x4096, .f32⟩
  | .hbm, ⟨29, _⟩ => ⟨S_, .f32⟩
  | .hbm, ⟨30, _⟩ => ⟨S2x16x4096, .f32⟩
  | .hbm, ⟨31, _⟩ => ⟨S2x16x4096x1, .f32⟩
  | .hbm, ⟨32, _⟩ => ⟨S2x16x4096x4096, .f32⟩
  | .hbm, ⟨33, _⟩ => ⟨S2x16x4096x4096, .f32⟩
  | .hbm, ⟨34, _⟩ => ⟨S2x16x4096x4096, .bf16⟩
  | .hbm, ⟨35, _⟩ => ⟨S2x256x16x4096, .f32⟩
  | .hbm, ⟨36, _⟩ => ⟨S2x4096x16x256, .f32⟩
  | .hbm, ⟨37, _⟩ => ⟨S2x4096x16x256, .bf16⟩
  | .hbm, ⟨38, _⟩ => ⟨S16x128x2x4096, .f32⟩
  | .hbm, ⟨39, _⟩ => ⟨S2x4096x16x128, .f32⟩
  | .hbm, ⟨40, _⟩ => ⟨S2x4096x16x128, .bf16⟩
  | .hbm, ⟨41, _⟩ => ⟨S8192x2048, .bf16⟩
  | .hbm, ⟨42, _⟩ => ⟨S8192x2048, .bf16⟩
  | .hbm, ⟨43, _⟩ => ⟨S8192x2048, .bf16⟩
  | .hbm, ⟨44, _⟩ => ⟨S8192x2048, .bf16⟩
  | .hbm, ⟨45, _⟩ => ⟨S_, .bf16⟩
  | .hbm, ⟨46, _⟩ => ⟨S8192x2048, .bf16⟩
  | .hbm, ⟨47, _⟩ => ⟨S8192x2048, .bf16⟩
  | .hbm, ⟨48, _⟩ => ⟨S_, .bf16⟩
  | .hbm, ⟨49, _⟩ => ⟨S8192x2048, .bf16⟩
  | .hbm, ⟨50, _⟩ => ⟨S8192x2048, .bf16⟩
  | .hbm, ⟨51, _⟩ => ⟨S8192x2048, .bf16⟩
  | .hbm, ⟨52, _⟩ => ⟨S8192x2048, .bf16⟩
  | _, _ => ⟨S16x8192x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_call1_v0 : Ref sig .tc := ⟨.hbm, 43, rfl⟩
abbrev main_call1_v1 : Ref sig .tc := ⟨.hbm, 44, rfl⟩
abbrev main_call1_cst : Ref sig .tc := ⟨.hbm, 45, rfl⟩
abbrev main_call1_v2 : Ref sig .tc := ⟨.hbm, 46, rfl⟩
abbrev main_call1_v3 : Ref sig .tc := ⟨.hbm, 47, rfl⟩
abbrev main_call1_cst_0 : Ref sig .tc := ⟨.hbm, 48, rfl⟩
abbrev main_call1_v4 : Ref sig .tc := ⟨.hbm, 49, rfl⟩
abbrev main_call1_v5 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== InWide.lean ====
abbrev S8192x2048 : Shape := ⟨2, ![8192, 2048]⟩
abbrev S1x2048 : Shape := ⟨2, ![1, 2048]⟩
abbrev S11264x2048 : Shape := ⟨2, ![11264, 2048]⟩
abbrev S8192x11264 : Shape := ⟨2, ![8192, 11264]⟩
abbrev S1024x2048 : Shape := ⟨2, ![1024, 2048]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S11264x2048, .bf16⟩
  | .hbm, ⟨3, _⟩ => ⟨S8192x11264, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .bf16⟩
  | .local _ .vmem, ⟨4, _⟩ => ⟨S1024x2048, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InWideReferenceIdeal.lean ====
abbrev S8192x2048 : Shape := ⟨2, ![8192, 2048]⟩
abbrev S1x2048 : Shape := ⟨2, ![1, 2048]⟩
abbrev S11264x2048 : Shape := ⟨2, ![11264, 2048]⟩
abbrev S_ : Shape := ⟨0, ![]⟩
abbrev S8192 : Shape := ⟨1, ![8192]⟩
abbrev S8192x1 : Shape := ⟨2, ![8192, 1]⟩
abbrev S2048x11264 : Shape := ⟨2, ![2048, 11264]⟩
abbrev S8192x11264 : Shape := ⟨2, ![8192, 11264]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S11264x2048, .bf16⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S11264x2048, .f32⟩
  | .hbm, ⟨19, _⟩ => ⟨S2048x11264, .f32⟩
  | .hbm, ⟨20, _⟩ => ⟨S8192x11264, .f32⟩
  | .hbm, ⟨21, _⟩ => ⟨S8192x11264, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== InState.lean ====
abbrev S8192x2048 : Shape := ⟨2, ![8192, 2048]⟩
abbrev S1x2048 : Shape := ⟨2, ![1, 2048]⟩
abbrev S2176x2048 : Shape := ⟨2, ![2176, 2048]⟩
abbrev S8192x2176 : Shape := ⟨2, ![8192, 2176]⟩
abbrev S512x2048 : Shape := ⟨2, ![512, 2048]⟩
abbrev S512x2176 : Shape := ⟨2, ![512, 2176]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2176x2048, .bf16⟩
  | .hbm, ⟨3, _⟩ => ⟨S8192x2176, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2176x2048, .bf16⟩
  | .local _ .vmem, ⟨4, _⟩ => ⟨S512x2176, .f32⟩
  | .local _ .vmem, ⟨5, _⟩ => ⟨S512x2176, .f32⟩
  | .local _ .vmem, ⟨6, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2176x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x2176 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InStateReferenceIdeal.lean ====
abbrev S8192x2048 : Shape := ⟨2, ![8192, 2048]⟩
abbrev S1x2048 : Shape := ⟨2, ![1, 2048]⟩
abbrev S2176x2048 : Shape := ⟨2, ![2176, 2048]⟩
abbrev S_ : Shape := ⟨0, ![]⟩
abbrev S8192 : Shape := ⟨1, ![8192]⟩
abbrev S8192x1 : Shape := ⟨2, ![8192, 1]⟩
abbrev S2048x2176 : Shape := ⟨2, ![2048, 2176]⟩
abbrev S8192x2176 : Shape := ⟨2, ![8192, 2176]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2176x2048, .bf16⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S2176x2048, .f32⟩
  | .hbm, ⟨19, _⟩ => ⟨S2048x2176, .f32⟩
  | .hbm, ⟨20, _⟩ => ⟨S8192x2176, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Merge.lean ====
abbrev S8192x1024 : Shape := ⟨2, ![8192, 1024]⟩
abbrev S8192x2048 : Shape := ⟨2, ![8192, 2048]⟩
abbrev S8192x11264 : Shape := ⟨2, ![8192, 11264]⟩
abbrev S1024x2048 : Shape := ⟨2, ![1024, 2048]⟩
abbrev S2048x2048 : Shape := ⟨2, ![2048, 2048]⟩
abbrev S1024x1024 : Shape := ⟨2, ![1024, 1024]⟩
abbrev S1024x512 : Shape := ⟨2, ![1024, 512]⟩
abbrev S2048x512 : Shape := ⟨2, ![2048, 512]⟩

abbrev nBuf : Space → Nat
  | .hbm => 8
  | .vmem => 20
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x1024, .bf16⟩
  | .hbm, ⟨3, _⟩ => ⟨S8192x11264, .bf16⟩
  | .hbm, ⟨4, _⟩ => ⟨S1024x2048, .bf16⟩
  | .hbm, ⟨5, _⟩ => ⟨S2048x2048, .bf16⟩
  | .hbm, ⟨6, _⟩ => ⟨S1024x2048, .bf16⟩
  | .hbm, ⟨7, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S2048x512, .bf16⟩
  | .local _ .vmem, ⟨15, _⟩ => ⟨S2048x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeReferenceIdeal.lean ====
abbrev S8192x1024 : Shape := ⟨2, ![8192, 1024]⟩
abbrev S8192x2048 : Shape := ⟨2, ![8192, 2048]⟩
abbrev S8192x11264 : Shape := ⟨2, ![8192, 11264]⟩
abbrev S1024x2048 : Shape := ⟨2, ![1024, 2048]⟩
abbrev S2048x2048 : Shape := ⟨2, ![2048, 2048]⟩
abbrev S8192x6144 : Shape := ⟨2, ![8192, 6144]⟩
abbrev S_ : Shape := ⟨0, ![]⟩
abbrev S8192x3x2048 : Shape := ⟨3, ![8192, 3, 2048]⟩
abbrev S8192x1x2048 : Shape := ⟨3, ![8192, 1, 2048]⟩

abbrev nBuf : Space → Nat
  | .hbm => 39
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x1024, .bf16⟩
  | .hbm, ⟨3, _⟩ => ⟨S8192x11264, .bf16⟩
  | .hbm, ⟨4, _⟩ => ⟨S1024x2048, .bf16⟩
  | .hbm, ⟨5, _⟩ => ⟨S2048x2048, .bf16⟩
  | .hbm, ⟨6, _⟩ => ⟨S1024x2048, .bf16⟩
  | .hbm, ⟨7, _⟩ => ⟨S8192x6144, .bf16⟩
  | .hbm, ⟨8, _⟩ => ⟨S8192x6144, .f32⟩
  | .hbm, ⟨9, _⟩ => ⟨S8192x6144, .f32⟩
  | .hbm, ⟨10, _⟩ => ⟨S8192x6144, .f32⟩
  | .hbm, ⟨11, _⟩ => ⟨S_, .f32⟩
  | .hbm, ⟨12, _⟩ => ⟨S8192x6144, .f32⟩
  | .hbm, ⟨13, _⟩ => ⟨S8192x6144, .f32⟩
  | .hbm, ⟨14, _⟩ => ⟨S_, .f32⟩
  | .hbm, ⟨15, _⟩ => ⟨S8192x6144, .f32⟩
  | .hbm, ⟨16, _⟩ => ⟨S8192x6144, .f32⟩
  | .hbm, ⟨17, _⟩ => ⟨S8192x3x2048, .f32⟩
  | .hbm, ⟨18, _⟩ => ⟨S8192x1024, .f32⟩
  | .hbm, ⟨19, _⟩ => ⟨S8192x2048, .f32⟩
  | .hbm, ⟨20, _⟩ => ⟨S8192x1024, .f32⟩
  | .hbm, ⟨21, _⟩ => ⟨S1024x2048, .f32⟩
  | .hbm, ⟨22, _⟩ => ⟨S2048x2048, .f32⟩
  | .hbm, ⟨23, _⟩ => ⟨S1024x2048, .f32⟩
  | .hbm, ⟨24, _⟩ => ⟨S8192x1x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x1x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x1x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Out.lean ====
abbrev S8192x2048 : Shape := ⟨2, ![8192, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutReferenceIdeal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Prep.lean ====
abbrev S8192x2176 : Shape := ⟨2, ![8192, 2176]⟩
abbrev S8192x128 : Shape := ⟨2, ![8192, 128]⟩
abbrev S1x512 : Shape := ⟨2, ![1, 512]⟩
abbrev S1x256 : Shape := ⟨2, ![1, 256]⟩
abbrev S512x2048 : Shape := ⟨2, ![512, 2048]⟩
abbrev S16x128x256 : Shape := ⟨3, ![16, 128, 256]⟩
abbrev S16x8192x384 : Shape := ⟨3, ![16, 8192, 384]⟩
abbrev S8192x384 : Shape := ⟨2, ![8192, 384]⟩
abbrev S256x8192 : Shape := ⟨2, ![256, 8192]⟩
abbrev S8192x256 : Shape := ⟨2, ![8192, 256]⟩
abbrev S8192x64 : Shape := ⟨2, ![8192, 64]⟩
abbrev S256x512 : Shape := ⟨2, ![256, 512]⟩
abbrev S256x256 : Shape := ⟨2, ![256, 256]⟩
abbrev S256x128 : Shape := ⟨2, ![256, 128]⟩
abbrev S16x256x384 : Shape := ⟨3, ![16, 256, 384]⟩
abbrev S256x384 : Shape := ⟨2, ![256, 384]⟩
abbrev S256x64 : Shape := ⟨2, ![256, 64]⟩
abbrev S1x128 : Shape := ⟨2, ![1, 128]⟩
abbrev S256 : Shape := ⟨1, ![256]⟩
abbrev S256x1 : Shape := ⟨2, ![256, 1]⟩
abbrev S256x2048 : Shape := ⟨2, ![256, 2048]⟩
abbrev S1x128x256 : Shape := ⟨3, ![1, 128, 256]⟩
abbrev S128x256 : Shape := ⟨2, ![128, 256]⟩
abbrev S1x256x256 : Shape := ⟨3, ![1, 256, 256]⟩
abbrev S1x256x128 : Shape := ⟨3, ![1, 256, 128]⟩

abbrev nBuf : Space → Nat
  | .hbm => 12
  | .vmem => 23
  | .smem => 0
  | _ => 0

abbrev bufTy : (tb : Table) → Fin (tcTables nBuf tb) → BufTy
  | .hbm, ⟨0, _⟩ => ⟨S8192x2176, .f32⟩
  | .hbm, ⟨1, _⟩ => ⟨S8192x128, .f32⟩
  | .hbm, ⟨2, _⟩ => ⟨S1x512, .f32⟩
  | .hbm, ⟨3, _⟩ => ⟨S1x256, .f32⟩
  | .hbm, ⟨4, _⟩ => ⟨S512x2048, .bf16⟩
  | .hbm, ⟨5, _⟩ => ⟨S512x2048, .bf16⟩
  | .hbm, ⟨6, _⟩ => ⟨S16x128x256, .bf16⟩
  | .hbm, ⟨7, _⟩ => ⟨S16x8192x384, .bf16⟩
  | .hbm, ⟨8, _⟩ => ⟨S8192x384, .bf16⟩
  | .hbm, ⟨9, _⟩ => ⟨S256x8192, .bf16⟩
  | .hbm, ⟨10, _⟩ => ⟨S8192x256, .f32⟩
  | .hbm, ⟨11, _⟩ => ⟨S8192x64, .f32⟩
  | .local _ .vmem, ⟨0, _⟩ => ⟨S256x512, .f32⟩
  | .local _ .vmem, ⟨1, _⟩ => ⟨S256x512, .f32⟩
  | .local _ .vmem, ⟨2, _⟩ => ⟨S256x256, .f32⟩
  | .local _ .vmem, ⟨3, _⟩ => ⟨S256x256, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S1x512, .f32⟩
  | .local _ .vmem, ⟨9, _⟩ => ⟨S1x256, .f32⟩
  | .local _ .vmem, ⟨10, _⟩ => ⟨S512x2048, .bf16⟩
  | .local _ .vmem, ⟨11, _⟩ => ⟨S512x2048, .bf16⟩
  | .local _ .vmem, ⟨12, _⟩ => ⟨S16x128x256, .bf16⟩
  | .local _ .vmem, ⟨13, _⟩ => ⟨S16x256x384, .bf16⟩
  | .local _ .vmem, ⟨14, _⟩ => ⟨S16x256x384, .bf16⟩
  | .local _ .vmem, ⟨15, _⟩ => ⟨S256x384, .bf16⟩
  | .local _ .vmem, ⟨16, _⟩ => ⟨S256x384, .bf16⟩
  | .local _ .vmem, ⟨17, _⟩ => ⟨S256x256, .bf16⟩
  | .local _ .vmem, ⟨18, _⟩ => ⟨S256x256, .bf16⟩
  | .local _ .vmem, ⟨19, _⟩ => ⟨S256x256, .f32⟩
  | .local _ .vmem, ⟨20, _⟩ => ⟨S256x256, .f32⟩
  | .local _ .vmem, ⟨21, _⟩ => ⟨S256x64, .f32⟩
  | .local _ .vmem, ⟨22, _⟩ => ⟨S256x64, .f32⟩
  | _, _ => ⟨S8192x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x128x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S16x256x384 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x384 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== PrepReferenceIdeal.lean ====
abbrev S8192x2176 : Shape := ⟨2, ![8192, 2176]⟩
abbrev S8192x128 : Shape := ⟨2, ![8192, 128]⟩
abbrev S1x512 : Shape := ⟨2, ![1, 512]⟩
abbrev S1x256 : Shape := ⟨2, ![1, 256]⟩
abbrev S512x2048 : Shape := ⟨2, ![512, 2048]⟩
abbrev S16x128x256 : Shape := ⟨3, ![16, 128, 256]⟩
abbrev S8192x64 : Shape := ⟨2, ![8192, 64]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S8192x2048 : Shape := ⟨2, ![8192, 2048]⟩
abbrev S8192x16x128 : Shape := ⟨3, ![8192, 16, 128]⟩
abbrev S16x8192x256 : Shape := ⟨3, ![16, 8192, 256]⟩
abbrev S8192x16x64 : Shape := ⟨3, ![8192, 16, 64]⟩
abbrev S8192x1x64 : Shape := ⟨3, ![8192, 1, 64]⟩
abbrev S16x8192x64 : Shape := ⟨3, ![16, 8192, 64]⟩
abbrev S16x8192x384 : Shape := ⟨3, ![16, 8192, 384]⟩
abbrev S8192x256 : Shape := ⟨2, ![8192, 256]⟩
abbrev S8192x384 : Shape := ⟨2, ![8192, 384]⟩
abbrev S256x8192 : Shape := ⟨2, ![256, 8192]⟩

abbrev nBuf : Space → Nat
  | .hbm => 81
  | .vmem => 0
  | .smem => 0
  | _ => 0

abbrev bufTy : (tb : Table) → Fin (tcTables nBuf tb) → BufTy
  | .hbm, ⟨0, _⟩ => ⟨S8192x2176, .f32⟩
  | .hbm, ⟨1, _⟩ => ⟨S8192x128, .f32⟩
  | .hbm, ⟨2, _⟩ => ⟨S1x512, .f32⟩
  | .hbm, ⟨3, _⟩ => ⟨S1x256, .f32⟩
  | .hbm, ⟨4, _⟩ => ⟨S512x2048, .bf16⟩
  | .hbm, ⟨5, _⟩ => ⟨S512x2048, .bf16⟩
  | .hbm, ⟨6, _⟩ => ⟨S16x128x256, .bf16⟩
  | .hbm, ⟨7, _⟩ => ⟨S512x2048, .f32⟩
  | .hbm, ⟨8, _⟩ => ⟨S512x2048, .f32⟩
  | .hbm, ⟨9, _⟩ => ⟨S16x128x256, .f32⟩
  | .hbm, ⟨10, _⟩ => ⟨S8192x64, .f32⟩
  | .hbm, ⟨11, _⟩ => ⟨S8192x64, .f32⟩
  | .hbm, ⟨12, _⟩ => ⟨S8192x512, .f32⟩
  | .hbm, ⟨13, _⟩ => ⟨S8192x512, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S8192x2048, .f32⟩
  | .hbm, ⟨29, _⟩ => ⟨S8192x16x128, .f32⟩
  | .hbm, ⟨30, _⟩ => ⟨S8192x2048, .f32⟩
  | .hbm, ⟨31, _⟩ => ⟨S8192x16x128, .f32⟩
  | .hbm, ⟨32, _⟩ => ⟨S16x8192x256, .f32⟩
  | .hbm, ⟨33, _⟩ => ⟨S_, .f32⟩
  | .hbm, ⟨34, _⟩ => ⟨S16x8192x256, .f32⟩
  | .hbm, ⟨35, _⟩ => ⟨S16x8192x256, .f32⟩
  | .hbm, ⟨36, _⟩ => ⟨S8192x16x64, .f32⟩
  | .hbm, ⟨37, _⟩ => ⟨S8192x1x64, .f32⟩
  | .hbm, ⟨38, _⟩ => ⟨S8192x16x64, .f32⟩
  | .hbm, ⟨39, _⟩ => ⟨S8192x16x64, .f32⟩
  | .hbm, ⟨40, _⟩ => ⟨S8192x16x64, .f32⟩
  | .hbm, ⟨41, _⟩ => ⟨S8192x1x64, .f32⟩
  | .hbm, ⟨42, _⟩ => ⟨S8192x16x64, .f32⟩
  | .hbm, ⟨43, _⟩ => ⟨S8192x16x64, .f32⟩
  | .hbm, ⟨44, _⟩ => ⟨S8192x16x64, .f32⟩
  | .hbm, ⟨45, _⟩ => ⟨S_, .f32⟩
  | .hbm, ⟨46, _⟩ => ⟨S8192x16x64, .f32⟩
  | .hbm, ⟨47, _⟩ => ⟨S8192x16x64, .f32⟩
  | .hbm, ⟨48, _⟩ => ⟨S16x8192x64, .f32⟩
  | .hbm, ⟨49, _⟩ => ⟨S_, .f32⟩
  | .hbm, ⟨50, _⟩ => ⟨S16x8192x64, .f32⟩
  | .hbm, ⟨51, _⟩ => ⟨S16x8192x384, .f32⟩
  | .hbm, ⟨52, _⟩ => ⟨S16x8192x384, .bf16⟩
  | .hbm, ⟨53, _⟩ => ⟨S8192x256, .f32⟩
  | .hbm, ⟨54, _⟩ => ⟨S8192x256, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S8192x1, .f32⟩
  | .hbm, ⟨65, _⟩ => ⟨S8192x256, .f32⟩
  | .hbm, ⟨66, _⟩ => ⟨S8192x256, .f32⟩
  | .hbm, ⟨67, _⟩ => ⟨S8192x256, .f32⟩
  | .hbm, ⟨68, _⟩ => ⟨S8192x256, .f32⟩
  | .hbm, ⟨69, _⟩ => ⟨S8192x128, .f32⟩
  | .hbm, ⟨70, _⟩ => ⟨S8192x64, .f32⟩
  | .hbm, ⟨71, _⟩ => ⟨S8192x64, .f32⟩
  | .hbm, ⟨72, _⟩ => ⟨S8192x64, .f32⟩
  | .hbm, ⟨73, _⟩ => ⟨S8192x64, .f32⟩
  | .hbm, ⟨74, _⟩ => ⟨S8192x64, .f32⟩
  | .hbm, ⟨75, _⟩ => ⟨S_, .f32⟩
  | .hbm, ⟨76, _⟩ => ⟨S8192x64, .f32⟩
  | .hbm, ⟨77, _⟩ => ⟨S8192x384, .f32⟩
  | .hbm, ⟨78, _⟩ => ⟨S8192x384, .bf16⟩
  | .hbm, ⟨79, _⟩ => ⟨S256x8192, .f32⟩
  | .hbm, ⟨80, _⟩ => ⟨S256x8192, .bf16⟩
  | _, _ => ⟨S8192x2176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_8 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩

abbrev nD : Nat := 1
abbrev τ : Topo := Topo.v7x

variable {F : FTy → Type} [FloatOps F]
-- ==== Norm.lean ====
abbrev S8192x2048 : Shape := ⟨2, ![8192, 2048]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .f32⟩
  | .local _ .vmem, ⟨4, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Pool.lean ====
abbrev S8192x2176 : Shape := ⟨2, ![8192, 2176]⟩
abbrev S8192x11264 : Shape := ⟨2, ![8192, 11264]⟩
abbrev S4x256x256 : Shape := ⟨3, ![4, 256, 256]⟩
abbrev S1x1024 : Shape := ⟨2, ![1, 1024]⟩
abbrev S8192x1024 : Shape := ⟨2, ![8192, 1024]⟩
abbrev S512x1024 : Shape := ⟨2, ![512, 1024]⟩
abbrev S528x1024 : Shape := ⟨2, ![528, 1024]⟩
abbrev S16x1024 : Shape := ⟨2, ![16, 1024]⟩
abbrev S512x1 : Shape := ⟨2, ![512, 1]⟩
abbrev S512x256 : Shape := ⟨2, ![512, 256]⟩
abbrev S1x256x256 : Shape := ⟨3, ![1, 256, 256]⟩
abbrev S256x256 : Shape := ⟨2, ![256, 256]⟩
abbrev S1x256 : Shape := ⟨2, ![1, 256]⟩

abbrev nBuf : Space → Nat
  | .hbm => 5
  | .vmem => 9
  | .smem => 0
  | _ => 0

abbrev bufTy : (tb : Table) → Fin (tcTables nBuf tb) → BufTy
  | .hbm, ⟨0, _⟩ => ⟨S8192x2176, .f32⟩
  | .hbm, ⟨1, _⟩ => ⟨S8192x11264, .bf16⟩
  | .hbm, ⟨2, _⟩ => ⟨S4x256x256, .bf16⟩
  | .hbm, ⟨3, _⟩ => ⟨S1x1024, .f32⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S4x256x256, .bf16⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S528x1024, .f32⟩
  | _, _ => ⟨S8192x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let c0_i32 : BitVec 32 := 0#32
  ![v1.toNat, c2_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== PoolReferenceIdeal.lean ====
abbrev S8192x2176 : Shape := ⟨2, ![8192, 2176]⟩
abbrev S8192x11264 : Shape := ⟨2, ![8192, 11264]⟩
abbrev S4x256x256 : Shape := ⟨3, ![4, 256, 256]⟩
abbrev S1x1024 : Shape := ⟨2, ![1, 1024]⟩
abbrev S8192x1024 : Shape := ⟨2, ![8192, 1024]⟩
abbrev S2x4096x1024 : Shape := ⟨3, ![2, 4096, 1024]⟩
abbrev S4096 : Shape := ⟨1, ![4096]⟩
abbrev S_ : Shape := ⟨0, ![]⟩
abbrev S2x4096x256 : Shape := ⟨3, ![2, 4096, 256]⟩
abbrev S1x4096x1 : Shape := ⟨3, ![1, 4096, 1]⟩
abbrev S8192x4x256 : Shape := ⟨3, ![8192, 4, 256]⟩
abbrev S4x256x8192 : Shape := ⟨3, ![4, 256, 8192]⟩

abbrev nBuf : Space → Nat
  | .hbm => 76
  | .vmem => 0
  | .smem => 0
  | _ => 0

abbrev bufTy : (tb : Table) → Fin (tcTables nBuf tb) → BufTy
  | .hbm, ⟨0, _⟩ => ⟨S8192x2176, .f32⟩
  | .hbm, ⟨1, _⟩ => ⟨S8192x11264, .bf16⟩
  | .hbm, ⟨2, _⟩ => ⟨S4x256x256, .bf16⟩
  | .hbm, ⟨3, _⟩ => ⟨S1x1024, .f32⟩
  | .hbm, ⟨4, _⟩ => ⟨S8192x1024, .f32⟩
  | .hbm, ⟨5, _⟩ => ⟨S2x4096x1024, .f32⟩
  | .hbm, ⟨6, _⟩ => ⟨S8192x1024, .bf16⟩
  | .hbm, ⟨7, _⟩ => ⟨S8192x1024, .f32⟩
  | .hbm, ⟨8, _⟩ => ⟨S4096, .i32⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S2x4096x256, .f32⟩
  | .hbm, ⟨13, _⟩ => ⟨S_, .f32⟩
  | .hbm, ⟨14, _⟩ => ⟨S_, .f32⟩
  | .hbm, ⟨15, _⟩ => ⟨S2x4096x256, .f32⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S4096, .f32⟩
  | .hbm, ⟨20, _⟩ => ⟨S1x4096x1, .f32⟩
  | .hbm, ⟨21, _⟩ => ⟨S2x4096x256, .f32⟩
  | .hbm, ⟨22, _⟩ => ⟨S2x4096x256, .f32⟩
  | .hbm, ⟨23, _⟩ => ⟨S2x4096x256, .f32⟩
  | .hbm, ⟨24, _⟩ => ⟨S_, .f32⟩
  | .hbm, ⟨25, _⟩ => ⟨S_, .f32⟩
  | .hbm, ⟨26, _⟩ => ⟨S2x4096x256, .f32⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S4096, .f32⟩
  | .hbm, ⟨31, _⟩ => ⟨S1x4096x1, .f32⟩
  | .hbm, ⟨32, _⟩ => ⟨S2x4096x256, .f32⟩
  | .hbm, ⟨33, _⟩ => ⟨S2x4096x256, .f32⟩
  | .hbm, ⟨34, _⟩ => ⟨S2x4096x256, .f32⟩
  | .hbm, ⟨35, _⟩ => ⟨S_, .f32⟩
  | .hbm, ⟨36, _⟩ => ⟨S_, .f32⟩
  | .hbm, ⟨37, _⟩ => ⟨S2x4096x256, .f32⟩
  | .hbm, ⟨38, _⟩ => ⟨S_, .i32⟩
  | .hbm, ⟨39, _⟩ => ⟨S4096, .i32⟩
  | .hbm, ⟨40, _⟩ => ⟨S4096, .i32⟩
  | .hbm, ⟨41, _⟩ => ⟨S4096, .f32⟩
  | .hbm, ⟨42, _⟩ => ⟨S1x4096x1, .f32⟩
  | .hbm, ⟨43, _⟩ => ⟨S2x4096x256, .f32⟩
  | .hbm, ⟨44, _⟩ => ⟨S2x4096x256, .f32⟩
  | .hbm, ⟨45, _⟩ => ⟨S2x4096x256, .f32⟩
  | .hbm, ⟨46, _⟩ => ⟨S_, .f32⟩
  | .hbm, ⟨47, _⟩ => ⟨S_, .f32⟩
  | .hbm, ⟨48, _⟩ => ⟨S2x4096x256, .f32⟩
  | .hbm, ⟨49, _⟩ => ⟨S_, .i32⟩
  | .hbm, ⟨50, _⟩ => ⟨S4096, .i32⟩
  | .hbm, ⟨51, _⟩ => ⟨S4096, .i32⟩
  | .hbm, ⟨52, _⟩ => ⟨S4096, .f32⟩
  | .hbm, ⟨53, _⟩ => ⟨S1x4096x1, .f32⟩
  | .hbm, ⟨54, _⟩ => ⟨S2x4096x256, .f32⟩
  | .hbm, ⟨55, _⟩ => ⟨S2x4096x256, .f32⟩
  | .hbm, ⟨56, _⟩ => ⟨S2x4096x1024, .f32⟩
  | .hbm, ⟨57, _⟩ => ⟨S2x4096x1024, .f32⟩
  | .hbm, ⟨58, _⟩ => ⟨S2x4096x1024, .bf16⟩
  | .hbm, ⟨59, _⟩ => ⟨S8192x4x256, .bf16⟩
  | .hbm, ⟨60, _⟩ => ⟨S4x256x8192, .f32⟩
  | .hbm, ⟨61, _⟩ => ⟨S8192x4x256, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S8192x1024, .f32⟩
  | .hbm, ⟨69, _⟩ => ⟨S8192x1024, .f32⟩
  | .hbm, ⟨70, _⟩ => ⟨S_, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .bf16⟩
  | _, _ => ⟨S8192x2176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_c_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_c_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_call0_v0 : Ref sig .tc := ⟨.hbm, 65, rfl⟩
abbrev main_call0_v1 : Ref sig .tc := ⟨.hbm, 66, rfl⟩
abbrev main_call0_cst : Ref sig .tc := ⟨.hbm, 67, rfl⟩
abbrev main_call0_v2 : Ref sig .tc := ⟨.hbm, 68, rfl⟩
abbrev main_call0_v3 : Ref sig .tc := ⟨.hbm, 69, rfl⟩
abbrev main_call0_cst_0 : Ref sig .tc := ⟨.hbm, 70, rfl⟩
abbrev main_call0_v4 : Ref sig .tc := ⟨.hbm, 71, rfl⟩
abbrev main_call0_v5 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== Proof.Bits.Tables.lean ====
/- The prefetched tables of the attention call of `Kernel`, the pipeline at them, and the facts of the grid's points
   that are decided from the tables' words. -/
module

public import proofs.«01_k».proof.Defs
public import proofs.«01_k».proof.Proof.Gen.Kernel
public import proofs.«01_k».proof.Proof.Gen.Kernel.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Affine
public import Idealize.ShloMosaic.Lib.Tactic
public import Idealize.ShloMosaic.PureOps.Ideal
public import Idealize.ShloMosaic.Init

@[expose] public section

set_option maxRecDepth 16384
set_option Elab.async false

noncomputable section

namespace Cert.Kernel.Own

open Cert.Kernel Cert.Kernel.Gen
open Idealize.ShloMosaic
open Idealize.ShloMosaic.TcCoe Idealize.ShloMosaic.Tactic
open Idealize.SL Idealize.SL.RA Idealize.SL.BI

/-- The query-tile table and the key-tile table, in scalar memory. -/
abbrev qiM : Memref sig .tc .smem S72 .i32 := Memref.whole main_c
abbrev kiM : Memref sig .tc .smem S72 .i32 := Memref.whole main_c_0
/-- The running maximum, the running sum and the running weighted sum. -/
abbrev mxM : Memref sig .tc .vmem S1x4096 .f32 := Memref.whole cc0_scratch0
abbrev smM : Memref sig .tc .vmem S1x4096 .f32 := Memref.whole cc0_scratch1
abbrev acM : Memref sig .tc .vmem S256x4096 .f32 := Memref.whole cc0_scratch2

/-- The words of the two tables. -/
abbrev qiT : S72.Idx → Elt Bits .i32 := fun i => lit0 (S72.rowMajor i)
abbrev kiT : S72.Idx → Elt Bits .i32 := fun i => lit1 (S72.rowMajor i)

/-- What the body reads of a table at a point. -/
abbrev qiW (i : grid0.Coords) (T : S72.Idx → Elt Bits .i32) : BitVec 32 :=
  View.readAt (Elt Bits) qiM.view (Rect.unit (s := S72) (k0_off1 i) S1.size (k0_off1_inb i)).toLoadRect T
    (Shape.Idx.first (numel1_S1.symm ▸ Nat.one_pos))
abbrev kiW (i : grid0.Coords) (T : S72.Idx → Elt Bits .i32) : BitVec 32 :=
  View.readAt (Elt Bits) kiM.view (Rect.unit (s := S72) (k0_off1 i) S1.size (k0_off1_inb i)).toLoadRect T
    (Shape.Idx.first (numel1_S1.symm ▸ Nat.one_pos))

/-- The last key tile of a query tile, as the body computes it (a quotient rounded down). -/
abbrev lastTile (a : BitVec 32) : BitVec 32 :=
  Scalar.select (Scalar.andi (Scalar.cmpi .ne
      (Scalar.subi (Scalar.extui (Scalar.cmpi .sgt (Scalar.subi (Scalar.addi (Scalar.muli a 256#32) 256#32) 1#32) 0#32))
        (Scalar.extui (Scalar.cmpi .slt (Scalar.subi (Scalar.addi (Scalar.muli a 256#32) 256#32) 1#32) 0#32)))
      (Scalar.subi (Scalar.extui (Scalar.cmpi .sgt 512#32 0#32)) (Scalar.extui (Scalar.cmpi .slt 512#32 0#32))))
    (Scalar.cmpi .ne (Scalar.remsi (Scalar.subi (Scalar.addi (Scalar.muli a 256#32) 256#32) 1#32) 512#32) 0#32))
    (Scalar.subi (Scalar.divsi (Scalar.subi (Scalar.addi (Scalar.muli a 256#32) 256#32) 1#32) 512#32) 1#32)
    (Scalar.divsi (Scalar.subi (Scalar.addi (Scalar.muli a 256#32) 256#32) 1#32) 512#32)
/-- The key tile is the first one; it lies before the last one; it is the last one. -/
abbrev IsFirst (b : BitVec 32) : Prop := Scalar.cmpi .ne (Scalar.extui (Scalar.cmpi .eq b 0#32)) 0#32 = 1#1
abbrev IsMid (a b : BitVec 32) : Prop := Scalar.cmpi .ne (Scalar.extui (Scalar.cmpi .slt b (lastTile a))) 0#32 = 1#1
abbrev IsLast (a b : BitVec 32) : Prop := k0_cond3 a b = 1#1

set_option backward.proofsInPublic true in
/-- The tables' contents. -/
def tabs : pre0.Contents (Elt Bits) := fun | ⟨0, _⟩ => qiT | ⟨1, _⟩ => kiT | ⟨_ + 2, h⟩ => absurd h (by simp)

/-! ## The blocks lie inside their arrays -/

theorem inb0 : ∀ i : grid0.Coords, ∀ a, (cc0_transform_0 k0_off1_inb numel1_S1 tabs i a + 1) * S16x256x384.size a ≤ S16x8192x384.size a := by decide +kernel
theorem inb1 : ∀ i : grid0.Coords, ∀ a, (cc0_transform_1 k0_off1_inb numel1_S1 tabs i a + 1) * S512x384.size a ≤ S8192x384.size a := by decide +kernel
theorem inb2 : ∀ i : grid0.Coords, ∀ a, (cc0_transform_2 k0_off1_inb numel1_S1 tabs i a + 1) * S256x512.size a ≤ S256x8192.size a := by decide +kernel
theorem inb3 : ∀ i : grid0.Coords, ∀ a, (cc0_transform_3 k0_off1_inb numel1_S1 tabs i a + 1) * S256x2048.size a ≤ S8192x2048.size a := by decide +kernel
theorem inb5 : ∀ i : grid0.Coords, ∀ a, (cc0_transform_5 k0_off1_inb numel1_S1 tabs i a + 1) * S256x2048.size a ≤ S8192x2048.size a := by decide +kernel

theorem tabs_ok : ok0 (F := Bits) tabs :=
  ⟨fun i => ⟨inb0 i, .inr (Affine.block_words_dvd (s := S16x8192x384) (p := EltTy.packing .bf16) (by decide) (by decide))⟩,
   fun i => ⟨inb1 i, .inr (Affine.block_words_dvd (s := S8192x384) (p := EltTy.packing .bf16) (by decide) (by decide))⟩,
   fun i => ⟨inb2 i, .inr (Affine.block_words_dvd (s := S256x8192) (p := EltTy.packing .bf16) (by decide) (by decide))⟩,
   fun i => ⟨inb3 i, .inr (Affine.block_words_dvd (s := S8192x2048) (p := EltTy.packing .bf16) (by decide) (by decide))⟩,
   fun i => ⟨inb5 i, .inr (Affine.block_words_dvd (s := S8192x2048) (p := EltTy.packing .bf16) (by decide) (by decide))⟩⟩

/-- The tables as the pipeline takes them, and the pipeline at them. -/
def adm : (pcfg0 (F := Bits)).Adm := ⟨tabs, tabs_ok⟩
abbrev pl : Pipeline.Cfg sig Λ₀ := cfg0 (F := Bits) adm
abbrev pls : Fin 1 → Pipeline.Cfg sig Λ₀ := Pipeline.pin (pcfgs (F := Bits)) fun _ => adm

/-- A point's coordinates. -/
abbrev pt (t : Fin pl.N) : pl.grid.Coords := pl.grid.coords t
/-- The two words at a point. -/
abbrev qa (t : Fin pl.N) : BitVec 32 := qiW (pt t) qiT
abbrev kb (t : Fin pl.N) : BitVec 32 := kiW (pt t) kiT

/-- Each window's staging memref at a point, and that it is a whole buffer. -/
abbrev ms0 (t : Fin pl.N) : Memref sig .tc .vmem S16x256x384 .bf16 := spec0_0.stage (pl.slots t (0 : Fin 6))
abbrev hs0 (t : Fin pl.N) : (ms0 t).IsWhole := hstage0_0 ((pl.slots t (0 : Fin 6)).cast nbuf0_0)
abbrev ms1 (t : Fin pl.N) : Memref sig .tc .vmem S512x384 .bf16 := spec0_1.stage (pl.slots t (1 : Fin 6))
abbrev hs1 (t : Fin pl.N) : (ms1 t).IsWhole := hstage0_1 ((pl.slots t (1 : Fin 6)).cast nbuf0_1)
abbrev ms2 (t : Fin pl.N) : Memref sig .tc .vmem S256x512 .bf16 := spec0_2.stage (pl.slots t (2 : Fin 6))
abbrev hs2 (t : Fin pl.N) : (ms2 t).IsWhole := hstage0_2 ((pl.slots t (2 : Fin 6)).cast nbuf0_2)
abbrev ms3 (t : Fin pl.N) : Memref sig .tc .vmem S256x2048 .bf16 := spec0_3.stage (pl.slots t (3 : Fin 6))
abbrev hs3 (t : Fin pl.N) : (ms3 t).IsWhole := hstage0_3 ((pl.slots t (3 : Fin 6)).cast nbuf0_3)
abbrev ms4 (t : Fin pl.N) : Memref sig .tc .vmem S16x256x128 .bf16 := spec0_4.stage (pl.slots t (4 : Fin 6))
abbrev hs4 (t : Fin pl.N) : (ms4 t).IsWhole := hstage0_4 ((pl.slots t (4 : Fin 6)).cast nbuf0_4)
abbrev ms5 (t : Fin pl.N) : Memref sig .tc .vmem S256x2048 .bf16 := spec0_5.stage (pl.slots t (5 : Fin 6))
abbrev hs5 (t : Fin pl.N) : (ms5 t).IsWhole := hstage0_5 ((pl.slots t (5 : Fin 6)).cast nbuf0_5)

/-! ## What holds at each point -/

/-- Before the last key tile the output is left alone and not written back; at the last it is written back; the
    first point starts a query tile. -/
abbrev PointFacts (t : Fin pl.N) : Prop :=
  (IsMid (qa t) (kb t) → ¬ IsLast (qa t) (kb t) ∧ pl.idle (5 : Fin 6) (pt t) = true ∧ (pl.win (5 : Fin 6)).flush t = false)
  ∧ (¬ IsMid (qa t) (kb t) → IsLast (qa t) (kb t) ∧ pl.idle (5 : Fin 6) (pt t) = false ∧ (pl.win (5 : Fin 6)).flush t = true)
  ∧ (t.val = 0 → IsFirst (kb t))

theorem facts_a : ∀ t : Fin pl.N, 0 ≤ t.val → t.val < 24 → PointFacts t := by decide +kernel
theorem facts_b : ∀ t : Fin pl.N, 24 ≤ t.val → t.val < 48 → PointFacts t := by decide +kernel
theorem facts_c : ∀ t : Fin pl.N, 48 ≤ t.val → t.val < 72 → PointFacts t := by decide +kernel
theorem facts_d : ∀ t : Fin pl.N, 72 ≤ t.val → t.val < 96 → PointFacts t := by decide +kernel
theorem facts_e : ∀ t : Fin pl.N, 96 ≤ t.val → t.val < 120 → PointFacts t := by decide +kernel
theorem facts_f : ∀ t : Fin pl.N, 120 ≤ t.val → t.val < 144 → PointFacts t := by decide +kernel

theorem facts_at (t : Fin pl.N) : PointFacts t := by
  rcases Nat.lt_or_ge t.val 24 with h | h1; · exact facts_a t (Nat.zero_le _) h
  rcases Nat.lt_or_ge t.val 48 with h | h2; · exact facts_b t h1 h
  rcases Nat.lt_or_ge t.val 72 with h | h3; · exact facts_c t h2 h
  rcases Nat.lt_or_ge t.val 96 with h | h4; · exact facts_d t h3 h
  rcases Nat.lt_or_ge t.val 120 with h | h5; · exact facts_e t h4 h
  exact facts_f t h5 t.isLt

end Cert.Kernel.Own

end
-- ==== Proof.Bits.Runs.lean ====
/- The attention body of `Kernel` run at a point: what it leaves in its scratch and its output, as functions of what
   it finds. -/
module

public import proofs.«01_k».proof.Proof.Bits.Tables
public import proofs.«01_k».proof.Proof.Gen.Kernel.Skeleton
public import Idealize.ShloMosaic.Lib.Ring
public import Idealize.ShloMosaic.Lib.Exec
public import Idealize.ShloMosaic.Lib.VecWindow
public import Idealize.ShloMosaic.Adequacy

@[expose] public section

set_option maxRecDepth 16384
set_option Elab.async false

noncomputable section

namespace Cert.Kernel.Own

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Bits) ℕ (UR sig nD τ) ℕ

/-! ## What the body computes -/

section Values

variable (a b : BitVec 32) (q : S16x256x384.Idx → Elt Bits .bf16) (k : S512x384.Idx → Elt Bits .bf16) (v : S256x512.Idx → Elt Bits .bf16)
  (m l : S1x4096.Idx → Elt Bits .f32) (acc : S256x4096.Idx → Elt Bits .f32)

/-- A query tile's scratch at its start. -/
abbrev initM : S1x4096.Idx → Elt Bits .f32 := k0_pay1 (F := Bits)
abbrev initL : S1x4096.Idx → Elt Bits .f32 := k0_pay2 (F := Bits)
abbrev initA : S256x4096.Idx → Elt Bits .f32 := k0_pay3 (F := Bits)
/-- One key tile that lies wholly before the queries: the new maximum, sum and weighted sum. -/
abbrev midM : S1x4096.Idx → Elt Bits .f32 := k0_pay11 q k m
abbrev midL : S1x4096.Idx → Elt Bits .f32 := k0_pay9 q k m l
abbrev midA : S256x4096.Idx → Elt Bits .f32 := k0_pay10 q k m acc v
/-- The last key tile, masked. -/
abbrev lastM : S1x4096.Idx → Elt Bits .f32 := k0_pay19 (k0_pay13 a b q k m)
abbrev lastL : S1x4096.Idx → Elt Bits .f32 := k0_pay16 a b q k m l
abbrev lastA : S256x4096.Idx → Elt Bits .f32 := k0_pay18 (k0_pay15 a b q k m) (k0_pay17 a b q k m acc) v

end Values

/-- One head's slice of the result: the head's columns of the weighted average, turned and multiplied by the head's
    value weights, gated. -/
def headV (o : FVec Bits S256x4096 .f32) (off : Fin 2 → ℕ) (hs : S256x4096.Slices off S256x256) (w : Vec Bits S1x256x128 .bf16) (z : Vec Bits S256x128 .bf16) :
    FVec Bits S256x128 .bf16 :=
  have g : FVec Bits S256x128 .f32 := extf .f32 (shapeCast S256x128 z shapeCasts_S256x128_S256x128) bitsLt_bf16_f32
  truncf .bf16
    (mulf
      (matmul dot_S256x256_S256x128_S256x128_1_0_0_1_n_n none
        (truncf .bf16 (transpose S256x256 [1, 0] (extractStridedSlice S256x256 off o hs) transposes_S256x256_p1_0_S256x256) bitsLt_bf16_f32)
        (shapeCast S256x128 w shapeCasts_S1x256x128_S256x128 : FVec Bits S256x128 .bf16) (constant S256x128 .f32 0x00000000#32))
      (mulf g
        (divf (broadcast S256x128 (Scalar.ofBits .f32 0x3F800000#32))
          (addf (broadcast S256x128 (Scalar.ofBits .f32 0x3F800000#32))
            (exp (subf (broadcast S256x128 (Scalar.ofBits .f32 0x00000000#32)) g))))))
    bitsLt_bf16_f32

/-- The stores of the result, last first. -/
def outPieces (o : FVec Bits S256x4096 .f32) (z : S256x2048.Idx → Elt Bits .bf16) (w : S16x256x128.Idx → Elt Bits .bf16) :
    List (View.Piece (Elt Bits) S256x2048 .bf16) :=
  [⟨Rect.unit (s := S256x2048) ![0, 1920] S256x128.size inb_S256x2048_S256x128_0_1920, headV o ![0, 3840] slices_S256x4096_o0_3840_S256x256
      (View.ld (Val := Elt Bits) (e' := .bf16) w (Rect.unit (s := S16x256x128) ![15, 0, 0] S1x256x128.size inb_S16x256x128_S1x256x128_15_0_0))
      (View.ld (Val := Elt Bits) (e' := .bf16) z (Rect.unit (s := S256x2048) ![0, 1920] S256x128.size inb_S256x2048_S256x128_0_1920))⟩,
   ⟨Rect.unit (s := S256x2048) ![0, 1792] S256x128.size inb_S256x2048_S256x128_0_1792, headV o ![0, 3584] slices_S256x4096_o0_3584_S256x256
      (View.ld (Val := Elt Bits) (e' := .bf16) w (Rect.unit (s := S16x256x128) ![14, 0, 0] S1x256x128.size inb_S16x256x128_S1x256x128_14_0_0))
      (View.ld (Val := Elt Bits) (e' := .bf16) z (Rect.unit (s := S256x2048) ![0, 1792] S256x128.size inb_S256x2048_S256x128_0_1792))⟩,
   ⟨Rect.unit (s := S256x2048) ![0, 1664] S256x128.size inb_S256x2048_S256x128_0_1664, headV o ![0, 3328] slices_S256x4096_o0_3328_S256x256
      (View.ld (Val := Elt Bits) (e' := .bf16) w (Rect.unit (s := S16x256x128) ![13, 0, 0] S1x256x128.size inb_S16x256x128_S1x256x128_13_0_0))
      (View.ld (Val := Elt Bits) (e' := .bf16) z (Rect.unit (s := S256x2048) ![0, 1664] S256x128.size inb_S256x2048_S256x128_0_1664))⟩,
   ⟨Rect.unit (s := S256x2048) ![0, 1536] S256x128.size inb_S256x2048_S256x128_0_1536, headV o ![0, 3072] slices_S256x4096_o0_3072_S256x256
      (View.ld (Val := Elt Bits) (e' := .bf16) w (Rect.unit (s := S16x256x128) ![12, 0, 0] S1x256x128.size inb_S16x256x128_S1x256x128_12_0_0))
      (View.ld (Val := Elt Bits) (e' := .bf16) z (Rect.unit (s := S256x2048) ![0, 1536] S256x128.size inb_S256x2048_S256x128_0_1536))⟩,
   ⟨Rect.unit (s := S256x2048) ![0, 1408] S256x128.size inb_S256x2048_S256x128_0_1408, headV o ![0, 2816] slices_S256x4096_o0_2816_S256x256
      (View.ld (Val := Elt Bits) (e' := .bf16) w (Rect.unit (s := S16x256x128) ![11, 0, 0] S1x256x128.size inb_S16x256x128_S1x256x128_11_0_0))
      (View.ld (Val := Elt Bits) (e' := .bf16) z (Rect.unit (s := S256x2048) ![0, 1408] S256x128.size inb_S256x2048_S256x128_0_1408))⟩,
   ⟨Rect.unit (s := S256x2048) ![0, 1280] S256x128.size inb_S256x2048_S256x128_0_1280, headV o ![0, 2560] slices_S256x4096_o0_2560_S256x256
      (View.ld (Val := Elt Bits) (e' := .bf16) w (Rect.unit (s := S16x256x128) ![10, 0, 0] S1x256x128.size inb_S16x256x128_S1x256x128_10_0_0))
      (View.ld (Val := Elt Bits) (e' := .bf16) z (Rect.unit (s := S256x2048) ![0, 1280] S256x128.size inb_S256x2048_S256x128_0_1280))⟩,
   ⟨Rect.unit (s := S256x2048) ![0, 1152] S256x128.size inb_S256x2048_S256x128_0_1152, headV o ![0, 2304] slices_S256x4096_o0_2304_S256x256
      (View.ld (Val := Elt Bits) (e' := .bf16) w (Rect.unit (s := S16x256x128) ![9, 0, 0] S1x256x128.size inb_S16x256x128_S1x256x128_9_0_0))
      (View.ld (Val := Elt Bits) (e' := .bf16) z (Rect.unit (s := S256x2048) ![0, 1152] S256x128.size inb_S256x2048_S256x128_0_1152))⟩,
   ⟨Rect.unit (s := S256x2048) ![0, 1024] S256x128.size inb_S256x2048_S256x128_0_1024, headV o ![0, 2048] slices_S256x4096_o0_2048_S256x256
      (View.ld (Val := Elt Bits) (e' := .bf16) w (Rect.unit (s := S16x256x128) ![8, 0, 0] S1x256x128.size inb_S16x256x128_S1x256x128_8_0_0))
      (View.ld (Val := Elt Bits) (e' := .bf16) z (Rect.unit (s := S256x2048) ![0, 1024] S256x128.size inb_S256x2048_S256x128_0_1024))⟩,
   ⟨Rect.unit (s := S256x2048) ![0, 896] S256x128.size inb_S256x2048_S256x128_0_896, headV o ![0, 1792] slices_S256x4096_o0_1792_S256x256
      (View.ld (Val := Elt Bits) (e' := .bf16) w (Rect.unit (s := S16x256x128) ![7, 0, 0] S1x256x128.size inb_S16x256x128_S1x256x128_7_0_0))
      (View.ld (Val := Elt Bits) (e' := .bf16) z (Rect.unit (s := S256x2048) ![0, 896] S256x128.size inb_S256x2048_S256x128_0_896))⟩,
   ⟨Rect.unit (s := S256x2048) ![0, 768] S256x128.size inb_S256x2048_S256x128_0_768, headV o ![0, 1536] slices_S256x4096_o0_1536_S256x256
      (View.ld (Val := Elt Bits) (e' := .bf16) w (Rect.unit (s := S16x256x128) ![6, 0, 0] S1x256x128.size inb_S16x256x128_S1x256x128_6_0_0))
      (View.ld (Val := Elt Bits) (e' := .bf16) z (Rect.unit (s := S256x2048) ![0, 768] S256x128.size inb_S256x2048_S256x128_0_768))⟩,
   ⟨Rect.unit (s := S256x2048) ![0, 640] S256x128.size inb_S256x2048_S256x128_0_640, headV o ![0, 1280] slices_S256x4096_o0_1280_S256x256
      (View.ld (Val := Elt Bits) (e' := .bf16) w (Rect.unit (s := S16x256x128) ![5, 0, 0] S1x256x128.size inb_S16x256x128_S1x256x128_5_0_0))
      (View.ld (Val := Elt Bits) (e' := .bf16) z (Rect.unit (s := S256x2048) ![0, 640] S256x128.size inb_S256x2048_S256x128_0_640))⟩,
   ⟨Rect.unit (s := S256x2048) ![0, 512] S256x128.size inb_S256x2048_S256x128_0_512, headV o ![0, 1024] slices_S256x4096_o0_1024_S256x256
      (View.ld (Val := Elt Bits) (e' := .bf16) w (Rect.unit (s := S16x256x128) ![4, 0, 0] S1x256x128.size inb_S16x256x128_S1x256x128_4_0_0))
      (View.ld (Val := Elt Bits) (e' := .bf16) z (Rect.unit (s := S256x2048) ![0, 512] S256x128.size inb_S256x2048_S256x128_0_512))⟩,
   ⟨Rect.unit (s := S256x2048) ![0, 384] S256x128.size inb_S256x2048_S256x128_0_384, headV o ![0, 768] slices_S256x4096_o0_768_S256x256
      (View.ld (Val := Elt Bits) (e' := .bf16) w (Rect.unit (s := S16x256x128) ![3, 0, 0] S1x256x128.size inb_S16x256x128_S1x256x128_3_0_0))
      (View.ld (Val := Elt Bits) (e' := .bf16) z (Rect.unit (s := S256x2048) ![0, 384] S256x128.size inb_S256x2048_S256x128_0_384))⟩,
   ⟨Rect.unit (s := S256x2048) ![0, 256] S256x128.size inb_S256x2048_S256x128_0_256, headV o ![0, 512] slices_S256x4096_o0_512_S256x256
      (View.ld (Val := Elt Bits) (e' := .bf16) w (Rect.unit (s := S16x256x128) ![2, 0, 0] S1x256x128.size inb_S16x256x128_S1x256x128_2_0_0))
      (View.ld (Val := Elt Bits) (e' := .bf16) z (Rect.unit (s := S256x2048) ![0, 256] S256x128.size inb_S256x2048_S256x128_0_256))⟩,
   ⟨Rect.unit (s := S256x2048) ![0, 128] S256x128.size inb_S256x2048_S256x128_0_128, headV o ![0, 256] slices_S256x4096_o0_256_S256x256
      (View.ld (Val := Elt Bits) (e' := .bf16) w (Rect.unit (s := S16x256x128) ![1, 0, 0] S1x256x128.size inb_S16x256x128_S1x256x128_1_0_0))
      (View.ld (Val := Elt Bits) (e' := .bf16) z (Rect.unit (s := S256x2048) ![0, 128] S256x128.size inb_S256x2048_S256x128_0_128))⟩,
   ⟨Rect.unit (s := S256x2048) ![0, 0] S256x128.size inb_S256x2048_S256x128_0_0, headV o ![0, 0] slices_S256x4096_o0_0_S256x256
      (View.ld (Val := Elt Bits) (e' := .bf16) w (Rect.unit (s := S16x256x128) ![0, 0, 0] S1x256x128.size inb_S16x256x128_S1x256x128_0_0_0))
      (View.ld (Val := Elt Bits) (e' := .bf16) z (Rect.unit (s := S256x2048) ![0, 0] S256x128.size inb_S256x2048_S256x128_0_0))⟩]

/-- What the last key tile writes to the output block. -/
def outV (acc : S256x4096.Idx → Elt Bits .f32) (l : S1x4096.Idx → Elt Bits .f32) (z : S256x2048.Idx → Elt Bits .bf16)
    (w : S16x256x128.Idx → Elt Bits .bf16) : S256x2048.Idx → Elt Bits .bf16 := View.canon (outPieces (k0_pay20 acc l) z w)

/-- A load of a buffer at known contents reads the contents at the loaded places. -/
theorem readAt_ld {κ : Kind} {sp : Space} {s : Shape} {e : EltTy} (v : View sig κ sp s e) (x : s.Idx → Elt Bits e) (r : Rect s) :
    v.readAt (Elt Bits) r.toLoadRect (v.rep x) = View.ld x r := by
  exact View.readAt_rep _ _ _

/-! ## The body at a point -/

set_option backward.proofsInPublic true in
set_option maxHeartbeats 8000000 in
/-- The body at a point where the key tile is the first and not the last. -/
theorem run_firstMid (c : Dev nD) (i : grid0.Coords)
    (q : Memref sig .tc .vmem S16x256x384 .bf16) (hq : q.IsWhole) (k : Memref sig .tc .vmem S512x384 .bf16) (hk : k.IsWhole)
    (v : Memref sig .tc .vmem S256x512 .bf16) (hv : v.IsWhole) (z : Memref sig .tc .vmem S256x2048 .bf16) (hz : z.IsWhole)
    (w : Memref sig .tc .vmem S16x256x128 .bf16) (hw : w.IsWhole) (o : Memref sig .tc .vmem S256x2048 .bf16) (ho : o.IsWhole)
    (T0 T1 : S72.Idx → Elt Bits .i32)
    (x0 : S16x256x384.Idx → Elt Bits .bf16) (x1 : S512x384.Idx → Elt Bits .bf16) (x2 : S256x512.Idx → Elt Bits .bf16)
    (x3 : S256x2048.Idx → Elt Bits .bf16) (x4 : S16x256x128.Idx → Elt Bits .bf16)
    (xm xl : S1x4096.Idx → Elt Bits .f32) (xa : S256x4096.Idx → Elt Bits .f32) (d : S256x2048.Idx → Elt Bits .bf16)
    (h0 : IsFirst (kiW i T1)) (h1 : IsMid (qiW i T0) (kiW i T1)) (h2 : ¬ IsLast (qiW i T0) (kiW i T1)) (K : PUnit → sProp 𝕄) :
    iprop((q.view.loc (c : Thread nD τ) ↦[q.view.set]{fullShare} q.view.rep x0)
      ∗ (k.view.loc (c : Thread nD τ) ↦[k.view.set]{fullShare} k.view.rep x1)
      ∗ (v.view.loc (c : Thread nD τ) ↦[v.view.set]{fullShare} v.view.rep x2)
      ∗ (z.view.loc (c : Thread nD τ) ↦[z.view.set]{fullShare} z.view.rep x3)
      ∗ (w.view.loc (c : Thread nD τ) ↦[w.view.set]{fullShare} w.view.rep x4)
      ∗ (qiM.view.loc (c : Thread nD τ) ↦{fullShare.right} T0) ∗ (kiM.view.loc (c : Thread nD τ) ↦{fullShare.right} T1)
      ∗ owns (c : Thread nD τ) o fullShare d
      ∗ (mxM.view.loc (c : Thread nD τ) ↦[mxM.view.set]{fullShare} mxM.view.rep xm) ∗ (smM.view.loc (c : Thread nD τ) ↦[smM.view.set]{fullShare} smM.view.rep xl) ∗ (acM.view.loc (c : Thread nD τ) ↦[acM.view.set]{fullShare} acM.view.rep xa)
      ∗ (iprop((q.view.loc (c : Thread nD τ) ↦[q.view.set]{fullShare} q.view.rep x0)
          ∗ (k.view.loc (c : Thread nD τ) ↦[k.view.set]{fullShare} k.view.rep x1)
          ∗ (v.view.loc (c : Thread nD τ) ↦[v.view.set]{fullShare} v.view.rep x2)
          ∗ (z.view.loc (c : Thread nD τ) ↦[z.view.set]{fullShare} z.view.rep x3)
          ∗ (w.view.loc (c : Thread nD τ) ↦[w.view.set]{fullShare} w.view.rep x4)
          ∗ (qiM.view.loc (c : Thread nD τ) ↦{fullShare.right} T0) ∗ (kiM.view.loc (c : Thread nD τ) ↦{fullShare.right} T1)
          ∗ owns (c : Thread nD τ) o fullShare d
          ∗ owns (c : Thread nD τ) mxM fullShare (midM x0 x1 (initM)) ∗ owns (c : Thread nD τ) smM fullShare (midL x0 x1 (initM) (initL))
          ∗ owns (c : Thread nD τ) acM fullShare (midA x0 x1 x2 (initM) (initA))) -∗ K ⟨⟩))
    ⊢ wp frame (wpE (defs₀ (F := Bits)) Variants.none c none) Set.univ
        (cc0_mla_prompt i qiM (Memref.isWhole_whole _) kiM (Memref.isWhole_whole _) q hq k hk v hv z hz w hw o ho
          mxM (Memref.isWhole_whole _) smM (Memref.isWhole_whole _) acM (Memref.isWhole_whole _)) K := by
  rw [cc0_mla_prompt_eq_skeleton]; unfold cc0_mla_prompt_skel
  unfold owns
  iintro ⟨H0, H1, H2, H3, H4, HT0, HT1, HO, HM, HL, HA, Hk⟩
  have hS0 : mxM.IsWhole := Memref.isWhole_whole _
  have hS1 : smM.IsWhole := Memref.isWhole_whole _
  have hS2 : acM.IsWhole := Memref.isWhole_whole _
  have hT0 : qiM.IsWhole := Memref.isWhole_whole _
  have hT1 : kiM.IsWhole := Memref.isWhole_whole _
  sl_exec! (disch := first | (guard_target = Scalar.cmpi = _; exact h0) | (guard_target = Scalar.cmpi = _; exact h1) | (guard_target = ¬(Scalar.cmpi = _); exact h0) | (guard_target = ¬(Scalar.cmpi = _); exact h1) | (guard_target = k0_cond3 _ _ = _; exact h2) | (guard_target = ¬(k0_cond3 _ _ = _); exact h2))
  sl_step
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HO]; · iexact HO
  isplitl [HM]
  · iexists _; isplitr; swap
    · iexact HM
    · ipureintro; sl_unfold_words; rw [View.read_writes_full]; (repeat (first | rw [View.readAt_rep_full] | rw [View.readCov_full] | rw [View.readAt_writes_full])); first | done | with_reducible rfl | rfl
  isplitl [HL]
  · iexists _; isplitr; swap
    · iexact HL
    · ipureintro; sl_unfold_words; rw [View.read_writes_full]; (repeat (first | rw [View.readAt_rep_full] | rw [View.readCov_full] | rw [View.readAt_writes_full])); first | done | with_reducible rfl | rfl
  iexists _; isplitr; swap
  · iexact HA
  · ipureintro; sl_unfold_words; rw [View.read_writes_full]; (repeat (first | rw [View.readAt_rep_full] | rw [View.readCov_full] | rw [View.readAt_writes_full])); first | done | with_reducible rfl | rfl

set_option backward.proofsInPublic true in
set_option maxHeartbeats 8000000 in
/-- The body at a point where the key tile is not the first and not the last. -/
theorem run_nextMid (c : Dev nD) (i : grid0.Coords)
    (q : Memref sig .tc .vmem S16x256x384 .bf16) (hq : q.IsWhole) (k : Memref sig .tc .vmem S512x384 .bf16) (hk : k.IsWhole)
    (v : Memref sig .tc .vmem S256x512 .bf16) (hv : v.IsWhole) (z : Memref sig .tc .vmem S256x2048 .bf16) (hz : z.IsWhole)
    (w : Memref sig .tc .vmem S16x256x128 .bf16) (hw : w.IsWhole) (o : Memref sig .tc .vmem S256x2048 .bf16) (ho : o.IsWhole)
    (T0 T1 : S72.Idx → Elt Bits .i32)
    (x0 : S16x256x384.Idx → Elt Bits .bf16) (x1 : S512x384.Idx → Elt Bits .bf16) (x2 : S256x512.Idx → Elt Bits .bf16)
    (x3 : S256x2048.Idx → Elt Bits .bf16) (x4 : S16x256x128.Idx → Elt Bits .bf16)
    (xm xl : S1x4096.Idx → Elt Bits .f32) (xa : S256x4096.Idx → Elt Bits .f32) (d : S256x2048.Idx → Elt Bits .bf16)
    (h0 : ¬ IsFirst (kiW i T1)) (h1 : IsMid (qiW i T0) (kiW i T1)) (h2 : ¬ IsLast (qiW i T0) (kiW i T1)) (K : PUnit → sProp 𝕄) :
    iprop((q.view.loc (c : Thread nD τ) ↦[q.view.set]{fullShare} q.view.rep x0)
      ∗ (k.view.loc (c : Thread nD τ) ↦[k.view.set]{fullShare} k.view.rep x1)
      ∗ (v.view.loc (c : Thread nD τ) ↦[v.view.set]{fullShare} v.view.rep x2)
      ∗ (z.view.loc (c : Thread nD τ) ↦[z.view.set]{fullShare} z.view.rep x3)
      ∗ (w.view.loc (c : Thread nD τ) ↦[w.view.set]{fullShare} w.view.rep x4)
      ∗ (qiM.view.loc (c : Thread nD τ) ↦{fullShare.right} T0) ∗ (kiM.view.loc (c : Thread nD τ) ↦{fullShare.right} T1)
      ∗ owns (c : Thread nD τ) o fullShare d
      ∗ (mxM.view.loc (c : Thread nD τ) ↦[mxM.view.set]{fullShare} mxM.view.rep xm) ∗ (smM.view.loc (c : Thread nD τ) ↦[smM.view.set]{fullShare} smM.view.rep xl) ∗ (acM.view.loc (c : Thread nD τ) ↦[acM.view.set]{fullShare} acM.view.rep xa)
      ∗ (iprop((q.view.loc (c : Thread nD τ) ↦[q.view.set]{fullShare} q.view.rep x0)
          ∗ (k.view.loc (c : Thread nD τ) ↦[k.view.set]{fullShare} k.view.rep x1)
          ∗ (v.view.loc (c : Thread nD τ) ↦[v.view.set]{fullShare} v.view.rep x2)
          ∗ (z.view.loc (c : Thread nD τ) ↦[z.view.set]{fullShare} z.view.rep x3)
          ∗ (w.view.loc (c : Thread nD τ) ↦[w.view.set]{fullShare} w.view.rep x4)
          ∗ (qiM.view.loc (c : Thread nD τ) ↦{fullShare.right} T0) ∗ (kiM.view.loc (c : Thread nD τ) ↦{fullShare.right} T1)
          ∗ owns (c : Thread nD τ) o fullShare d
          ∗ owns (c : Thread nD τ) mxM fullShare (midM x0 x1 xm) ∗ owns (c : Thread nD τ) smM fullShare (midL x0 x1 xm xl)
          ∗ owns (c : Thread nD τ) acM fullShare (midA x0 x1 x2 xm xa)) -∗ K ⟨⟩))
    ⊢ wp frame (wpE (defs₀ (F := Bits)) Variants.none c none) Set.univ
        (cc0_mla_prompt i qiM (Memref.isWhole_whole _) kiM (Memref.isWhole_whole _) q hq k hk v hv z hz w hw o ho
          mxM (Memref.isWhole_whole _) smM (Memref.isWhole_whole _) acM (Memref.isWhole_whole _)) K := by
  rw [cc0_mla_prompt_eq_skeleton]; unfold cc0_mla_prompt_skel
  unfold owns
  iintro ⟨H0, H1, H2, H3, H4, HT0, HT1, HO, HM, HL, HA, Hk⟩
  have hS0 : mxM.IsWhole := Memref.isWhole_whole _
  have hS1 : smM.IsWhole := Memref.isWhole_whole _
  have hS2 : acM.IsWhole := Memref.isWhole_whole _
  have hT0 : qiM.IsWhole := Memref.isWhole_whole _
  have hT1 : kiM.IsWhole := Memref.isWhole_whole _
  sl_exec! (disch := first | (guard_target = Scalar.cmpi = _; exact h0) | (guard_target = Scalar.cmpi = _; exact h1) | (guard_target = ¬(Scalar.cmpi = _); exact h0) | (guard_target = ¬(Scalar.cmpi = _); exact h1) | (guard_target = k0_cond3 _ _ = _; exact h2) | (guard_target = ¬(k0_cond3 _ _ = _); exact h2))
  sl_step
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HO]; · iexact HO
  isplitl [HM]
  · iexists _; isplitr; swap
    · iexact HM
    · ipureintro; sl_unfold_words; rw [View.read_writes_full]; (repeat (first | rw [View.readAt_rep_full] | rw [View.readCov_full] | rw [View.readAt_writes_full])); first | done | with_reducible rfl | rfl
  isplitl [HL]
  · iexists _; isplitr; swap
    · iexact HL
    · ipureintro; sl_unfold_words; rw [View.read_writes_full]; (repeat (first | rw [View.readAt_rep_full] | rw [View.readCov_full] | rw [View.readAt_writes_full])); first | done | with_reducible rfl | rfl
  iexists _; isplitr; swap
  · iexact HA
  · ipureintro; sl_unfold_words; rw [View.read_writes_full]; (repeat (first | rw [View.readAt_rep_full] | rw [View.readCov_full] | rw [View.readAt_writes_full])); first | done | with_reducible rfl | rfl

set_option backward.proofsInPublic true in
set_option maxHeartbeats 8000000 in
/-- The body at a point where the key tile is the first and the last. -/
theorem run_firstLast (c : Dev nD) (i : grid0.Coords)
    (q : Memref sig .tc .vmem S16x256x384 .bf16) (hq : q.IsWhole) (k : Memref sig .tc .vmem S512x384 .bf16) (hk : k.IsWhole)
    (v : Memref sig .tc .vmem S256x512 .bf16) (hv : v.IsWhole) (z : Memref sig .tc .vmem S256x2048 .bf16) (hz : z.IsWhole)
    (w : Memref sig .tc .vmem S16x256x128 .bf16) (hw : w.IsWhole) (o : Memref sig .tc .vmem S256x2048 .bf16) (ho : o.IsWhole)
    (T0 T1 : S72.Idx → Elt Bits .i32)
    (x0 : S16x256x384.Idx → Elt Bits .bf16) (x1 : S512x384.Idx → Elt Bits .bf16) (x2 : S256x512.Idx → Elt Bits .bf16)
    (x3 : S256x2048.Idx → Elt Bits .bf16) (x4 : S16x256x128.Idx → Elt Bits .bf16)
    (xm xl : S1x4096.Idx → Elt Bits .f32) (xa : S256x4096.Idx → Elt Bits .f32)
    (h0 : IsFirst (kiW i T1)) (h1 : ¬ IsMid (qiW i T0) (kiW i T1)) (h2 : IsLast (qiW i T0) (kiW i T1)) (K : PUnit → sProp 𝕄) :
    iprop((q.view.loc (c : Thread nD τ) ↦[q.view.set]{fullShare} q.view.rep x0)
      ∗ (k.view.loc (c : Thread nD τ) ↦[k.view.set]{fullShare} k.view.rep x1)
      ∗ (v.view.loc (c : Thread nD τ) ↦[v.view.set]{fullShare} v.view.rep x2)
      ∗ (z.view.loc (c : Thread nD τ) ↦[z.view.set]{fullShare} z.view.rep x3)
      ∗ (w.view.loc (c : Thread nD τ) ↦[w.view.set]{fullShare} w.view.rep x4)
      ∗ (qiM.view.loc (c : Thread nD τ) ↦{fullShare.right} T0) ∗ (kiM.view.loc (c : Thread nD τ) ↦{fullShare.right} T1)
      ∗ (∃ d, owns (c : Thread nD τ) o fullShare d)
      ∗ (mxM.view.loc (c : Thread nD τ) ↦[mxM.view.set]{fullShare} mxM.view.rep xm) ∗ (smM.view.loc (c : Thread nD τ) ↦[smM.view.set]{fullShare} smM.view.rep xl) ∗ (acM.view.loc (c : Thread nD τ) ↦[acM.view.set]{fullShare} acM.view.rep xa)
      ∗ (iprop((q.view.loc (c : Thread nD τ) ↦[q.view.set]{fullShare} q.view.rep x0)
          ∗ (k.view.loc (c : Thread nD τ) ↦[k.view.set]{fullShare} k.view.rep x1)
          ∗ (v.view.loc (c : Thread nD τ) ↦[v.view.set]{fullShare} v.view.rep x2)
          ∗ (z.view.loc (c : Thread nD τ) ↦[z.view.set]{fullShare} z.view.rep x3)
          ∗ (w.view.loc (c : Thread nD τ) ↦[w.view.set]{fullShare} w.view.rep x4)
          ∗ (qiM.view.loc (c : Thread nD τ) ↦{fullShare.right} T0) ∗ (kiM.view.loc (c : Thread nD τ) ↦{fullShare.right} T1)
          ∗ owns (c : Thread nD τ) o fullShare (outV (lastA (qiW i T0) (kiW i T1) x0 x1 x2 (initM) (initA)) (lastL (qiW i T0) (kiW i T1) x0 x1 (initM) (initL)) x3 x4)
          ∗ owns (c : Thread nD τ) mxM fullShare (lastM (qiW i T0) (kiW i T1) x0 x1 (initM)) ∗ owns (c : Thread nD τ) smM fullShare (lastL (qiW i T0) (kiW i T1) x0 x1 (initM) (initL))
          ∗ owns (c : Thread nD τ) acM fullShare (lastA (qiW i T0) (kiW i T1) x0 x1 x2 (initM) (initA))) -∗ K ⟨⟩))
    ⊢ wp frame (wpE (defs₀ (F := Bits)) Variants.none c none) Set.univ
        (cc0_mla_prompt i qiM (Memref.isWhole_whole _) kiM (Memref.isWhole_whole _) q hq k hk v hv z hz w hw o ho
          mxM (Memref.isWhole_whole _) smM (Memref.isWhole_whole _) acM (Memref.isWhole_whole _)) K := by
  rw [cc0_mla_prompt_eq_skeleton]; unfold cc0_mla_prompt_skel
  unfold owns
  iintro ⟨H0, H1, H2, H3, H4, HT0, HT1, ⟨%d, %f, -, HO⟩, HM, HL, HA, Hk⟩
  have hS0 : mxM.IsWhole := Memref.isWhole_whole _
  have hS1 : smM.IsWhole := Memref.isWhole_whole _
  have hS2 : acM.IsWhole := Memref.isWhole_whole _
  have hT0 : qiM.IsWhole := Memref.isWhole_whole _
  have hT1 : kiM.IsWhole := Memref.isWhole_whole _
  sl_exec! (disch := first | (guard_target = Scalar.cmpi = _; exact h0) | (guard_target = Scalar.cmpi = _; exact h1) | (guard_target = ¬(Scalar.cmpi = _); exact h0) | (guard_target = ¬(Scalar.cmpi = _); exact h1) | (guard_target = k0_cond3 _ _ = _; exact h2) | (guard_target = ¬(k0_cond3 _ _ = _); exact h2))
  sl_step
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HO]
  · iexists _; isplitr; swap
    · iexact HO
    · ipureintro; rw [View.read_writes_eq_canon _ _ _ ?hc]; swap; (· intro y; exact View.cover_of_tiledL (s := S256x2048) _ S256x128.size (by sl_kernel_rfl) y); unfold outV; refine congrArg (View.canon (Val := Elt Bits)) ?_; sl_unfold_words; (repeat (first | rw [View.readAt_rep_full] | rw [View.readCov_full] | rw [View.readAt_writes_full])); (repeat rw [readAt_ld]); unfold outPieces headV; rfl
  isplitl [HM]
  · iexists _; isplitr; swap
    · iexact HM
    · ipureintro; sl_unfold_words; rw [View.read_writes_full]; (repeat (first | rw [View.readAt_rep_full] | rw [View.readCov_full] | rw [View.readAt_writes_full])); first | done | with_reducible rfl | rfl
  isplitl [HL]
  · iexists _; isplitr; swap
    · iexact HL
    · ipureintro; sl_unfold_words; rw [View.read_writes_full]; (repeat (first | rw [View.readAt_rep_full] | rw [View.readCov_full] | rw [View.readAt_writes_full])); first | done | with_reducible rfl | rfl
  iexists _; isplitr; swap
  · iexact HA
  · ipureintro; sl_unfold_words; rw [View.read_writes_full]; (repeat (first | rw [View.readAt_rep_full] | rw [View.readCov_full] | rw [View.readAt_writes_full])); first | done | with_reducible rfl | rfl

set_option backward.proofsInPublic true in
set_option maxHeartbeats 8000000 in
/-- The body at a point where the key tile is not the first and the last. -/
theorem run_nextLast (c : Dev nD) (i : grid0.Coords)
    (q : Memref sig .tc .vmem S16x256x384 .bf16) (hq : q.IsWhole) (k : Memref sig .tc .vmem S512x384 .bf16) (hk : k.IsWhole)
    (v : Memref sig .tc .vmem S256x512 .bf16) (hv : v.IsWhole) (z : Memref sig .tc .vmem S256x2048 .bf16) (hz : z.IsWhole)
    (w : Memref sig .tc .vmem S16x256x128 .bf16) (hw : w.IsWhole) (o : Memref sig .tc .vmem S256x2048 .bf16) (ho : o.IsWhole)
    (T0 T1 : S72.Idx → Elt Bits .i32)
    (x0 : S16x256x384.Idx → Elt Bits .bf16) (x1 : S512x384.Idx → Elt Bits .bf16) (x2 : S256x512.Idx → Elt Bits .bf16)
    (x3 : S256x2048.Idx → Elt Bits .bf16) (x4 : S16x256x128.Idx → Elt Bits .bf16)
    (xm xl : S1x4096.Idx → Elt Bits .f32) (xa : S256x4096.Idx → Elt Bits .f32)
    (h0 : ¬ IsFirst (kiW i T1)) (h1 : ¬ IsMid (qiW i T0) (kiW i T1)) (h2 : IsLast (qiW i T0) (kiW i T1)) (K : PUnit → sProp 𝕄) :
    iprop((q.view.loc (c : Thread nD τ) ↦[q.view.set]{fullShare} q.view.rep x0)
      ∗ (k.view.loc (c : Thread nD τ) ↦[k.view.set]{fullShare} k.view.rep x1)
      ∗ (v.view.loc (c : Thread nD τ) ↦[v.view.set]{fullShare} v.view.rep x2)
      ∗ (z.view.loc (c : Thread nD τ) ↦[z.view.set]{fullShare} z.view.rep x3)
      ∗ (w.view.loc (c : Thread nD τ) ↦[w.view.set]{fullShare} w.view.rep x4)
      ∗ (qiM.view.loc (c : Thread nD τ) ↦{fullShare.right} T0) ∗ (kiM.view.loc (c : Thread nD τ) ↦{fullShare.right} T1)
      ∗ (∃ d, owns (c : Thread nD τ) o fullShare d)
      ∗ (mxM.view.loc (c : Thread nD τ) ↦[mxM.view.set]{fullShare} mxM.view.rep xm) ∗ (smM.view.loc (c : Thread nD τ) ↦[smM.view.set]{fullShare} smM.view.rep xl) ∗ (acM.view.loc (c : Thread nD τ) ↦[acM.view.set]{fullShare} acM.view.rep xa)
      ∗ (iprop((q.view.loc (c : Thread nD τ) ↦[q.view.set]{fullShare} q.view.rep x0)
          ∗ (k.view.loc (c : Thread nD τ) ↦[k.view.set]{fullShare} k.view.rep x1)
          ∗ (v.view.loc (c : Thread nD τ) ↦[v.view.set]{fullShare} v.view.rep x2)
          ∗ (z.view.loc (c : Thread nD τ) ↦[z.view.set]{fullShare} z.view.rep x3)
          ∗ (w.view.loc (c : Thread nD τ) ↦[w.view.set]{fullShare} w.view.rep x4)
          ∗ (qiM.view.loc (c : Thread nD τ) ↦{fullShare.right} T0) ∗ (kiM.view.loc (c : Thread nD τ) ↦{fullShare.right} T1)
          ∗ owns (c : Thread nD τ) o fullShare (outV (lastA (qiW i T0) (kiW i T1) x0 x1 x2 xm xa) (lastL (qiW i T0) (kiW i T1) x0 x1 xm xl) x3 x4)
          ∗ owns (c : Thread nD τ) mxM fullShare (lastM (qiW i T0) (kiW i T1) x0 x1 xm) ∗ owns (c : Thread nD τ) smM fullShare (lastL (qiW i T0) (kiW i T1) x0 x1 xm xl)
          ∗ owns (c : Thread nD τ) acM fullShare (lastA (qiW i T0) (kiW i T1) x0 x1 x2 xm xa)) -∗ K ⟨⟩))
    ⊢ wp frame (wpE (defs₀ (F := Bits)) Variants.none c none) Set.univ
        (cc0_mla_prompt i qiM (Memref.isWhole_whole _) kiM (Memref.isWhole_whole _) q hq k hk v hv z hz w hw o ho
          mxM (Memref.isWhole_whole _) smM (Memref.isWhole_whole _) acM (Memref.isWhole_whole _)) K := by
  rw [cc0_mla_prompt_eq_skeleton]; unfold cc0_mla_prompt_skel
  unfold owns
  iintro ⟨H0, H1, H2, H3, H4, HT0, HT1, ⟨%d, %f, -, HO⟩, HM, HL, HA, Hk⟩
  have hS0 : mxM.IsWhole := Memref.isWhole_whole _
  have hS1 : smM.IsWhole := Memref.isWhole_whole _
  have hS2 : acM.IsWhole := Memref.isWhole_whole _
  have hT0 : qiM.IsWhole := Memref.isWhole_whole _
  have hT1 : kiM.IsWhole := Memref.isWhole_whole _
  sl_exec! (disch := first | (guard_target = Scalar.cmpi = _; exact h0) | (guard_target = Scalar.cmpi = _; exact h1) | (guard_target = ¬(Scalar.cmpi = _); exact h0) | (guard_target = ¬(Scalar.cmpi = _); exact h1) | (guard_target = k0_cond3 _ _ = _; exact h2) | (guard_target = ¬(k0_cond3 _ _ = _); exact h2))
  sl_step
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HO]
  · iexists _; isplitr; swap
    · iexact HO
    · ipureintro; rw [View.read_writes_eq_canon _ _ _ ?hc]; swap; (· intro y; exact View.cover_of_tiledL (s := S256x2048) _ S256x128.size (by sl_kernel_rfl) y); unfold outV; refine congrArg (View.canon (Val := Elt Bits)) ?_; sl_unfold_words; (repeat (first | rw [View.readAt_rep_full] | rw [View.readCov_full] | rw [View.readAt_writes_full])); (repeat rw [readAt_ld]); unfold outPieces headV; rfl
  isplitl [HM]
  · iexists _; isplitr; swap
    · iexact HM
    · ipureintro; sl_unfold_words; rw [View.read_writes_full]; (repeat (first | rw [View.readAt_rep_full] | rw [View.readCov_full] | rw [View.readAt_writes_full])); first | done | with_reducible rfl | rfl
  isplitl [HL]
  · iexists _; isplitr; swap
    · iexact HL
    · ipureintro; sl_unfold_words; rw [View.read_writes_full]; (repeat (first | rw [View.readAt_rep_full] | rw [View.readCov_full] | rw [View.readAt_writes_full])); first | done | with_reducible rfl | rfl
  iexists _; isplitr; swap
  · iexact HA
  · ipureintro; sl_unfold_words; rw [View.read_writes_full]; (repeat (first | rw [View.readAt_rep_full] | rw [View.readCov_full] | rw [View.readAt_writes_full])); first | done | with_reducible rfl | rfl

end Cert.Kernel.Own

end
-- ==== Proof.Bits.Frame.lean ====
/- The attention call of `Kernel` from its launch: what its scratch holds at each point, the pipeline's data, and its
   frame. -/
module

public import proofs.«01_k».proof.Proof.Bits.Runs
public import Idealize.ShloMosaic.Lib.Pipeline.Frame
public import Idealize.ShloMosaic.Lib.Pipeline.Quiescent
public import Idealize.ShloMosaic.Lib.Claim

@[expose] public section

set_option maxRecDepth 16384
set_option Elab.async false

noncomputable section

namespace Cert.Kernel.Own

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation BodyObligationLoose)

local notation "𝕄" => MT nD τ sig Unit (Elt Bits) ℕ (UR sig nD τ) ℕ

/-- What a core's buffers hold when the call is reached. -/
abbrev entryV (m : (ℓ : Loc nD τ sig) → Buf (Elt Bits) ℓ) (c : Dev nD) (b : Ref sig .tc) : Buf (Elt Bits) ((c : Thread nD τ).loc b) :=
  StableHlo.after hostOps0 (fun b => m (c, b)) b

variable (m : (ℓ : Loc nD τ sig) → Buf (Elt Bits) ℓ)

/-! ## The scratch, point by point -/

/-- A window's block at a point. -/
def blk (c : Dev nD) (w : Fin pl.W) (t : Fin pl.N) : ((pl.win w).xblock (pt t)).Idx → Elt Bits (pl.win w).elt :=
  ((pl.win w).blk t).view.read (Elt Bits) (entryV m c (Pipeline.arrRef pl.spec w))
abbrev blk0 (c : Dev nD) (t : Fin pl.N) : S16x256x384.Idx → Elt Bits .bf16 := blk m c (0 : Fin 6) t
abbrev blk1 (c : Dev nD) (t : Fin pl.N) : S512x384.Idx → Elt Bits .bf16 := blk m c (1 : Fin 6) t
abbrev blk2 (c : Dev nD) (t : Fin pl.N) : S256x512.Idx → Elt Bits .bf16 := blk m c (2 : Fin 6) t
abbrev blk3 (c : Dev nD) (t : Fin pl.N) : S256x2048.Idx → Elt Bits .bf16 := blk m c (3 : Fin 6) t
abbrev blk4 (c : Dev nD) (t : Fin pl.N) : S16x256x128.Idx → Elt Bits .bf16 := blk m c (4 : Fin 6) t

/-- The scratch's contents: running maximum, running sum, running weighted sum. -/
structure St where
  mx : S1x4096.Idx → Elt Bits .f32
  sm : S1x4096.Idx → Elt Bits .f32
  ac : S256x4096.Idx → Elt Bits .f32

/-- A query tile's first key tile starts from the initial contents. -/
def start (t : Fin pl.N) (s : St) : St := if IsFirst (kb t) then ⟨initM, initL, initA⟩ else s
/-- One key tile's update, unmasked or masked. -/
def upd (c : Dev nD) (t : Fin pl.N) (s : St) : St :=
  if IsMid (qa t) (kb t) then
    ⟨midM (blk0 m c t) (blk1 m c t) s.mx, midL (blk0 m c t) (blk1 m c t) s.mx s.sm,
      midA (blk0 m c t) (blk1 m c t) (blk2 m c t) s.mx s.ac⟩
  else
    ⟨lastM (qa t) (kb t) (blk0 m c t) (blk1 m c t) s.mx, lastL (qa t) (kb t) (blk0 m c t) (blk1 m c t) s.mx s.sm,
      lastA (qa t) (kb t) (blk0 m c t) (blk1 m c t) (blk2 m c t) s.mx s.ac⟩

/-- The scratch before point `n`. -/
def st (c : Dev nD) : ℕ → St
  | 0 => ⟨initM, initL, initA⟩
  | n + 1 => if h : n < pl.N then upd m c ⟨n, h⟩ (start ⟨n, h⟩ (st c n)) else st c n

theorem st_succ (c : Dev nD) (t : Fin pl.N) : st m c (t.val + 1) = upd m c t (start t (st m c t.val)) := by
  rw [st, dif_pos t.isLt]

/-- What the output window's buffer is given at a point that writes it. -/
def outB (c : Dev nD) (t : Fin pl.N) : S256x2048.Idx → Elt Bits .bf16 :=
  outV (st m c (t.val + 1)).ac (st m c (t.val + 1)).sm (blk3 m c t) (blk4 m c t)

/-! ## The pipeline's data -/

/-- Before a point: the scratch at its contents there (anything before the first point), the body's halves of the
    tables. -/
def Phi (c : Dev nD) (t : Fin (pl.N + 1)) : sProp 𝕄 :=
  iprop((∃ s : St, ⌜t.val ≠ 0 → s = st m c t.val⌝ ∗ owns (c : Thread nD τ) mxM fullShare s.mx
      ∗ owns (c : Thread nD τ) smM fullShare s.sm ∗ owns (c : Thread nD τ) acM fullShare s.ac)
    ∗ (qiM.view.loc (c : Thread nD τ) ↦{fullShare.right} qiT) ∗ (kiM.view.loc (c : Thread nD τ) ↦{fullShare.right} kiT)
    ∗ ∃ r, prngReg c r)

def dats (_ : Fin 1) (c : Dev nD) : Dat τ (Elt Bits) Unit ℕ (UR sig nD τ) ℕ pl c where
  A w := entryV m c (Pipeline.arrRef pl.spec w)
  after w t := match w with
    | ⟨0, _⟩ => blk m c (0 : Fin 6) t
    | ⟨1, _⟩ => blk m c (1 : Fin 6) t
    | ⟨2, _⟩ => blk m c (2 : Fin 6) t
    | ⟨3, _⟩ => blk m c (3 : Fin 6) t
    | ⟨4, _⟩ => blk m c (4 : Fin 6) t
    | ⟨5, _⟩ => outB m c t
  Φ t := Phi m c t
  q _ := fullShare
  owed _ := 0

theorem after_0 (c : Dev nD) (t : Fin pl.N) : (dats m 0 c).after (0 : Fin 6) t = blk m c (0 : Fin 6) t := rfl
theorem after_1 (c : Dev nD) (t : Fin pl.N) : (dats m 0 c).after (1 : Fin 6) t = blk m c (1 : Fin 6) t := rfl
theorem after_2 (c : Dev nD) (t : Fin pl.N) : (dats m 0 c).after (2 : Fin 6) t = blk m c (2 : Fin 6) t := rfl
theorem after_3 (c : Dev nD) (t : Fin pl.N) : (dats m 0 c).after (3 : Fin 6) t = blk m c (3 : Fin 6) t := rfl
theorem after_4 (c : Dev nD) (t : Fin pl.N) : (dats m 0 c).after (4 : Fin 6) t = blk m c (4 : Fin 6) t := rfl
theorem after_5 (c : Dev nD) (t : Fin pl.N) : (dats m 0 c).after (5 : Fin 6) t = outB m c t := rfl

/-- An input window holds its block at every point. -/
theorem before_0 (c : Dev nD) (t : Fin pl.N) (d) : (dats m 0 c).before (0 : Fin 6) t d = blk m c (0 : Fin 6) t :=
  ((dats m 0 c).before_in_eq_fetched (0 : Fin 6) rfl (fun _ => rfl) (fun _ _ _ => rfl) (fun t => by rw [after_0]; unfold Dat.blockOf blk; rfl) t d).trans
    (by unfold Dat.fetched Dat.blockOf blk; rfl)
theorem before_1 (c : Dev nD) (t : Fin pl.N) (d) : (dats m 0 c).before (1 : Fin 6) t d = blk m c (1 : Fin 6) t :=
  ((dats m 0 c).before_in_eq_fetched (1 : Fin 6) rfl (fun _ => rfl) (fun _ _ _ => rfl) (fun t => by rw [after_1]; unfold Dat.blockOf blk; rfl) t d).trans
    (by unfold Dat.fetched Dat.blockOf blk; rfl)
theorem before_2 (c : Dev nD) (t : Fin pl.N) (d) : (dats m 0 c).before (2 : Fin 6) t d = blk m c (2 : Fin 6) t :=
  ((dats m 0 c).before_in_eq_fetched (2 : Fin 6) rfl (fun _ => rfl) (fun _ _ _ => rfl) (fun t => by rw [after_2]; unfold Dat.blockOf blk; rfl) t d).trans
    (by unfold Dat.fetched Dat.blockOf blk; rfl)
theorem before_3 (c : Dev nD) (t : Fin pl.N) (d) : (dats m 0 c).before (3 : Fin 6) t d = blk m c (3 : Fin 6) t :=
  ((dats m 0 c).before_in_eq_fetched (3 : Fin 6) rfl (fun _ => rfl) (fun _ _ _ => rfl) (fun t => by rw [after_3]; unfold Dat.blockOf blk; rfl) t d).trans
    (by unfold Dat.fetched Dat.blockOf blk; rfl)
theorem before_4 (c : Dev nD) (t : Fin pl.N) (d) : (dats m 0 c).before (4 : Fin 6) t d = blk m c (4 : Fin 6) t :=
  ((dats m 0 c).before_in_eq_fetched (4 : Fin 6) rfl (fun _ => rfl) (fun _ _ _ => rfl) (fun t => by rw [after_4]; unfold Dat.blockOf blk; rfl) t d).trans
    (by unfold Dat.fetched Dat.blockOf blk; rfl)

/-- The output's buffer holds nothing of worth when a point begins: the point before left it alone or wrote it back. -/
theorem fresh_5 (t : Fin pl.N) : pl.fresh (5 : Fin 6) t.val = true :=
  Pipeline.Cfg.fresh_tab pl (5 : Fin 6) (fun _ => true) rfl (fun t => by
    by_cases h : IsMid (qa t) (kb t)
    · obtain ⟨-, hi, hf⟩ := (facts_at t).1 h
      rw [hi]; simp
    · obtain ⟨-, hi, hf⟩ := (facts_at t).2.1 h
      rw [hf]; simp) t.val (Nat.le_of_lt t.isLt)

theorem before_5 (c : Dev nD) (t : Fin pl.N) (d) : (dats m 0 c).before (5 : Fin 6) t d = d := by
  rw [(dats m 0 c).before_out_traj (5 : Fin 6) rfl (fun _ _ => rfl)
    (fun t _ _ hf => absurd (hf.symm.trans (fresh_5 t)) Bool.false_ne_true) t.val t rfl d, if_pos (fresh_5 t)]

/-! ## The body at a point -/

abbrev bodyAt (t : Fin pl.N) : Prog (TpuEff nD τ sig (Elt Bits) Λ₀ .tc) PUnit :=
  cc0_mla_prompt (pt t) qiM (Memref.isWhole_whole _) kiM (Memref.isWhole_whole _) (ms0 t) (hs0 t) (ms1 t) (hs1 t) (ms2 t) (hs2 t)
    (ms3 t) (hs3 t) (ms4 t) (hs4 t) (ms5 t) (hs5 t)
    mxM (Memref.isWhole_whole _) smM (Memref.isWhole_whole _) acM (Memref.isWhole_whole _)

set_option maxHeartbeats 4000000 in
theorem sound_body (c : Dev nD) (t : Fin pl.N) :
    iprop((dats m 0 c).Φ t.castSucc ∗ (dats m 0 c).owesAt () t.castSucc
        ∗ (∃ d, owns (c : Thread nD τ) (ms0 t) fullShare ((dats m 0 c).before (0 : Fin 6) t d))
        ∗ (∃ d, owns (c : Thread nD τ) (ms1 t) fullShare ((dats m 0 c).before (1 : Fin 6) t d))
        ∗ (∃ d, owns (c : Thread nD τ) (ms2 t) fullShare ((dats m 0 c).before (2 : Fin 6) t d))
        ∗ (∃ d, owns (c : Thread nD τ) (ms3 t) fullShare ((dats m 0 c).before (3 : Fin 6) t d))
        ∗ (∃ d, owns (c : Thread nD τ) (ms4 t) fullShare ((dats m 0 c).before (4 : Fin 6) t d))
        ∗ (∃ d, owns (c : Thread nD τ) (ms5 t) fullShare ((dats m 0 c).before (5 : Fin 6) t d)))
      ⊢ wp frame (wpE (defs₀ (F := Bits)) Variants.none c none) Set.univ (bodyAt t) fun _ =>
          iprop((dats m 0 c).Φ t.succ ∗ (dats m 0 c).owesAt () t.succ
            ∗ bigSep Finset.univ fun w : Fin pl.W =>
                match pl.idle w (pl.grid.coords t) with
                | true =>
                  match (pl.win w).flush t with
                  | false => iprop(∃ d, owns (c : Thread nD τ) ((pl.win w).stage (pl.slots t w)) fullShare ((dats m 0 c).before w t d))
                  | true => owns (c : Thread nD τ) ((pl.win w).stage (pl.slots t w)) fullShare ((dats m 0 c).after w t)
                | false => owns (c : Thread nD τ) ((pl.win w).stage (pl.slots t w)) fullShare ((dats m 0 c).after w t)) := by
  rw [bigSep_W0]
  obtain ⟨hmid, hlast, hzero⟩ := facts_at t
  by_cases q1 : IsMid (qa t) (kb t)
  · by_cases q0 : IsFirst (kb t)
    · obtain ⟨hl, i5, f5⟩ := hmid q1
      rewrite [i5]
      simp only [before_0, before_1, before_2, before_3, before_4, before_5, after_0, after_1, after_2, after_3, after_4, after_5, f5]
      rewrite [show (dats m 0 c).Φ t.succ = Phi m c t.succ from rfl, show (dats m 0 c).Φ t.castSucc = Phi m c t.castSucc from rfl,
        show (dats m 0 c).owesAt () t.succ = (dats m 0 c).owesAt () t.castSucc from rfl]
      unfold Phi
      iintro ⟨⟨⟨%s, %hs, HM, HL, HA⟩, HT0, HT1, Hg⟩, Ho, ⟨%d0, H0⟩, ⟨%d1, H1⟩, ⟨%d2, H2⟩, ⟨%d3, H3⟩, ⟨%d4, H4⟩, ⟨%d5, H5⟩⟩
      have hst : st m c t.succ.val = upd m c t (start t s) := by
        rw [Fin.val_succ, st_succ]
        unfold start; rw [if_pos q0, if_pos q0]
      unfold start at hst; rw [if_pos q0] at hst
      unfold upd at hst; rw [if_pos q1] at hst
      iapply (run_firstMid c (pt t) (ms0 t) (hs0 t) (ms1 t) (hs1 t) (ms2 t) (hs2 t) (ms3 t) (hs3 t) (ms4 t) (hs4 t) (ms5 t) (hs5 t) qiT kiT
        (blk0 m c t) (blk1 m c t) (blk2 m c t) (blk3 m c t) (blk4 m c t) s.mx s.sm s.ac d5 q0 q1 hl _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexact H5
      isplitl [HM]; · iapply rep_of_owns; iexact HM
      isplitl [HL]; · iapply rep_of_owns; iexact HL
      isplitl [HA]; · iapply rep_of_owns; iexact HA
      iintro ⟨H0, H1, H2, H3, H4, HT0, HT1, H5, HM, HL, HA⟩
      isplitl [HM HL HA HT0 HT1 Hg]
      · isplitl [HM HL HA]
        · iexists (st m c t.succ.val); isplitr
          · ipureintro; intro _; rfl
          rw [hst]
          isplitl [HM]; · iexact HM
          isplitl [HL]; · iexact HL
          iexact HA
        isplitl [HT0]; · iexact HT0
        isplitl [HT1]; · iexact HT1
        iexact Hg
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      iexists d5; iexact H5
    · obtain ⟨hl, i5, f5⟩ := hmid q1
      rewrite [i5]
      simp only [before_0, before_1, before_2, before_3, before_4, before_5, after_0, after_1, after_2, after_3, after_4, after_5, f5]
      rewrite [show (dats m 0 c).Φ t.succ = Phi m c t.succ from rfl, show (dats m 0 c).Φ t.castSucc = Phi m c t.castSucc from rfl,
        show (dats m 0 c).owesAt () t.succ = (dats m 0 c).owesAt () t.castSucc from rfl]
      unfold Phi
      iintro ⟨⟨⟨%s, %hs, HM, HL, HA⟩, HT0, HT1, Hg⟩, Ho, ⟨%d0, H0⟩, ⟨%d1, H1⟩, ⟨%d2, H2⟩, ⟨%d3, H3⟩, ⟨%d4, H4⟩, ⟨%d5, H5⟩⟩
      have hst : st m c t.succ.val = upd m c t (start t s) := by
        rw [Fin.val_succ, st_succ]
        rw [hs fun h => q0 (hzero h)]; rfl
      unfold start at hst; rw [if_neg q0] at hst
      unfold upd at hst; rw [if_pos q1] at hst
      iapply (run_nextMid c (pt t) (ms0 t) (hs0 t) (ms1 t) (hs1 t) (ms2 t) (hs2 t) (ms3 t) (hs3 t) (ms4 t) (hs4 t) (ms5 t) (hs5 t) qiT kiT
        (blk0 m c t) (blk1 m c t) (blk2 m c t) (blk3 m c t) (blk4 m c t) s.mx s.sm s.ac d5 q0 q1 hl _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexact H5
      isplitl [HM]; · iapply rep_of_owns; iexact HM
      isplitl [HL]; · iapply rep_of_owns; iexact HL
      isplitl [HA]; · iapply rep_of_owns; iexact HA
      iintro ⟨H0, H1, H2, H3, H4, HT0, HT1, H5, HM, HL, HA⟩
      isplitl [HM HL HA HT0 HT1 Hg]
      · isplitl [HM HL HA]
        · iexists (st m c t.succ.val); isplitr
          · ipureintro; intro _; rfl
          rw [hst]
          isplitl [HM]; · iexact HM
          isplitl [HL]; · iexact HL
          iexact HA
        isplitl [HT0]; · iexact HT0
        isplitl [HT1]; · iexact HT1
        iexact Hg
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      iexists d5; iexact H5
  · by_cases q0 : IsFirst (kb t)
    · obtain ⟨hl, i5, f5⟩ := hlast q1
      rewrite [i5]
      simp only [before_0, before_1, before_2, before_3, before_4, before_5, after_0, after_1, after_2, after_3, after_4, after_5]
      rewrite [show (dats m 0 c).Φ t.succ = Phi m c t.succ from rfl, show (dats m 0 c).Φ t.castSucc = Phi m c t.castSucc from rfl,
        show (dats m 0 c).owesAt () t.succ = (dats m 0 c).owesAt () t.castSucc from rfl]
      unfold Phi
      iintro ⟨⟨⟨%s, %hs, HM, HL, HA⟩, HT0, HT1, Hg⟩, Ho, ⟨%d0, H0⟩, ⟨%d1, H1⟩, ⟨%d2, H2⟩, ⟨%d3, H3⟩, ⟨%d4, H4⟩, ⟨%d5, H5⟩⟩
      have hst : st m c t.succ.val = upd m c t (start t s) := by
        rw [Fin.val_succ, st_succ]
        unfold start; rw [if_pos q0, if_pos q0]
      have ho : outB m c t = outV (upd m c t (start t s)).ac (upd m c t (start t s)).sm (blk3 m c t) (blk4 m c t) := by
        unfold outB; rw [← hst]; rfl
      rw [ho]
      unfold start at hst ⊢; rw [if_pos q0] at hst ⊢
      unfold upd at hst ⊢; rw [if_neg q1] at hst ⊢
      iapply (run_firstLast c (pt t) (ms0 t) (hs0 t) (ms1 t) (hs1 t) (ms2 t) (hs2 t) (ms3 t) (hs3 t) (ms4 t) (hs4 t) (ms5 t) (hs5 t) qiT kiT
        (blk0 m c t) (blk1 m c t) (blk2 m c t) (blk3 m c t) (blk4 m c t) s.mx s.sm s.ac q0 q1 hl _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists d5; iexact H5
      isplitl [HM]; · iapply rep_of_owns; iexact HM
      isplitl [HL]; · iapply rep_of_owns; iexact HL
      isplitl [HA]; · iapply rep_of_owns; iexact HA
      iintro ⟨H0, H1, H2, H3, H4, HT0, HT1, H5, HM, HL, HA⟩
      isplitl [HM HL HA HT0 HT1 Hg]
      · isplitl [HM HL HA]
        · iexists (st m c t.succ.val); isplitr
          · ipureintro; intro _; rfl
          rw [hst]
          isplitl [HM]; · iexact HM
          isplitl [HL]; · iexact HL
          iexact HA
        isplitl [HT0]; · iexact HT0
        isplitl [HT1]; · iexact HT1
        iexact Hg
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      iexact H5
    · obtain ⟨hl, i5, f5⟩ := hlast q1
      rewrite [i5]
      simp only [before_0, before_1, before_2, before_3, before_4, before_5, after_0, after_1, after_2, after_3, after_4, after_5]
      rewrite [show (dats m 0 c).Φ t.succ = Phi m c t.succ from rfl, show (dats m 0 c).Φ t.castSucc = Phi m c t.castSucc from rfl,
        show (dats m 0 c).owesAt () t.succ = (dats m 0 c).owesAt () t.castSucc from rfl]
      unfold Phi
      iintro ⟨⟨⟨%s, %hs, HM, HL, HA⟩, HT0, HT1, Hg⟩, Ho, ⟨%d0, H0⟩, ⟨%d1, H1⟩, ⟨%d2, H2⟩, ⟨%d3, H3⟩, ⟨%d4, H4⟩, ⟨%d5, H5⟩⟩
      have hst : st m c t.succ.val = upd m c t (start t s) := by
        rw [Fin.val_succ, st_succ]
        rw [hs fun h => q0 (hzero h)]; rfl
      have ho : outB m c t = outV (upd m c t (start t s)).ac (upd m c t (start t s)).sm (blk3 m c t) (blk4 m c t) := by
        unfold outB; rw [← hst]; rfl
      rw [ho]
      unfold start at hst ⊢; rw [if_neg q0] at hst ⊢
      unfold upd at hst ⊢; rw [if_neg q1] at hst ⊢
      iapply (run_nextLast c (pt t) (ms0 t) (hs0 t) (ms1 t) (hs1 t) (ms2 t) (hs2 t) (ms3 t) (hs3 t) (ms4 t) (hs4 t) (ms5 t) (hs5 t) qiT kiT
        (blk0 m c t) (blk1 m c t) (blk2 m c t) (blk3 m c t) (blk4 m c t) s.mx s.sm s.ac q0 q1 hl _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists d5; iexact H5
      isplitl [HM]; · iapply rep_of_owns; iexact HM
      isplitl [HL]; · iapply rep_of_owns; iexact HL
      isplitl [HA]; · iapply rep_of_owns; iexact HA
      iintro ⟨H0, H1, H2, H3, H4, HT0, HT1, H5, HM, HL, HA⟩
      isplitl [HM HL HA HT0 HT1 Hg]
      · isplitl [HM HL HA]
        · iexists (st m c t.succ.val); isplitr
          · ipureintro; intro _; rfl
          rw [hst]
          isplitl [HM]; · iexact HM
          isplitl [HL]; · iexact HL
          iexact HA
        isplitl [HT0]; · iexact HT0
        isplitl [HT1]; · iexact HT1
        iexact Hg
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      iexact H5

theorem body_obligation (c : Dev nD) : BodyObligation (dats m 0 c) (defs₀ (F := Bits)) Variants.none () Set.univ := fun t => by
  rw [bigSep_W0]
  exact sound_body m c t

/-! ## The launch -/

theorem share_eq (c : Dev nD) (w : Fin pl.W) : (dats m 0 c).share w = fullShare := by unfold Dat.share; split <;> rfl

theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

theorem phi_in (c : Dev nD) :
    iprop(Pipeline.ΦA (U := UR sig nD τ) (Val := Elt Bits) spec0 c ∗ Pipeline.ΦT (U := UR sig nD τ) pre0 tabs c) ⊢ (dats m 0 c).Φ 0 := by
  rw [show (dats m 0 c).Φ 0 = Phi m c 0 from rfl]
  unfold Phi Pipeline.ΦA Pipeline.ΦT
  rw [prefHeld_eq, scopedRest0_eq]
  iintro ⟨⟨⟨⟨%a0, HM⟩, ⟨%a1, HL⟩, ⟨%a2, HA⟩⟩, Hg⟩, HT0, HT1⟩
  isplitl [HM HL HA]
  · iexists (⟨a0, a1, a2⟩ : St); isplitr
    · ipureintro; intro h; exact absurd rfl h
    rw [owns_whole, owns_whole, owns_whole]
    isplitl [HM]; · iexact HM
    isplitl [HL]; · iexact HL
    iexact HA
  isplitl [HT0]; · iexact HT0
  isplitl [HT1]; · iexact HT1
  iexact Hg

theorem phi_out (c : Dev nD) : (dats m 0 c).Φ (Fin.last pl.N) ⊢ Pipeline.ΦA (U := UR sig nD τ) (Val := Elt Bits) spec0 c := by
  rw [show (dats m 0 c).Φ (Fin.last pl.N) = Phi m c (Fin.last _) from rfl]
  unfold Phi Pipeline.ΦA
  rw [scopedRest0_eq]
  simp only [owns_whole]
  iintro ⟨⟨%s, -, HM, HL, HA⟩, -, -, Hg⟩
  isplitl [HM HL HA]
  · isplitl [HM]; · iexists s.mx; iexact HM
    isplitl [HL]; · iexists s.sm; iexact HL
    iexists s.ac; iexact HA
  iexact Hg

/-- What holds when the program ends: each window's array at what the pipeline computes, every other array as the call
    found it, every counter at zero. -/
abbrev Ends (r : PUnit × MemSt nD τ sig (Elt Bits)) : Prop :=
  Pipeline.FramePost (Pipeline.pin (pcfgs (F := Bits)) fun _ => adm) (dats m) 0 (entryV m) r ∧ r.2.sem = fun _ => 0

set_option backward.isDefEq.respectTransparency.types false in
set_option maxHeartbeats 4000000 in
theorem run_main (g : Dev nD → PrngReg) :
    θ_run (defs (F := Bits)) (onTc (τ := τ) (main (F := Bits))) (s₀ m g) (Ends m) :=
  Pipeline.θ_run_frameP_track (pcfgs (F := Bits)) (fun _ => adm) (dats m) 0 launch0 defs₀ Variants.none m g main
    (hbody := fun c => (body_obligation m c).loose)
    (hshare := share_eq m) (howed := fun _ _ => rfl)
    (V := entryV m)
    (hmain := Pipeline.hmainP_prefix (pcfgs (F := Bits)) 0 defs₀ Variants.none m main hostOps0 hostOps0_sub ⟨rfl, rfl, rfl⟩ main_chain)
    (hA := fun _ _ => rfl)
    (hpf := fun c k => by
      fin_cases k
      · rfl
      · rfl)
    (hin := phi_in m) (hout := phi_out m)
    (Q' := Ends m) (hQ' := fun _ h => h)

/-- No host operation writes an argument. -/
theorem entry_arg (c : Dev nD) (b : Ref sig .tc) (hb : b ∉ [main_c, main_c_0, main_v0]) : entryV m c b = m ((c : Thread nD τ).loc b) :=
  StableHlo.after_of_writes_sub (W := [main_c, main_c_0, main_v0]) hostOps0 _
    ⟨by intro x hx; simp at hx ⊢; tauto, by intro x hx; simp at hx ⊢; tauto, by intro x hx; simp at hx ⊢; tauto⟩ hb

theorem args_kept {r : PUnit × MemSt nD τ sig (Elt Bits)} (h : Ends m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(((h.1 c).1 (0 : Fin 6)).trans ((dats m 0 c).arrAt_in (0 : Fin 6) rfl _)).trans (entry_arg m c main_arg0 (by decide)),
   (((h.1 c).1 (1 : Fin 6)).trans ((dats m 0 c).arrAt_in (1 : Fin 6) rfl _)).trans (entry_arg m c main_arg1 (by decide)),
   (((h.1 c).1 (2 : Fin 6)).trans ((dats m 0 c).arrAt_in (2 : Fin 6) rfl _)).trans (entry_arg m c main_arg2 (by decide)),
   ((h.1 c).2 main_arg3 (by decide)).trans (entry_arg m c main_arg3 (by decide)),
   (((h.1 c).1 (4 : Fin 6)).trans ((dats m 0 c).arrAt_in (4 : Fin 6) rfl _)).trans (entry_arg m c main_arg4 (by decide))⟩

/-- The frame of the program. -/
theorem frame_main (g : Dev nD → PrngReg) :
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨args_kept m h, h.2⟩) (run_main m g)

end Cert.Kernel.Own

end
-- ==== Proof.Ideal.Tables.lean ====
/- The prefetched tables of the attention call of `KernelIdeal`, the pipeline at them, and the facts of the grid's points
   that are decided from the tables' words. -/
module

public import proofs.«01_k».proof.Defs
public import proofs.«01_k».proof.Proof.Gen.KernelIdeal
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Affine
public import Idealize.ShloMosaic.Lib.Tactic
public import Idealize.ShloMosaic.PureOps.Ideal
public import Idealize.ShloMosaic.Init

@[expose] public section

set_option maxRecDepth 16384
set_option Elab.async false

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI

/-- The query-tile table and the key-tile table, in scalar memory. -/
abbrev qiM : Memref sig .tc .smem S72 .i32 := Memref.whole main_c
abbrev kiM : Memref sig .tc .smem S72 .i32 := Memref.whole main_c_0
/-- The running maximum, the running sum and the running weighted sum. -/
abbrev mxM : Memref sig .tc .vmem S1x4096 .f32 := Memref.whole cc0_scratch0
abbrev smM : Memref sig .tc .vmem S1x4096 .f32 := Memref.whole cc0_scratch1
abbrev acM : Memref sig .tc .vmem S256x4096 .f32 := Memref.whole cc0_scratch2

/-- The words of the two tables. -/
abbrev qiT : S72.Idx → Elt Ideal .i32 := fun i => lit0 (S72.rowMajor i)
abbrev kiT : S72.Idx → Elt Ideal .i32 := fun i => lit1 (S72.rowMajor i)

/-- What the body reads of a table at a point. -/
abbrev qiW (i : grid0.Coords) (T : S72.Idx → Elt Ideal .i32) : BitVec 32 :=
  View.readAt (Elt Ideal) qiM.view (Rect.unit (s := S72) (k0_off1 i) S1.size (k0_off1_inb i)).toLoadRect T
    (Shape.Idx.first (numel1_S1.symm ▸ Nat.one_pos))
abbrev kiW (i : grid0.Coords) (T : S72.Idx → Elt Ideal .i32) : BitVec 32 :=
  View.readAt (Elt Ideal) kiM.view (Rect.unit (s := S72) (k0_off1 i) S1.size (k0_off1_inb i)).toLoadRect T
    (Shape.Idx.first (numel1_S1.symm ▸ Nat.one_pos))

/-- The last key tile of a query tile, as the body computes it (a quotient rounded down). -/
abbrev lastTile (a : BitVec 32) : BitVec 32 :=
  Scalar.select (Scalar.andi (Scalar.cmpi .ne
      (Scalar.subi (Scalar.extui (Scalar.cmpi .sgt (Scalar.subi (Scalar.addi (Scalar.muli a 256#32) 256#32) 1#32) 0#32))
        (Scalar.extui (Scalar.cmpi .slt (Scalar.subi (Scalar.addi (Scalar.muli a 256#32) 256#32) 1#32) 0#32)))
      (Scalar.subi (Scalar.extui (Scalar.cmpi .sgt 512#32 0#32)) (Scalar.extui (Scalar.cmpi .slt 512#32 0#32))))
    (Scalar.cmpi .ne (Scalar.remsi (Scalar.subi (Scalar.addi (Scalar.muli a 256#32) 256#32) 1#32) 512#32) 0#32))
    (Scalar.subi (Scalar.divsi (Scalar.subi (Scalar.addi (Scalar.muli a 256#32) 256#32) 1#32) 512#32) 1#32)
    (Scalar.divsi (Scalar.subi (Scalar.addi (Scalar.muli a 256#32) 256#32) 1#32) 512#32)
/-- The key tile is the first one; it lies before the last one; it is the last one. -/
abbrev IsFirst (b : BitVec 32) : Prop := Scalar.cmpi .ne (Scalar.extui (Scalar.cmpi .eq b 0#32)) 0#32 = 1#1
abbrev IsMid (a b : BitVec 32) : Prop := Scalar.cmpi .ne (Scalar.extui (Scalar.cmpi .slt b (lastTile a))) 0#32 = 1#1
abbrev IsLast (a b : BitVec 32) : Prop := k0_cond3 a b = 1#1

set_option backward.proofsInPublic true in
/-- The tables' contents. -/
def tabs : pre0.Contents (Elt Ideal) := fun | ⟨0, _⟩ => qiT | ⟨1, _⟩ => kiT | ⟨_ + 2, h⟩ => absurd h (by simp)

/-! ## The blocks lie inside their arrays -/

theorem inb0 : ∀ i : grid0.Coords, ∀ a, (cc0_transform_0 k0_off1_inb numel1_S1 tabs i a + 1) * S16x256x384.size a ≤ S16x8192x384.size a := by decide +kernel
theorem inb1 : ∀ i : grid0.Coords, ∀ a, (cc0_transform_1 k0_off1_inb numel1_S1 tabs i a + 1) * S512x384.size a ≤ S8192x384.size a := by decide +kernel
theorem inb2 : ∀ i : grid0.Coords, ∀ a, (cc0_transform_2 k0_off1_inb numel1_S1 tabs i a + 1) * S256x512.size a ≤ S256x8192.size a := by decide +kernel
theorem inb3 : ∀ i : grid0.Coords, ∀ a, (cc0_transform_3 k0_off1_inb numel1_S1 tabs i a + 1) * S256x2048.size a ≤ S8192x2048.size a := by decide +kernel
theorem inb5 : ∀ i : grid0.Coords, ∀ a, (cc0_transform_5 k0_off1_inb numel1_S1 tabs i a + 1) * S256x2048.size a ≤ S8192x2048.size a := by decide +kernel

theorem tabs_ok : ok0 (F := Ideal) tabs :=
  ⟨fun i => ⟨inb0 i, .inr (Affine.block_words_dvd (s := S16x8192x384) (p := EltTy.packing .bf16) (by decide) (by decide))⟩,
   fun i => ⟨inb1 i, .inr (Affine.block_words_dvd (s := S8192x384) (p := EltTy.packing .bf16) (by decide) (by decide))⟩,
   fun i => ⟨inb2 i, .inr (Affine.block_words_dvd (s := S256x8192) (p := EltTy.packing .bf16) (by decide) (by decide))⟩,
   fun i => ⟨inb3 i, .inr (Affine.block_words_dvd (s := S8192x2048) (p := EltTy.packing .bf16) (by decide) (by decide))⟩,
   fun i => ⟨inb5 i, .inr (Affine.block_words_dvd (s := S8192x2048) (p := EltTy.packing .bf16) (by decide) (by decide))⟩⟩

/-- The tables as the pipeline takes them, and the pipeline at them. -/
def adm : (pcfg0 (F := Ideal)).Adm := ⟨tabs, tabs_ok⟩
abbrev pl : Pipeline.Cfg sig Λ₀ := cfg0 (F := Ideal) adm
abbrev pls : Fin 1 → Pipeline.Cfg sig Λ₀ := Pipeline.pin (pcfgs (F := Ideal)) fun _ => adm

/-- A point's coordinates. -/
abbrev pt (t : Fin pl.N) : pl.grid.Coords := pl.grid.coords t
/-- The two words at a point. -/
abbrev qa (t : Fin pl.N) : BitVec 32 := qiW (pt t) qiT
abbrev kb (t : Fin pl.N) : BitVec 32 := kiW (pt t) kiT

/-- Each window's staging memref at a point, and that it is a whole buffer. -/
abbrev ms0 (t : Fin pl.N) : Memref sig .tc .vmem S16x256x384 .bf16 := spec0_0.stage (pl.slots t (0 : Fin 6))
abbrev hs0 (t : Fin pl.N) : (ms0 t).IsWhole := hstage0_0 ((pl.slots t (0 : Fin 6)).cast nbuf0_0)
abbrev ms1 (t : Fin pl.N) : Memref sig .tc .vmem S512x384 .bf16 := spec0_1.stage (pl.slots t (1 : Fin 6))
abbrev hs1 (t : Fin pl.N) : (ms1 t).IsWhole := hstage0_1 ((pl.slots t (1 : Fin 6)).cast nbuf0_1)
abbrev ms2 (t : Fin pl.N) : Memref sig .tc .vmem S256x512 .bf16 := spec0_2.stage (pl.slots t (2 : Fin 6))
abbrev hs2 (t : Fin pl.N) : (ms2 t).IsWhole := hstage0_2 ((pl.slots t (2 : Fin 6)).cast nbuf0_2)
abbrev ms3 (t : Fin pl.N) : Memref sig .tc .vmem S256x2048 .bf16 := spec0_3.stage (pl.slots t (3 : Fin 6))
abbrev hs3 (t : Fin pl.N) : (ms3 t).IsWhole := hstage0_3 ((pl.slots t (3 : Fin 6)).cast nbuf0_3)
abbrev ms4 (t : Fin pl.N) : Memref sig .tc .vmem S16x256x128 .bf16 := spec0_4.stage (pl.slots t (4 : Fin 6))
abbrev hs4 (t : Fin pl.N) : (ms4 t).IsWhole := hstage0_4 ((pl.slots t (4 : Fin 6)).cast nbuf0_4)
abbrev ms5 (t : Fin pl.N) : Memref sig .tc .vmem S256x2048 .bf16 := spec0_5.stage (pl.slots t (5 : Fin 6))
abbrev hs5 (t : Fin pl.N) : (ms5 t).IsWhole := hstage0_5 ((pl.slots t (5 : Fin 6)).cast nbuf0_5)

/-! ## What holds at each point -/

/-- Before the last key tile the output is left alone and not written back; at the last it is written back; the
    first point starts a query tile. -/
abbrev PointFacts (t : Fin pl.N) : Prop :=
  (IsMid (qa t) (kb t) → ¬ IsLast (qa t) (kb t) ∧ pl.idle (5 : Fin 6) (pt t) = true ∧ (pl.win (5 : Fin 6)).flush t = false)
  ∧ (¬ IsMid (qa t) (kb t) → IsLast (qa t) (kb t) ∧ pl.idle (5 : Fin 6) (pt t) = false ∧ (pl.win (5 : Fin 6)).flush t = true)
  ∧ (t.val = 0 → IsFirst (kb t))

theorem facts_a : ∀ t : Fin pl.N, 0 ≤ t.val → t.val < 24 → PointFacts t := by decide +kernel
theorem facts_b : ∀ t : Fin pl.N, 24 ≤ t.val → t.val < 48 → PointFacts t := by decide +kernel
theorem facts_c : ∀ t : Fin pl.N, 48 ≤ t.val → t.val < 72 → PointFacts t := by decide +kernel
theorem facts_d : ∀ t : Fin pl.N, 72 ≤ t.val → t.val < 96 → PointFacts t := by decide +kernel
theorem facts_e : ∀ t : Fin pl.N, 96 ≤ t.val → t.val < 120 → PointFacts t := by decide +kernel
theorem facts_f : ∀ t : Fin pl.N, 120 ≤ t.val → t.val < 144 → PointFacts t := by decide +kernel

theorem facts_at (t : Fin pl.N) : PointFacts t := by
  rcases Nat.lt_or_ge t.val 24 with h | h1; · exact facts_a t (Nat.zero_le _) h
  rcases Nat.lt_or_ge t.val 48 with h | h2; · exact facts_b t h1 h
  rcases Nat.lt_or_ge t.val 72 with h | h3; · exact facts_c t h2 h
  rcases Nat.lt_or_ge t.val 96 with h | h4; · exact facts_d t h3 h
  rcases Nat.lt_or_ge t.val 120 with h | h5; · exact facts_e t h4 h
  exact facts_f t h5 t.isLt

end Cert.KernelIdeal.Own

end
-- ==== Proof.Ideal.Runs.lean ====
/- The attention body of `KernelIdeal` run at a point: what it leaves in its scratch and its output, as functions of what
   it finds. -/
module

public import proofs.«01_k».proof.Proof.Ideal.Tables
public import proofs.«01_k».proof.Proof.Gen.KernelIdeal.Skeleton
public import Idealize.ShloMosaic.Lib.Ring
public import Idealize.ShloMosaic.Lib.Exec
public import Idealize.ShloMosaic.Lib.VecWindow
public import Idealize.ShloMosaic.Adequacy

@[expose] public section

set_option maxRecDepth 16384
set_option Elab.async false

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-! ## What the body computes -/

section Values

variable (a b : BitVec 32) (q : S16x256x384.Idx → Elt Ideal .bf16) (k : S512x384.Idx → Elt Ideal .bf16) (v : S256x512.Idx → Elt Ideal .bf16)
  (m l : S1x4096.Idx → Elt Ideal .f32) (acc : S256x4096.Idx → Elt Ideal .f32)

/-- A query tile's scratch at its start. -/
abbrev initM : S1x4096.Idx → Elt Ideal .f32 := k0_pay1 (F := Ideal)
abbrev initL : S1x4096.Idx → Elt Ideal .f32 := k0_pay2 (F := Ideal)
abbrev initA : S256x4096.Idx → Elt Ideal .f32 := k0_pay3 (F := Ideal)
/-- One key tile that lies wholly before the queries: the new maximum, sum and weighted sum. -/
abbrev midM : S1x4096.Idx → Elt Ideal .f32 := k0_pay11 q k m
abbrev midL : S1x4096.Idx → Elt Ideal .f32 := k0_pay9 q k m l
abbrev midA : S256x4096.Idx → Elt Ideal .f32 := k0_pay10 q k m acc v
/-- The last key tile, masked. -/
abbrev lastM : S1x4096.Idx → Elt Ideal .f32 := k0_pay19 (k0_pay13 a b q k m)
abbrev lastL : S1x4096.Idx → Elt Ideal .f32 := k0_pay16 a b q k m l
abbrev lastA : S256x4096.Idx → Elt Ideal .f32 := k0_pay18 (k0_pay15 a b q k m) (k0_pay17 a b q k m acc) v

end Values

/-- One head's slice of the result: the head's columns of the weighted average, turned and multiplied by the head's
    value weights, gated. -/
def headV (o : FVec Ideal S256x4096 .f32) (off : Fin 2 → ℕ) (hs : S256x4096.Slices off S256x256) (w : Vec Ideal S1x256x128 .bf16) (z : Vec Ideal S256x128 .bf16) :
    FVec Ideal S256x128 .bf16 :=
  have g : FVec Ideal S256x128 .f32 := extf .f32 (shapeCast S256x128 z shapeCasts_S256x128_S256x128) bitsLt_bf16_f32
  truncf .bf16
    (mulf
      (matmul dot_S256x256_S256x128_S256x128_1_0_0_1_n_n none
        (truncf .bf16 (transpose S256x256 [1, 0] (extractStridedSlice S256x256 off o hs) transposes_S256x256_p1_0_S256x256) bitsLt_bf16_f32)
        (shapeCast S256x128 w shapeCasts_S1x256x128_S256x128 : FVec Ideal S256x128 .bf16) (constant S256x128 .f32 0x00000000#32))
      (mulf g
        (divf (broadcast S256x128 (Scalar.ofBits .f32 0x3F800000#32))
          (addf (broadcast S256x128 (Scalar.ofBits .f32 0x3F800000#32))
            (exp (subf (broadcast S256x128 (Scalar.ofBits .f32 0x00000000#32)) g))))))
    bitsLt_bf16_f32

/-- The stores of the result, last first. -/
def outPieces (o : FVec Ideal S256x4096 .f32) (z : S256x2048.Idx → Elt Ideal .bf16) (w : S16x256x128.Idx → Elt Ideal .bf16) :
    List (View.Piece (Elt Ideal) S256x2048 .bf16) :=
  [⟨Rect.unit (s := S256x2048) ![0, 1920] S256x128.size inb_S256x2048_S256x128_0_1920, headV o ![0, 3840] slices_S256x4096_o0_3840_S256x256
      (View.ld (Val := Elt Ideal) (e' := .bf16) w (Rect.unit (s := S16x256x128) ![15, 0, 0] S1x256x128.size inb_S16x256x128_S1x256x128_15_0_0))
      (View.ld (Val := Elt Ideal) (e' := .bf16) z (Rect.unit (s := S256x2048) ![0, 1920] S256x128.size inb_S256x2048_S256x128_0_1920))⟩,
   ⟨Rect.unit (s := S256x2048) ![0, 1792] S256x128.size inb_S256x2048_S256x128_0_1792, headV o ![0, 3584] slices_S256x4096_o0_3584_S256x256
      (View.ld (Val := Elt Ideal) (e' := .bf16) w (Rect.unit (s := S16x256x128) ![14, 0, 0] S1x256x128.size inb_S16x256x128_S1x256x128_14_0_0))
      (View.ld (Val := Elt Ideal) (e' := .bf16) z (Rect.unit (s := S256x2048) ![0, 1792] S256x128.size inb_S256x2048_S256x128_0_1792))⟩,
   ⟨Rect.unit (s := S256x2048) ![0, 1664] S256x128.size inb_S256x2048_S256x128_0_1664, headV o ![0, 3328] slices_S256x4096_o0_3328_S256x256
      (View.ld (Val := Elt Ideal) (e' := .bf16) w (Rect.unit (s := S16x256x128) ![13, 0, 0] S1x256x128.size inb_S16x256x128_S1x256x128_13_0_0))
      (View.ld (Val := Elt Ideal) (e' := .bf16) z (Rect.unit (s := S256x2048) ![0, 1664] S256x128.size inb_S256x2048_S256x128_0_1664))⟩,
   ⟨Rect.unit (s := S256x2048) ![0, 1536] S256x128.size inb_S256x2048_S256x128_0_1536, headV o ![0, 3072] slices_S256x4096_o0_3072_S256x256
      (View.ld (Val := Elt Ideal) (e' := .bf16) w (Rect.unit (s := S16x256x128) ![12, 0, 0] S1x256x128.size inb_S16x256x128_S1x256x128_12_0_0))
      (View.ld (Val := Elt Ideal) (e' := .bf16) z (Rect.unit (s := S256x2048) ![0, 1536] S256x128.size inb_S256x2048_S256x128_0_1536))⟩,
   ⟨Rect.unit (s := S256x2048) ![0, 1408] S256x128.size inb_S256x2048_S256x128_0_1408, headV o ![0, 2816] slices_S256x4096_o0_2816_S256x256
      (View.ld (Val := Elt Ideal) (e' := .bf16) w (Rect.unit (s := S16x256x128) ![11, 0, 0] S1x256x128.size inb_S16x256x128_S1x256x128_11_0_0))
      (View.ld (Val := Elt Ideal) (e' := .bf16) z (Rect.unit (s := S256x2048) ![0, 1408] S256x128.size inb_S256x2048_S256x128_0_1408))⟩,
   ⟨Rect.unit (s := S256x2048) ![0, 1280] S256x128.size inb_S256x2048_S256x128_0_1280, headV o ![0, 2560] slices_S256x4096_o0_2560_S256x256
      (View.ld (Val := Elt Ideal) (e' := .bf16) w (Rect.unit (s := S16x256x128) ![10, 0, 0] S1x256x128.size inb_S16x256x128_S1x256x128_10_0_0))
      (View.ld (Val := Elt Ideal) (e' := .bf16) z (Rect.unit (s := S256x2048) ![0, 1280] S256x128.size inb_S256x2048_S256x128_0_1280))⟩,
   ⟨Rect.unit (s := S256x2048) ![0, 1152] S256x128.size inb_S256x2048_S256x128_0_1152, headV o ![0, 2304] slices_S256x4096_o0_2304_S256x256
      (View.ld (Val := Elt Ideal) (e' := .bf16) w (Rect.unit (s := S16x256x128) ![9, 0, 0] S1x256x128.size inb_S16x256x128_S1x256x128_9_0_0))
      (View.ld (Val := Elt Ideal) (e' := .bf16) z (Rect.unit (s := S256x2048) ![0, 1152] S256x128.size inb_S256x2048_S256x128_0_1152))⟩,
   ⟨Rect.unit (s := S256x2048) ![0, 1024] S256x128.size inb_S256x2048_S256x128_0_1024, headV o ![0, 2048] slices_S256x4096_o0_2048_S256x256
      (View.ld (Val := Elt Ideal) (e' := .bf16) w (Rect.unit (s := S16x256x128) ![8, 0, 0] S1x256x128.size inb_S16x256x128_S1x256x128_8_0_0))
      (View.ld (Val := Elt Ideal) (e' := .bf16) z (Rect.unit (s := S256x2048) ![0, 1024] S256x128.size inb_S256x2048_S256x128_0_1024))⟩,
   ⟨Rect.unit (s := S256x2048) ![0, 896] S256x128.size inb_S256x2048_S256x128_0_896, headV o ![0, 1792] slices_S256x4096_o0_1792_S256x256
      (View.ld (Val := Elt Ideal) (e' := .bf16) w (Rect.unit (s := S16x256x128) ![7, 0, 0] S1x256x128.size inb_S16x256x128_S1x256x128_7_0_0))
      (View.ld (Val := Elt Ideal) (e' := .bf16) z (Rect.unit (s := S256x2048) ![0, 896] S256x128.size inb_S256x2048_S256x128_0_896))⟩,
   ⟨Rect.unit (s := S256x2048) ![0, 768] S256x128.size inb_S256x2048_S256x128_0_768, headV o ![0, 1536] slices_S256x4096_o0_1536_S256x256
      (View.ld (Val := Elt Ideal) (e' := .bf16) w (Rect.unit (s := S16x256x128) ![6, 0, 0] S1x256x128.size inb_S16x256x128_S1x256x128_6_0_0))
      (View.ld (Val := Elt Ideal) (e' := .bf16) z (Rect.unit (s := S256x2048) ![0, 768] S256x128.size inb_S256x2048_S256x128_0_768))⟩,
   ⟨Rect.unit (s := S256x2048) ![0, 640] S256x128.size inb_S256x2048_S256x128_0_640, headV o ![0, 1280] slices_S256x4096_o0_1280_S256x256
      (View.ld (Val := Elt Ideal) (e' := .bf16) w (Rect.unit (s := S16x256x128) ![5, 0, 0] S1x256x128.size inb_S16x256x128_S1x256x128_5_0_0))
      (View.ld (Val := Elt Ideal) (e' := .bf16) z (Rect.unit (s := S256x2048) ![0, 640] S256x128.size inb_S256x2048_S256x128_0_640))⟩,
   ⟨Rect.unit (s := S256x2048) ![0, 512] S256x128.size inb_S256x2048_S256x128_0_512, headV o ![0, 1024] slices_S256x4096_o0_1024_S256x256
      (View.ld (Val := Elt Ideal) (e' := .bf16) w (Rect.unit (s := S16x256x128) ![4, 0, 0] S1x256x128.size inb_S16x256x128_S1x256x128_4_0_0))
      (View.ld (Val := Elt Ideal) (e' := .bf16) z (Rect.unit (s := S256x2048) ![0, 512] S256x128.size inb_S256x2048_S256x128_0_512))⟩,
   ⟨Rect.unit (s := S256x2048) ![0, 384] S256x128.size inb_S256x2048_S256x128_0_384, headV o ![0, 768] slices_S256x4096_o0_768_S256x256
      (View.ld (Val := Elt Ideal) (e' := .bf16) w (Rect.unit (s := S16x256x128) ![3, 0, 0] S1x256x128.size inb_S16x256x128_S1x256x128_3_0_0))
      (View.ld (Val := Elt Ideal) (e' := .bf16) z (Rect.unit (s := S256x2048) ![0, 384] S256x128.size inb_S256x2048_S256x128_0_384))⟩,
   ⟨Rect.unit (s := S256x2048) ![0, 256] S256x128.size inb_S256x2048_S256x128_0_256, headV o ![0, 512] slices_S256x4096_o0_512_S256x256
      (View.ld (Val := Elt Ideal) (e' := .bf16) w (Rect.unit (s := S16x256x128) ![2, 0, 0] S1x256x128.size inb_S16x256x128_S1x256x128_2_0_0))
      (View.ld (Val := Elt Ideal) (e' := .bf16) z (Rect.unit (s := S256x2048) ![0, 256] S256x128.size inb_S256x2048_S256x128_0_256))⟩,
   ⟨Rect.unit (s := S256x2048) ![0, 128] S256x128.size inb_S256x2048_S256x128_0_128, headV o ![0, 256] slices_S256x4096_o0_256_S256x256
      (View.ld (Val := Elt Ideal) (e' := .bf16) w (Rect.unit (s := S16x256x128) ![1, 0, 0] S1x256x128.size inb_S16x256x128_S1x256x128_1_0_0))
      (View.ld (Val := Elt Ideal) (e' := .bf16) z (Rect.unit (s := S256x2048) ![0, 128] S256x128.size inb_S256x2048_S256x128_0_128))⟩,
   ⟨Rect.unit (s := S256x2048) ![0, 0] S256x128.size inb_S256x2048_S256x128_0_0, headV o ![0, 0] slices_S256x4096_o0_0_S256x256
      (View.ld (Val := Elt Ideal) (e' := .bf16) w (Rect.unit (s := S16x256x128) ![0, 0, 0] S1x256x128.size inb_S16x256x128_S1x256x128_0_0_0))
      (View.ld (Val := Elt Ideal) (e' := .bf16) z (Rect.unit (s := S256x2048) ![0, 0] S256x128.size inb_S256x2048_S256x128_0_0))⟩]

/-- What the last key tile writes to the output block. -/
def outV (acc : S256x4096.Idx → Elt Ideal .f32) (l : S1x4096.Idx → Elt Ideal .f32) (z : S256x2048.Idx → Elt Ideal .bf16)
    (w : S16x256x128.Idx → Elt Ideal .bf16) : S256x2048.Idx → Elt Ideal .bf16 := View.canon (outPieces (k0_pay20 acc l) z w)

/-- A load of a buffer at known contents reads the contents at the loaded places. -/
theorem readAt_ld {κ : Kind} {sp : Space} {s : Shape} {e : EltTy} (v : View sig κ sp s e) (x : s.Idx → Elt Ideal e) (r : Rect s) :
    v.readAt (Elt Ideal) r.toLoadRect (v.rep x) = View.ld x r := by
  exact View.readAt_rep _ _ _

/-! ## The body at a point -/

set_option backward.proofsInPublic true in
set_option maxHeartbeats 8000000 in
/-- The body at a point where the key tile is the first and not the last. -/
theorem run_firstMid (c : Dev nD) (i : grid0.Coords)
    (q : Memref sig .tc .vmem S16x256x384 .bf16) (hq : q.IsWhole) (k : Memref sig .tc .vmem S512x384 .bf16) (hk : k.IsWhole)
    (v : Memref sig .tc .vmem S256x512 .bf16) (hv : v.IsWhole) (z : Memref sig .tc .vmem S256x2048 .bf16) (hz : z.IsWhole)
    (w : Memref sig .tc .vmem S16x256x128 .bf16) (hw : w.IsWhole) (o : Memref sig .tc .vmem S256x2048 .bf16) (ho : o.IsWhole)
    (T0 T1 : S72.Idx → Elt Ideal .i32)
    (x0 : S16x256x384.Idx → Elt Ideal .bf16) (x1 : S512x384.Idx → Elt Ideal .bf16) (x2 : S256x512.Idx → Elt Ideal .bf16)
    (x3 : S256x2048.Idx → Elt Ideal .bf16) (x4 : S16x256x128.Idx → Elt Ideal .bf16)
    (xm xl : S1x4096.Idx → Elt Ideal .f32) (xa : S256x4096.Idx → Elt Ideal .f32) (d : S256x2048.Idx → Elt Ideal .bf16)
    (h0 : IsFirst (kiW i T1)) (h1 : IsMid (qiW i T0) (kiW i T1)) (h2 : ¬ IsLast (qiW i T0) (kiW i T1)) (K : PUnit → sProp 𝕄) :
    iprop((q.view.loc (c : Thread nD τ) ↦[q.view.set]{fullShare} q.view.rep x0)
      ∗ (k.view.loc (c : Thread nD τ) ↦[k.view.set]{fullShare} k.view.rep x1)
      ∗ (v.view.loc (c : Thread nD τ) ↦[v.view.set]{fullShare} v.view.rep x2)
      ∗ (z.view.loc (c : Thread nD τ) ↦[z.view.set]{fullShare} z.view.rep x3)
      ∗ (w.view.loc (c : Thread nD τ) ↦[w.view.set]{fullShare} w.view.rep x4)
      ∗ (qiM.view.loc (c : Thread nD τ) ↦{fullShare.right} T0) ∗ (kiM.view.loc (c : Thread nD τ) ↦{fullShare.right} T1)
      ∗ owns (c : Thread nD τ) o fullShare d
      ∗ (mxM.view.loc (c : Thread nD τ) ↦[mxM.view.set]{fullShare} mxM.view.rep xm) ∗ (smM.view.loc (c : Thread nD τ) ↦[smM.view.set]{fullShare} smM.view.rep xl) ∗ (acM.view.loc (c : Thread nD τ) ↦[acM.view.set]{fullShare} acM.view.rep xa)
      ∗ (iprop((q.view.loc (c : Thread nD τ) ↦[q.view.set]{fullShare} q.view.rep x0)
          ∗ (k.view.loc (c : Thread nD τ) ↦[k.view.set]{fullShare} k.view.rep x1)
          ∗ (v.view.loc (c : Thread nD τ) ↦[v.view.set]{fullShare} v.view.rep x2)
          ∗ (z.view.loc (c : Thread nD τ) ↦[z.view.set]{fullShare} z.view.rep x3)
          ∗ (w.view.loc (c : Thread nD τ) ↦[w.view.set]{fullShare} w.view.rep x4)
          ∗ (qiM.view.loc (c : Thread nD τ) ↦{fullShare.right} T0) ∗ (kiM.view.loc (c : Thread nD τ) ↦{fullShare.right} T1)
          ∗ owns (c : Thread nD τ) o fullShare d
          ∗ owns (c : Thread nD τ) mxM fullShare (midM x0 x1 (initM)) ∗ owns (c : Thread nD τ) smM fullShare (midL x0 x1 (initM) (initL))
          ∗ owns (c : Thread nD τ) acM fullShare (midA x0 x1 x2 (initM) (initA))) -∗ K ⟨⟩))
    ⊢ wp frame (wpE (defs₀ (F := Ideal)) Variants.none c none) Set.univ
        (cc0_mla_prompt i qiM (Memref.isWhole_whole _) kiM (Memref.isWhole_whole _) q hq k hk v hv z hz w hw o ho
          mxM (Memref.isWhole_whole _) smM (Memref.isWhole_whole _) acM (Memref.isWhole_whole _)) K := by
  rw [cc0_mla_prompt_eq_skeleton]; unfold cc0_mla_prompt_skel
  unfold owns
  iintro ⟨H0, H1, H2, H3, H4, HT0, HT1, HO, HM, HL, HA, Hk⟩
  have hS0 : mxM.IsWhole := Memref.isWhole_whole _
  have hS1 : smM.IsWhole := Memref.isWhole_whole _
  have hS2 : acM.IsWhole := Memref.isWhole_whole _
  have hT0 : qiM.IsWhole := Memref.isWhole_whole _
  have hT1 : kiM.IsWhole := Memref.isWhole_whole _
  sl_exec! (disch := first | (guard_target = Scalar.cmpi = _; exact h0) | (guard_target = Scalar.cmpi = _; exact h1) | (guard_target = ¬(Scalar.cmpi = _); exact h0) | (guard_target = ¬(Scalar.cmpi = _); exact h1) | (guard_target = k0_cond3 _ _ = _; exact h2) | (guard_target = ¬(k0_cond3 _ _ = _); exact h2))
  sl_step
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HO]; · iexact HO
  isplitl [HM]
  · iexists _; isplitr; swap
    · iexact HM
    · ipureintro; sl_unfold_words; rw [View.read_writes_full]; (repeat (first | rw [View.readAt_rep_full] | rw [View.readCov_full] | rw [View.readAt_writes_full])); first | done | with_reducible rfl | rfl
  isplitl [HL]
  · iexists _; isplitr; swap
    · iexact HL
    · ipureintro; sl_unfold_words; rw [View.read_writes_full]; (repeat (first | rw [View.readAt_rep_full] | rw [View.readCov_full] | rw [View.readAt_writes_full])); first | done | with_reducible rfl | rfl
  iexists _; isplitr; swap
  · iexact HA
  · ipureintro; sl_unfold_words; rw [View.read_writes_full]; (repeat (first | rw [View.readAt_rep_full] | rw [View.readCov_full] | rw [View.readAt_writes_full])); first | done | with_reducible rfl | rfl

set_option backward.proofsInPublic true in
set_option maxHeartbeats 8000000 in
/-- The body at a point where the key tile is not the first and not the last. -/
theorem run_nextMid (c : Dev nD) (i : grid0.Coords)
    (q : Memref sig .tc .vmem S16x256x384 .bf16) (hq : q.IsWhole) (k : Memref sig .tc .vmem S512x384 .bf16) (hk : k.IsWhole)
    (v : Memref sig .tc .vmem S256x512 .bf16) (hv : v.IsWhole) (z : Memref sig .tc .vmem S256x2048 .bf16) (hz : z.IsWhole)
    (w : Memref sig .tc .vmem S16x256x128 .bf16) (hw : w.IsWhole) (o : Memref sig .tc .vmem S256x2048 .bf16) (ho : o.IsWhole)
    (T0 T1 : S72.Idx → Elt Ideal .i32)
    (x0 : S16x256x384.Idx → Elt Ideal .bf16) (x1 : S512x384.Idx → Elt Ideal .bf16) (x2 : S256x512.Idx → Elt Ideal .bf16)
    (x3 : S256x2048.Idx → Elt Ideal .bf16) (x4 : S16x256x128.Idx → Elt Ideal .bf16)
    (xm xl : S1x4096.Idx → Elt Ideal .f32) (xa : S256x4096.Idx → Elt Ideal .f32) (d : S256x2048.Idx → Elt Ideal .bf16)
    (h0 : ¬ IsFirst (kiW i T1)) (h1 : IsMid (qiW i T0) (kiW i T1)) (h2 : ¬ IsLast (qiW i T0) (kiW i T1)) (K : PUnit → sProp 𝕄) :
    iprop((q.view.loc (c : Thread nD τ) ↦[q.view.set]{fullShare} q.view.rep x0)
      ∗ (k.view.loc (c : Thread nD τ) ↦[k.view.set]{fullShare} k.view.rep x1)
      ∗ (v.view.loc (c : Thread nD τ) ↦[v.view.set]{fullShare} v.view.rep x2)
      ∗ (z.view.loc (c : Thread nD τ) ↦[z.view.set]{fullShare} z.view.rep x3)
      ∗ (w.view.loc (c : Thread nD τ) ↦[w.view.set]{fullShare} w.view.rep x4)
      ∗ (qiM.view.loc (c : Thread nD τ) ↦{fullShare.right} T0) ∗ (kiM.view.loc (c : Thread nD τ) ↦{fullShare.right} T1)
      ∗ owns (c : Thread nD τ) o fullShare d
      ∗ (mxM.view.loc (c : Thread nD τ) ↦[mxM.view.set]{fullShare} mxM.view.rep xm) ∗ (smM.view.loc (c : Thread nD τ) ↦[smM.view.set]{fullShare} smM.view.rep xl) ∗ (acM.view.loc (c : Thread nD τ) ↦[acM.view.set]{fullShare} acM.view.rep xa)
      ∗ (iprop((q.view.loc (c : Thread nD τ) ↦[q.view.set]{fullShare} q.view.rep x0)
          ∗ (k.view.loc (c : Thread nD τ) ↦[k.view.set]{fullShare} k.view.rep x1)
          ∗ (v.view.loc (c : Thread nD τ) ↦[v.view.set]{fullShare} v.view.rep x2)
          ∗ (z.view.loc (c : Thread nD τ) ↦[z.view.set]{fullShare} z.view.rep x3)
          ∗ (w.view.loc (c : Thread nD τ) ↦[w.view.set]{fullShare} w.view.rep x4)
          ∗ (qiM.view.loc (c : Thread nD τ) ↦{fullShare.right} T0) ∗ (kiM.view.loc (c : Thread nD τ) ↦{fullShare.right} T1)
          ∗ owns (c : Thread nD τ) o fullShare d
          ∗ owns (c : Thread nD τ) mxM fullShare (midM x0 x1 xm) ∗ owns (c : Thread nD τ) smM fullShare (midL x0 x1 xm xl)
          ∗ owns (c : Thread nD τ) acM fullShare (midA x0 x1 x2 xm xa)) -∗ K ⟨⟩))
    ⊢ wp frame (wpE (defs₀ (F := Ideal)) Variants.none c none) Set.univ
        (cc0_mla_prompt i qiM (Memref.isWhole_whole _) kiM (Memref.isWhole_whole _) q hq k hk v hv z hz w hw o ho
          mxM (Memref.isWhole_whole _) smM (Memref.isWhole_whole _) acM (Memref.isWhole_whole _)) K := by
  rw [cc0_mla_prompt_eq_skeleton]; unfold cc0_mla_prompt_skel
  unfold owns
  iintro ⟨H0, H1, H2, H3, H4, HT0, HT1, HO, HM, HL, HA, Hk⟩
  have hS0 : mxM.IsWhole := Memref.isWhole_whole _
  have hS1 : smM.IsWhole := Memref.isWhole_whole _
  have hS2 : acM.IsWhole := Memref.isWhole_whole _
  have hT0 : qiM.IsWhole := Memref.isWhole_whole _
  have hT1 : kiM.IsWhole := Memref.isWhole_whole _
  sl_exec! (disch := first | (guard_target = Scalar.cmpi = _; exact h0) | (guard_target = Scalar.cmpi = _; exact h1) | (guard_target = ¬(Scalar.cmpi = _); exact h0) | (guard_target = ¬(Scalar.cmpi = _); exact h1) | (guard_target = k0_cond3 _ _ = _; exact h2) | (guard_target = ¬(k0_cond3 _ _ = _); exact h2))
  sl_step
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HO]; · iexact HO
  isplitl [HM]
  · iexists _; isplitr; swap
    · iexact HM
    · ipureintro; sl_unfold_words; rw [View.read_writes_full]; (repeat (first | rw [View.readAt_rep_full] | rw [View.readCov_full] | rw [View.readAt_writes_full])); first | done | with_reducible rfl | rfl
  isplitl [HL]
  · iexists _; isplitr; swap
    · iexact HL
    · ipureintro; sl_unfold_words; rw [View.read_writes_full]; (repeat (first | rw [View.readAt_rep_full] | rw [View.readCov_full] | rw [View.readAt_writes_full])); first | done | with_reducible rfl | rfl
  iexists _; isplitr; swap
  · iexact HA
  · ipureintro; sl_unfold_words; rw [View.read_writes_full]; (repeat (first | rw [View.readAt_rep_full] | rw [View.readCov_full] | rw [View.readAt_writes_full])); first | done | with_reducible rfl | rfl

set_option backward.proofsInPublic true in
set_option maxHeartbeats 8000000 in
/-- The body at a point where the key tile is the first and the last. -/
theorem run_firstLast (c : Dev nD) (i : grid0.Coords)
    (q : Memref sig .tc .vmem S16x256x384 .bf16) (hq : q.IsWhole) (k : Memref sig .tc .vmem S512x384 .bf16) (hk : k.IsWhole)
    (v : Memref sig .tc .vmem S256x512 .bf16) (hv : v.IsWhole) (z : Memref sig .tc .vmem S256x2048 .bf16) (hz : z.IsWhole)
    (w : Memref sig .tc .vmem S16x256x128 .bf16) (hw : w.IsWhole) (o : Memref sig .tc .vmem S256x2048 .bf16) (ho : o.IsWhole)
    (T0 T1 : S72.Idx → Elt Ideal .i32)
    (x0 : S16x256x384.Idx → Elt Ideal .bf16) (x1 : S512x384.Idx → Elt Ideal .bf16) (x2 : S256x512.Idx → Elt Ideal .bf16)
    (x3 : S256x2048.Idx → Elt Ideal .bf16) (x4 : S16x256x128.Idx → Elt Ideal .bf16)
    (xm xl : S1x4096.Idx → Elt Ideal .f32) (xa : S256x4096.Idx → Elt Ideal .f32)
    (h0 : IsFirst (kiW i T1)) (h1 : ¬ IsMid (qiW i T0) (kiW i T1)) (h2 : IsLast (qiW i T0) (kiW i T1)) (K : PUnit → sProp 𝕄) :
    iprop((q.view.loc (c : Thread nD τ) ↦[q.view.set]{fullShare} q.view.rep x0)
      ∗ (k.view.loc (c : Thread nD τ) ↦[k.view.set]{fullShare} k.view.rep x1)
      ∗ (v.view.loc (c : Thread nD τ) ↦[v.view.set]{fullShare} v.view.rep x2)
      ∗ (z.view.loc (c : Thread nD τ) ↦[z.view.set]{fullShare} z.view.rep x3)
      ∗ (w.view.loc (c : Thread nD τ) ↦[w.view.set]{fullShare} w.view.rep x4)
      ∗ (qiM.view.loc (c : Thread nD τ) ↦{fullShare.right} T0) ∗ (kiM.view.loc (c : Thread nD τ) ↦{fullShare.right} T1)
      ∗ (∃ d, owns (c : Thread nD τ) o fullShare d)
      ∗ (mxM.view.loc (c : Thread nD τ) ↦[mxM.view.set]{fullShare} mxM.view.rep xm) ∗ (smM.view.loc (c : Thread nD τ) ↦[smM.view.set]{fullShare} smM.view.rep xl) ∗ (acM.view.loc (c : Thread nD τ) ↦[acM.view.set]{fullShare} acM.view.rep xa)
      ∗ (iprop((q.view.loc (c : Thread nD τ) ↦[q.view.set]{fullShare} q.view.rep x0)
          ∗ (k.view.loc (c : Thread nD τ) ↦[k.view.set]{fullShare} k.view.rep x1)
          ∗ (v.view.loc (c : Thread nD τ) ↦[v.view.set]{fullShare} v.view.rep x2)
          ∗ (z.view.loc (c : Thread nD τ) ↦[z.view.set]{fullShare} z.view.rep x3)
          ∗ (w.view.loc (c : Thread nD τ) ↦[w.view.set]{fullShare} w.view.rep x4)
          ∗ (qiM.view.loc (c : Thread nD τ) ↦{fullShare.right} T0) ∗ (kiM.view.loc (c : Thread nD τ) ↦{fullShare.right} T1)
          ∗ owns (c : Thread nD τ) o fullShare (outV (lastA (qiW i T0) (kiW i T1) x0 x1 x2 (initM) (initA)) (lastL (qiW i T0) (kiW i T1) x0 x1 (initM) (initL)) x3 x4)
          ∗ owns (c : Thread nD τ) mxM fullShare (lastM (qiW i T0) (kiW i T1) x0 x1 (initM)) ∗ owns (c : Thread nD τ) smM fullShare (lastL (qiW i T0) (kiW i T1) x0 x1 (initM) (initL))
          ∗ owns (c : Thread nD τ) acM fullShare (lastA (qiW i T0) (kiW i T1) x0 x1 x2 (initM) (initA))) -∗ K ⟨⟩))
    ⊢ wp frame (wpE (defs₀ (F := Ideal)) Variants.none c none) Set.univ
        (cc0_mla_prompt i qiM (Memref.isWhole_whole _) kiM (Memref.isWhole_whole _) q hq k hk v hv z hz w hw o ho
          mxM (Memref.isWhole_whole _) smM (Memref.isWhole_whole _) acM (Memref.isWhole_whole _)) K := by
  rw [cc0_mla_prompt_eq_skeleton]; unfold cc0_mla_prompt_skel
  unfold owns
  iintro ⟨H0, H1, H2, H3, H4, HT0, HT1, ⟨%d, %f, -, HO⟩, HM, HL, HA, Hk⟩
  have hS0 : mxM.IsWhole := Memref.isWhole_whole _
  have hS1 : smM.IsWhole := Memref.isWhole_whole _
  have hS2 : acM.IsWhole := Memref.isWhole_whole _
  have hT0 : qiM.IsWhole := Memref.isWhole_whole _
  have hT1 : kiM.IsWhole := Memref.isWhole_whole _
  sl_exec! (disch := first | (guard_target = Scalar.cmpi = _; exact h0) | (guard_target = Scalar.cmpi = _; exact h1) | (guard_target = ¬(Scalar.cmpi = _); exact h0) | (guard_target = ¬(Scalar.cmpi = _); exact h1) | (guard_target = k0_cond3 _ _ = _; exact h2) | (guard_target = ¬(k0_cond3 _ _ = _); exact h2))
  sl_step
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HO]
  · iexists _; isplitr; swap
    · iexact HO
    · ipureintro; rw [View.read_writes_eq_canon _ _ _ ?hc]; swap; (· intro y; exact View.cover_of_tiledL (s := S256x2048) _ S256x128.size (by sl_kernel_rfl) y); unfold outV; refine congrArg (View.canon (Val := Elt Ideal)) ?_; sl_unfold_words; (repeat (first | rw [View.readAt_rep_full] | rw [View.readCov_full] | rw [View.readAt_writes_full])); (repeat rw [readAt_ld]); unfold outPieces headV; rfl
  isplitl [HM]
  · iexists _; isplitr; swap
    · iexact HM
    · ipureintro; sl_unfold_words; rw [View.read_writes_full]; (repeat (first | rw [View.readAt_rep_full] | rw [View.readCov_full] | rw [View.readAt_writes_full])); first | done | with_reducible rfl | rfl
  isplitl [HL]
  · iexists _; isplitr; swap
    · iexact HL
    · ipureintro; sl_unfold_words; rw [View.read_writes_full]; (repeat (first | rw [View.readAt_rep_full] | rw [View.readCov_full] | rw [View.readAt_writes_full])); first | done | with_reducible rfl | rfl
  iexists _; isplitr; swap
  · iexact HA
  · ipureintro; sl_unfold_words; rw [View.read_writes_full]; (repeat (first | rw [View.readAt_rep_full] | rw [View.readCov_full] | rw [View.readAt_writes_full])); first | done | with_reducible rfl | rfl

set_option backward.proofsInPublic true in
set_option maxHeartbeats 8000000 in
/-- The body at a point where the key tile is not the first and the last. -/
theorem run_nextLast (c : Dev nD) (i : grid0.Coords)
    (q : Memref sig .tc .vmem S16x256x384 .bf16) (hq : q.IsWhole) (k : Memref sig .tc .vmem S512x384 .bf16) (hk : k.IsWhole)
    (v : Memref sig .tc .vmem S256x512 .bf16) (hv : v.IsWhole) (z : Memref sig .tc .vmem S256x2048 .bf16) (hz : z.IsWhole)
    (w : Memref sig .tc .vmem S16x256x128 .bf16) (hw : w.IsWhole) (o : Memref sig .tc .vmem S256x2048 .bf16) (ho : o.IsWhole)
    (T0 T1 : S72.Idx → Elt Ideal .i32)
    (x0 : S16x256x384.Idx → Elt Ideal .bf16) (x1 : S512x384.Idx → Elt Ideal .bf16) (x2 : S256x512.Idx → Elt Ideal .bf16)
    (x3 : S256x2048.Idx → Elt Ideal .bf16) (x4 : S16x256x128.Idx → Elt Ideal .bf16)
    (xm xl : S1x4096.Idx → Elt Ideal .f32) (xa : S256x4096.Idx → Elt Ideal .f32)
    (h0 : ¬ IsFirst (kiW i T1)) (h1 : ¬ IsMid (qiW i T0) (kiW i T1)) (h2 : IsLast (qiW i T0) (kiW i T1)) (K : PUnit → sProp 𝕄) :
    iprop((q.view.loc (c : Thread nD τ) ↦[q.view.set]{fullShare} q.view.rep x0)
      ∗ (k.view.loc (c : Thread nD τ) ↦[k.view.set]{fullShare} k.view.rep x1)
      ∗ (v.view.loc (c : Thread nD τ) ↦[v.view.set]{fullShare} v.view.rep x2)
      ∗ (z.view.loc (c : Thread nD τ) ↦[z.view.set]{fullShare} z.view.rep x3)
      ∗ (w.view.loc (c : Thread nD τ) ↦[w.view.set]{fullShare} w.view.rep x4)
      ∗ (qiM.view.loc (c : Thread nD τ) ↦{fullShare.right} T0) ∗ (kiM.view.loc (c : Thread nD τ) ↦{fullShare.right} T1)
      ∗ (∃ d, owns (c : Thread nD τ) o fullShare d)
      ∗ (mxM.view.loc (c : Thread nD τ) ↦[mxM.view.set]{fullShare} mxM.view.rep xm) ∗ (smM.view.loc (c : Thread nD τ) ↦[smM.view.set]{fullShare} smM.view.rep xl) ∗ (acM.view.loc (c : Thread nD τ) ↦[acM.view.set]{fullShare} acM.view.rep xa)
      ∗ (iprop((q.view.loc (c : Thread nD τ) ↦[q.view.set]{fullShare} q.view.rep x0)
          ∗ (k.view.loc (c : Thread nD τ) ↦[k.view.set]{fullShare} k.view.rep x1)
          ∗ (v.view.loc (c : Thread nD τ) ↦[v.view.set]{fullShare} v.view.rep x2)
          ∗ (z.view.loc (c : Thread nD τ) ↦[z.view.set]{fullShare} z.view.rep x3)
          ∗ (w.view.loc (c : Thread nD τ) ↦[w.view.set]{fullShare} w.view.rep x4)
          ∗ (qiM.view.loc (c : Thread nD τ) ↦{fullShare.right} T0) ∗ (kiM.view.loc (c : Thread nD τ) ↦{fullShare.right} T1)
          ∗ owns (c : Thread nD τ) o fullShare (outV (lastA (qiW i T0) (kiW i T1) x0 x1 x2 xm xa) (lastL (qiW i T0) (kiW i T1) x0 x1 xm xl) x3 x4)
          ∗ owns (c : Thread nD τ) mxM fullShare (lastM (qiW i T0) (kiW i T1) x0 x1 xm) ∗ owns (c : Thread nD τ) smM fullShare (lastL (qiW i T0) (kiW i T1) x0 x1 xm xl)
          ∗ owns (c : Thread nD τ) acM fullShare (lastA (qiW i T0) (kiW i T1) x0 x1 x2 xm xa)) -∗ K ⟨⟩))
    ⊢ wp frame (wpE (defs₀ (F := Ideal)) Variants.none c none) Set.univ
        (cc0_mla_prompt i qiM (Memref.isWhole_whole _) kiM (Memref.isWhole_whole _) q hq k hk v hv z hz w hw o ho
          mxM (Memref.isWhole_whole _) smM (Memref.isWhole_whole _) acM (Memref.isWhole_whole _)) K := by
  rw [cc0_mla_prompt_eq_skeleton]; unfold cc0_mla_prompt_skel
  unfold owns
  iintro ⟨H0, H1, H2, H3, H4, HT0, HT1, ⟨%d, %f, -, HO⟩, HM, HL, HA, Hk⟩
  have hS0 : mxM.IsWhole := Memref.isWhole_whole _
  have hS1 : smM.IsWhole := Memref.isWhole_whole _
  have hS2 : acM.IsWhole := Memref.isWhole_whole _
  have hT0 : qiM.IsWhole := Memref.isWhole_whole _
  have hT1 : kiM.IsWhole := Memref.isWhole_whole _
  sl_exec! (disch := first | (guard_target = Scalar.cmpi = _; exact h0) | (guard_target = Scalar.cmpi = _; exact h1) | (guard_target = ¬(Scalar.cmpi = _); exact h0) | (guard_target = ¬(Scalar.cmpi = _); exact h1) | (guard_target = k0_cond3 _ _ = _; exact h2) | (guard_target = ¬(k0_cond3 _ _ = _); exact h2))
  sl_step
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HO]
  · iexists _; isplitr; swap
    · iexact HO
    · ipureintro; rw [View.read_writes_eq_canon _ _ _ ?hc]; swap; (· intro y; exact View.cover_of_tiledL (s := S256x2048) _ S256x128.size (by sl_kernel_rfl) y); unfold outV; refine congrArg (View.canon (Val := Elt Ideal)) ?_; sl_unfold_words; (repeat (first | rw [View.readAt_rep_full] | rw [View.readCov_full] | rw [View.readAt_writes_full])); (repeat rw [readAt_ld]); unfold outPieces headV; rfl
  isplitl [HM]
  · iexists _; isplitr; swap
    · iexact HM
    · ipureintro; sl_unfold_words; rw [View.read_writes_full]; (repeat (first | rw [View.readAt_rep_full] | rw [View.readCov_full] | rw [View.readAt_writes_full])); first | done | with_reducible rfl | rfl
  isplitl [HL]
  · iexists _; isplitr; swap
    · iexact HL
    · ipureintro; sl_unfold_words; rw [View.read_writes_full]; (repeat (first | rw [View.readAt_rep_full] | rw [View.readCov_full] | rw [View.readAt_writes_full])); first | done | with_reducible rfl | rfl
  iexists _; isplitr; swap
  · iexact HA
  · ipureintro; sl_unfold_words; rw [View.read_writes_full]; (repeat (first | rw [View.readAt_rep_full] | rw [View.readCov_full] | rw [View.readAt_writes_full])); first | done | with_reducible rfl | rfl

end Cert.KernelIdeal.Own

end
-- ==== Proof.Ideal.Frame.lean ====
/- The attention call of `KernelIdeal` from its launch: what its scratch holds at each point, the pipeline's data, and its
   frame. -/
module

public import proofs.«01_k».proof.Proof.Ideal.Runs
public import Idealize.ShloMosaic.Lib.Pipeline.Frame
public import Idealize.ShloMosaic.Lib.Pipeline.Quiescent
public import Idealize.ShloMosaic.Lib.Claim

@[expose] public section

set_option maxRecDepth 16384
set_option Elab.async false

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation BodyObligationLoose)

local notation "𝕄" => MT nD τ sig Unit (Elt Ideal) ℕ (UR sig nD τ) ℕ

/-- What a core's buffers hold when the call is reached. -/
abbrev entryV (m : (ℓ : Loc nD τ sig) → Buf (Elt Ideal) ℓ) (c : Dev nD) (b : Ref sig .tc) : Buf (Elt Ideal) ((c : Thread nD τ).loc b) :=
  StableHlo.after hostOps0 (fun b => m (c, b)) b

variable (m : (ℓ : Loc nD τ sig) → Buf (Elt Ideal) ℓ)

/-! ## The scratch, point by point -/

/-- A window's block at a point. -/
def blk (c : Dev nD) (w : Fin pl.W) (t : Fin pl.N) : ((pl.win w).xblock (pt t)).Idx → Elt Ideal (pl.win w).elt :=
  ((pl.win w).blk t).view.read (Elt Ideal) (entryV m c (Pipeline.arrRef pl.spec w))
abbrev blk0 (c : Dev nD) (t : Fin pl.N) : S16x256x384.Idx → Elt Ideal .bf16 := blk m c (0 : Fin 6) t
abbrev blk1 (c : Dev nD) (t : Fin pl.N) : S512x384.Idx → Elt Ideal .bf16 := blk m c (1 : Fin 6) t
abbrev blk2 (c : Dev nD) (t : Fin pl.N) : S256x512.Idx → Elt Ideal .bf16 := blk m c (2 : Fin 6) t
abbrev blk3 (c : Dev nD) (t : Fin pl.N) : S256x2048.Idx → Elt Ideal .bf16 := blk m c (3 : Fin 6) t
abbrev blk4 (c : Dev nD) (t : Fin pl.N) : S16x256x128.Idx → Elt Ideal .bf16 := blk m c (4 : Fin 6) t

/-- The scratch's contents: running maximum, running sum, running weighted sum. -/
structure St where
  mx : S1x4096.Idx → Elt Ideal .f32
  sm : S1x4096.Idx → Elt Ideal .f32
  ac : S256x4096.Idx → Elt Ideal .f32

/-- A query tile's first key tile starts from the initial contents. -/
def start (t : Fin pl.N) (s : St) : St := if IsFirst (kb t) then ⟨initM, initL, initA⟩ else s
/-- One key tile's update, unmasked or masked. -/
def upd (c : Dev nD) (t : Fin pl.N) (s : St) : St :=
  if IsMid (qa t) (kb t) then
    ⟨midM (blk0 m c t) (blk1 m c t) s.mx, midL (blk0 m c t) (blk1 m c t) s.mx s.sm,
      midA (blk0 m c t) (blk1 m c t) (blk2 m c t) s.mx s.ac⟩
  else
    ⟨lastM (qa t) (kb t) (blk0 m c t) (blk1 m c t) s.mx, lastL (qa t) (kb t) (blk0 m c t) (blk1 m c t) s.mx s.sm,
      lastA (qa t) (kb t) (blk0 m c t) (blk1 m c t) (blk2 m c t) s.mx s.ac⟩

/-- The scratch before point `n`. -/
def st (c : Dev nD) : ℕ → St
  | 0 => ⟨initM, initL, initA⟩
  | n + 1 => if h : n < pl.N then upd m c ⟨n, h⟩ (start ⟨n, h⟩ (st c n)) else st c n

theorem st_succ (c : Dev nD) (t : Fin pl.N) : st m c (t.val + 1) = upd m c t (start t (st m c t.val)) := by
  rw [st, dif_pos t.isLt]

/-- What the output window's buffer is given at a point that writes it. -/
def outB (c : Dev nD) (t : Fin pl.N) : S256x2048.Idx → Elt Ideal .bf16 :=
  outV (st m c (t.val + 1)).ac (st m c (t.val + 1)).sm (blk3 m c t) (blk4 m c t)

/-! ## The pipeline's data -/

/-- Before a point: the scratch at its contents there (anything before the first point), the body's halves of the
    tables. -/
def Phi (c : Dev nD) (t : Fin (pl.N + 1)) : sProp 𝕄 :=
  iprop((∃ s : St, ⌜t.val ≠ 0 → s = st m c t.val⌝ ∗ owns (c : Thread nD τ) mxM fullShare s.mx
      ∗ owns (c : Thread nD τ) smM fullShare s.sm ∗ owns (c : Thread nD τ) acM fullShare s.ac)
    ∗ (qiM.view.loc (c : Thread nD τ) ↦{fullShare.right} qiT) ∗ (kiM.view.loc (c : Thread nD τ) ↦{fullShare.right} kiT)
    ∗ ∃ r, prngReg c r)

def dats (_ : Fin 1) (c : Dev nD) : Dat τ (Elt Ideal) Unit ℕ (UR sig nD τ) ℕ pl c where
  A w := entryV m c (Pipeline.arrRef pl.spec w)
  after w t := match w with
    | ⟨0, _⟩ => blk m c (0 : Fin 6) t
    | ⟨1, _⟩ => blk m c (1 : Fin 6) t
    | ⟨2, _⟩ => blk m c (2 : Fin 6) t
    | ⟨3, _⟩ => blk m c (3 : Fin 6) t
    | ⟨4, _⟩ => blk m c (4 : Fin 6) t
    | ⟨5, _⟩ => outB m c t
  Φ t := Phi m c t
  q _ := fullShare
  owed _ := 0

theorem after_0 (c : Dev nD) (t : Fin pl.N) : (dats m 0 c).after (0 : Fin 6) t = blk m c (0 : Fin 6) t := rfl
theorem after_1 (c : Dev nD) (t : Fin pl.N) : (dats m 0 c).after (1 : Fin 6) t = blk m c (1 : Fin 6) t := rfl
theorem after_2 (c : Dev nD) (t : Fin pl.N) : (dats m 0 c).after (2 : Fin 6) t = blk m c (2 : Fin 6) t := rfl
theorem after_3 (c : Dev nD) (t : Fin pl.N) : (dats m 0 c).after (3 : Fin 6) t = blk m c (3 : Fin 6) t := rfl
theorem after_4 (c : Dev nD) (t : Fin pl.N) : (dats m 0 c).after (4 : Fin 6) t = blk m c (4 : Fin 6) t := rfl
theorem after_5 (c : Dev nD) (t : Fin pl.N) : (dats m 0 c).after (5 : Fin 6) t = outB m c t := rfl

/-- An input window holds its block at every point. -/
theorem before_0 (c : Dev nD) (t : Fin pl.N) (d) : (dats m 0 c).before (0 : Fin 6) t d = blk m c (0 : Fin 6) t :=
  ((dats m 0 c).before_in_eq_fetched (0 : Fin 6) rfl (fun _ => rfl) (fun _ _ _ => rfl) (fun t => by rw [after_0]; unfold Dat.blockOf blk; rfl) t d).trans
    (by unfold Dat.fetched Dat.blockOf blk; rfl)
theorem before_1 (c : Dev nD) (t : Fin pl.N) (d) : (dats m 0 c).before (1 : Fin 6) t d = blk m c (1 : Fin 6) t :=
  ((dats m 0 c).before_in_eq_fetched (1 : Fin 6) rfl (fun _ => rfl) (fun _ _ _ => rfl) (fun t => by rw [after_1]; unfold Dat.blockOf blk; rfl) t d).trans
    (by unfold Dat.fetched Dat.blockOf blk; rfl)
theorem before_2 (c : Dev nD) (t : Fin pl.N) (d) : (dats m 0 c).before (2 : Fin 6) t d = blk m c (2 : Fin 6) t :=
  ((dats m 0 c).before_in_eq_fetched (2 : Fin 6) rfl (fun _ => rfl) (fun _ _ _ => rfl) (fun t => by rw [after_2]; unfold Dat.blockOf blk; rfl) t d).trans
    (by unfold Dat.fetched Dat.blockOf blk; rfl)
theorem before_3 (c : Dev nD) (t : Fin pl.N) (d) : (dats m 0 c).before (3 : Fin 6) t d = blk m c (3 : Fin 6) t :=
  ((dats m 0 c).before_in_eq_fetched (3 : Fin 6) rfl (fun _ => rfl) (fun _ _ _ => rfl) (fun t => by rw [after_3]; unfold Dat.blockOf blk; rfl) t d).trans
    (by unfold Dat.fetched Dat.blockOf blk; rfl)
theorem before_4 (c : Dev nD) (t : Fin pl.N) (d) : (dats m 0 c).before (4 : Fin 6) t d = blk m c (4 : Fin 6) t :=
  ((dats m 0 c).before_in_eq_fetched (4 : Fin 6) rfl (fun _ => rfl) (fun _ _ _ => rfl) (fun t => by rw [after_4]; unfold Dat.blockOf blk; rfl) t d).trans
    (by unfold Dat.fetched Dat.blockOf blk; rfl)

/-- The output's buffer holds nothing of worth when a point begins: the point before left it alone or wrote it back. -/
theorem fresh_5 (t : Fin pl.N) : pl.fresh (5 : Fin 6) t.val = true :=
  Pipeline.Cfg.fresh_tab pl (5 : Fin 6) (fun _ => true) rfl (fun t => by
    by_cases h : IsMid (qa t) (kb t)
    · obtain ⟨-, hi, hf⟩ := (facts_at t).1 h
      rw [hi]; simp
    · obtain ⟨-, hi, hf⟩ := (facts_at t).2.1 h
      rw [hf]; simp) t.val (Nat.le_of_lt t.isLt)

theorem before_5 (c : Dev nD) (t : Fin pl.N) (d) : (dats m 0 c).before (5 : Fin 6) t d = d := by
  rw [(dats m 0 c).before_out_traj (5 : Fin 6) rfl (fun _ _ => rfl)
    (fun t _ _ hf => absurd (hf.symm.trans (fresh_5 t)) Bool.false_ne_true) t.val t rfl d, if_pos (fresh_5 t)]

/-! ## The body at a point -/

abbrev bodyAt (t : Fin pl.N) : Prog (TpuEff nD τ sig (Elt Ideal) Λ₀ .tc) PUnit :=
  cc0_mla_prompt (pt t) qiM (Memref.isWhole_whole _) kiM (Memref.isWhole_whole _) (ms0 t) (hs0 t) (ms1 t) (hs1 t) (ms2 t) (hs2 t)
    (ms3 t) (hs3 t) (ms4 t) (hs4 t) (ms5 t) (hs5 t)
    mxM (Memref.isWhole_whole _) smM (Memref.isWhole_whole _) acM (Memref.isWhole_whole _)

set_option maxHeartbeats 4000000 in
theorem sound_body (c : Dev nD) (t : Fin pl.N) :
    iprop((dats m 0 c).Φ t.castSucc ∗ (dats m 0 c).owesAt () t.castSucc
        ∗ (∃ d, owns (c : Thread nD τ) (ms0 t) fullShare ((dats m 0 c).before (0 : Fin 6) t d))
        ∗ (∃ d, owns (c : Thread nD τ) (ms1 t) fullShare ((dats m 0 c).before (1 : Fin 6) t d))
        ∗ (∃ d, owns (c : Thread nD τ) (ms2 t) fullShare ((dats m 0 c).before (2 : Fin 6) t d))
        ∗ (∃ d, owns (c : Thread nD τ) (ms3 t) fullShare ((dats m 0 c).before (3 : Fin 6) t d))
        ∗ (∃ d, owns (c : Thread nD τ) (ms4 t) fullShare ((dats m 0 c).before (4 : Fin 6) t d))
        ∗ (∃ d, owns (c : Thread nD τ) (ms5 t) fullShare ((dats m 0 c).before (5 : Fin 6) t d)))
      ⊢ wp frame (wpE (defs₀ (F := Ideal)) Variants.none c none) Set.univ (bodyAt t) fun _ =>
          iprop((dats m 0 c).Φ t.succ ∗ (dats m 0 c).owesAt () t.succ
            ∗ bigSep Finset.univ fun w : Fin pl.W =>
                match pl.idle w (pl.grid.coords t) with
                | true =>
                  match (pl.win w).flush t with
                  | false => iprop(∃ d, owns (c : Thread nD τ) ((pl.win w).stage (pl.slots t w)) fullShare ((dats m 0 c).before w t d))
                  | true => owns (c : Thread nD τ) ((pl.win w).stage (pl.slots t w)) fullShare ((dats m 0 c).after w t)
                | false => owns (c : Thread nD τ) ((pl.win w).stage (pl.slots t w)) fullShare ((dats m 0 c).after w t)) := by
  rw [bigSep_W0]
  obtain ⟨hmid, hlast, hzero⟩ := facts_at t
  by_cases q1 : IsMid (qa t) (kb t)
  · by_cases q0 : IsFirst (kb t)
    · obtain ⟨hl, i5, f5⟩ := hmid q1
      rewrite [i5]
      simp only [before_0, before_1, before_2, before_3, before_4, before_5, after_0, after_1, after_2, after_3, after_4, after_5, f5]
      rewrite [show (dats m 0 c).Φ t.succ = Phi m c t.succ from rfl, show (dats m 0 c).Φ t.castSucc = Phi m c t.castSucc from rfl,
        show (dats m 0 c).owesAt () t.succ = (dats m 0 c).owesAt () t.castSucc from rfl]
      unfold Phi
      iintro ⟨⟨⟨%s, %hs, HM, HL, HA⟩, HT0, HT1, Hg⟩, Ho, ⟨%d0, H0⟩, ⟨%d1, H1⟩, ⟨%d2, H2⟩, ⟨%d3, H3⟩, ⟨%d4, H4⟩, ⟨%d5, H5⟩⟩
      have hst : st m c t.succ.val = upd m c t (start t s) := by
        rw [Fin.val_succ, st_succ]
        unfold start; rw [if_pos q0, if_pos q0]
      unfold start at hst; rw [if_pos q0] at hst
      unfold upd at hst; rw [if_pos q1] at hst
      iapply (run_firstMid c (pt t) (ms0 t) (hs0 t) (ms1 t) (hs1 t) (ms2 t) (hs2 t) (ms3 t) (hs3 t) (ms4 t) (hs4 t) (ms5 t) (hs5 t) qiT kiT
        (blk0 m c t) (blk1 m c t) (blk2 m c t) (blk3 m c t) (blk4 m c t) s.mx s.sm s.ac d5 q0 q1 hl _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexact H5
      isplitl [HM]; · iapply rep_of_owns; iexact HM
      isplitl [HL]; · iapply rep_of_owns; iexact HL
      isplitl [HA]; · iapply rep_of_owns; iexact HA
      iintro ⟨H0, H1, H2, H3, H4, HT0, HT1, H5, HM, HL, HA⟩
      isplitl [HM HL HA HT0 HT1 Hg]
      · isplitl [HM HL HA]
        · iexists (st m c t.succ.val); isplitr
          · ipureintro; intro _; rfl
          rw [hst]
          isplitl [HM]; · iexact HM
          isplitl [HL]; · iexact HL
          iexact HA
        isplitl [HT0]; · iexact HT0
        isplitl [HT1]; · iexact HT1
        iexact Hg
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      iexists d5; iexact H5
    · obtain ⟨hl, i5, f5⟩ := hmid q1
      rewrite [i5]
      simp only [before_0, before_1, before_2, before_3, before_4, before_5, after_0, after_1, after_2, after_3, after_4, after_5, f5]
      rewrite [show (dats m 0 c).Φ t.succ = Phi m c t.succ from rfl, show (dats m 0 c).Φ t.castSucc = Phi m c t.castSucc from rfl,
        show (dats m 0 c).owesAt () t.succ = (dats m 0 c).owesAt () t.castSucc from rfl]
      unfold Phi
      iintro ⟨⟨⟨%s, %hs, HM, HL, HA⟩, HT0, HT1, Hg⟩, Ho, ⟨%d0, H0⟩, ⟨%d1, H1⟩, ⟨%d2, H2⟩, ⟨%d3, H3⟩, ⟨%d4, H4⟩, ⟨%d5, H5⟩⟩
      have hst : st m c t.succ.val = upd m c t (start t s) := by
        rw [Fin.val_succ, st_succ]
        rw [hs fun h => q0 (hzero h)]; rfl
      unfold start at hst; rw [if_neg q0] at hst
      unfold upd at hst; rw [if_pos q1] at hst
      iapply (run_nextMid c (pt t) (ms0 t) (hs0 t) (ms1 t) (hs1 t) (ms2 t) (hs2 t) (ms3 t) (hs3 t) (ms4 t) (hs4 t) (ms5 t) (hs5 t) qiT kiT
        (blk0 m c t) (blk1 m c t) (blk2 m c t) (blk3 m c t) (blk4 m c t) s.mx s.sm s.ac d5 q0 q1 hl _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexact H5
      isplitl [HM]; · iapply rep_of_owns; iexact HM
      isplitl [HL]; · iapply rep_of_owns; iexact HL
      isplitl [HA]; · iapply rep_of_owns; iexact HA
      iintro ⟨H0, H1, H2, H3, H4, HT0, HT1, H5, HM, HL, HA⟩
      isplitl [HM HL HA HT0 HT1 Hg]
      · isplitl [HM HL HA]
        · iexists (st m c t.succ.val); isplitr
          · ipureintro; intro _; rfl
          rw [hst]
          isplitl [HM]; · iexact HM
          isplitl [HL]; · iexact HL
          iexact HA
        isplitl [HT0]; · iexact HT0
        isplitl [HT1]; · iexact HT1
        iexact Hg
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      iexists d5; iexact H5
  · by_cases q0 : IsFirst (kb t)
    · obtain ⟨hl, i5, f5⟩ := hlast q1
      rewrite [i5]
      simp only [before_0, before_1, before_2, before_3, before_4, before_5, after_0, after_1, after_2, after_3, after_4, after_5]
      rewrite [show (dats m 0 c).Φ t.succ = Phi m c t.succ from rfl, show (dats m 0 c).Φ t.castSucc = Phi m c t.castSucc from rfl,
        show (dats m 0 c).owesAt () t.succ = (dats m 0 c).owesAt () t.castSucc from rfl]
      unfold Phi
      iintro ⟨⟨⟨%s, %hs, HM, HL, HA⟩, HT0, HT1, Hg⟩, Ho, ⟨%d0, H0⟩, ⟨%d1, H1⟩, ⟨%d2, H2⟩, ⟨%d3, H3⟩, ⟨%d4, H4⟩, ⟨%d5, H5⟩⟩
      have hst : st m c t.succ.val = upd m c t (start t s) := by
        rw [Fin.val_succ, st_succ]
        unfold start; rw [if_pos q0, if_pos q0]
      have ho : outB m c t = outV (upd m c t (start t s)).ac (upd m c t (start t s)).sm (blk3 m c t) (blk4 m c t) := by
        unfold outB; rw [← hst]; rfl
      rw [ho]
      unfold start at hst ⊢; rw [if_pos q0] at hst ⊢
      unfold upd at hst ⊢; rw [if_neg q1] at hst ⊢
      iapply (run_firstLast c (pt t) (ms0 t) (hs0 t) (ms1 t) (hs1 t) (ms2 t) (hs2 t) (ms3 t) (hs3 t) (ms4 t) (hs4 t) (ms5 t) (hs5 t) qiT kiT
        (blk0 m c t) (blk1 m c t) (blk2 m c t) (blk3 m c t) (blk4 m c t) s.mx s.sm s.ac q0 q1 hl _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists d5; iexact H5
      isplitl [HM]; · iapply rep_of_owns; iexact HM
      isplitl [HL]; · iapply rep_of_owns; iexact HL
      isplitl [HA]; · iapply rep_of_owns; iexact HA
      iintro ⟨H0, H1, H2, H3, H4, HT0, HT1, H5, HM, HL, HA⟩
      isplitl [HM HL HA HT0 HT1 Hg]
      · isplitl [HM HL HA]
        · iexists (st m c t.succ.val); isplitr
          · ipureintro; intro _; rfl
          rw [hst]
          isplitl [HM]; · iexact HM
          isplitl [HL]; · iexact HL
          iexact HA
        isplitl [HT0]; · iexact HT0
        isplitl [HT1]; · iexact HT1
        iexact Hg
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      iexact H5
    · obtain ⟨hl, i5, f5⟩ := hlast q1
      rewrite [i5]
      simp only [before_0, before_1, before_2, before_3, before_4, before_5, after_0, after_1, after_2, after_3, after_4, after_5]
      rewrite [show (dats m 0 c).Φ t.succ = Phi m c t.succ from rfl, show (dats m 0 c).Φ t.castSucc = Phi m c t.castSucc from rfl,
        show (dats m 0 c).owesAt () t.succ = (dats m 0 c).owesAt () t.castSucc from rfl]
      unfold Phi
      iintro ⟨⟨⟨%s, %hs, HM, HL, HA⟩, HT0, HT1, Hg⟩, Ho, ⟨%d0, H0⟩, ⟨%d1, H1⟩, ⟨%d2, H2⟩, ⟨%d3, H3⟩, ⟨%d4, H4⟩, ⟨%d5, H5⟩⟩
      have hst : st m c t.succ.val = upd m c t (start t s) := by
        rw [Fin.val_succ, st_succ]
        rw [hs fun h => q0 (hzero h)]; rfl
      have ho : outB m c t = outV (upd m c t (start t s)).ac (upd m c t (start t s)).sm (blk3 m c t) (blk4 m c t) := by
        unfold outB; rw [← hst]; rfl
      rw [ho]
      unfold start at hst ⊢; rw [if_neg q0] at hst ⊢
      unfold upd at hst ⊢; rw [if_neg q1] at hst ⊢
      iapply (run_nextLast c (pt t) (ms0 t) (hs0 t) (ms1 t) (hs1 t) (ms2 t) (hs2 t) (ms3 t) (hs3 t) (ms4 t) (hs4 t) (ms5 t) (hs5 t) qiT kiT
        (blk0 m c t) (blk1 m c t) (blk2 m c t) (blk3 m c t) (blk4 m c t) s.mx s.sm s.ac q0 q1 hl _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists d5; iexact H5
      isplitl [HM]; · iapply rep_of_owns; iexact HM
      isplitl [HL]; · iapply rep_of_owns; iexact HL
      isplitl [HA]; · iapply rep_of_owns; iexact HA
      iintro ⟨H0, H1, H2, H3, H4, HT0, HT1, H5, HM, HL, HA⟩
      isplitl [HM HL HA HT0 HT1 Hg]
      · isplitl [HM HL HA]
        · iexists (st m c t.succ.val); isplitr
          · ipureintro; intro _; rfl
          rw [hst]
          isplitl [HM]; · iexact HM
          isplitl [HL]; · iexact HL
          iexact HA
        isplitl [HT0]; · iexact HT0
        isplitl [HT1]; · iexact HT1
        iexact Hg
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      iexact H5

theorem body_obligation (c : Dev nD) : BodyObligation (dats m 0 c) (defs₀ (F := Ideal)) Variants.none () Set.univ := fun t => by
  rw [bigSep_W0]
  exact sound_body m c t

/-! ## The launch -/

theorem share_eq (c : Dev nD) (w : Fin pl.W) : (dats m 0 c).share w = fullShare := by unfold Dat.share; split <;> rfl

theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

theorem phi_in (c : Dev nD) :
    iprop(Pipeline.ΦA (U := UR sig nD τ) (Val := Elt Ideal) spec0 c ∗ Pipeline.ΦT (U := UR sig nD τ) pre0 tabs c) ⊢ (dats m 0 c).Φ 0 := by
  rw [show (dats m 0 c).Φ 0 = Phi m c 0 from rfl]
  unfold Phi Pipeline.ΦA Pipeline.ΦT
  rw [prefHeld_eq, scopedRest0_eq]
  iintro ⟨⟨⟨⟨%a0, HM⟩, ⟨%a1, HL⟩, ⟨%a2, HA⟩⟩, Hg⟩, HT0, HT1⟩
  isplitl [HM HL HA]
  · iexists (⟨a0, a1, a2⟩ : St); isplitr
    · ipureintro; intro h; exact absurd rfl h
    rw [owns_whole, owns_whole, owns_whole]
    isplitl [HM]; · iexact HM
    isplitl [HL]; · iexact HL
    iexact HA
  isplitl [HT0]; · iexact HT0
  isplitl [HT1]; · iexact HT1
  iexact Hg

theorem phi_out (c : Dev nD) : (dats m 0 c).Φ (Fin.last pl.N) ⊢ Pipeline.ΦA (U := UR sig nD τ) (Val := Elt Ideal) spec0 c := by
  rw [show (dats m 0 c).Φ (Fin.last pl.N) = Phi m c (Fin.last _) from rfl]
  unfold Phi Pipeline.ΦA
  rw [scopedRest0_eq]
  simp only [owns_whole]
  iintro ⟨⟨%s, -, HM, HL, HA⟩, -, -, Hg⟩
  isplitl [HM HL HA]
  · isplitl [HM]; · iexists s.mx; iexact HM
    isplitl [HL]; · iexists s.sm; iexact HL
    iexists s.ac; iexact HA
  iexact Hg

/-- What holds when the program ends: each window's array at what the pipeline computes, every other array as the call
    found it, every counter at zero. -/
abbrev Ends (r : PUnit × MemSt nD τ sig (Elt Ideal)) : Prop :=
  Pipeline.FramePost (Pipeline.pin (pcfgs (F := Ideal)) fun _ => adm) (dats m) 0 (entryV m) r ∧ r.2.sem = fun _ => 0

set_option backward.isDefEq.respectTransparency.types false in
set_option maxHeartbeats 4000000 in
theorem run_main (g : Dev nD → PrngReg) :
    θ_run (defs (F := Ideal)) (onTc (τ := τ) (main (F := Ideal))) (s₀ m g) (Ends m) :=
  Pipeline.θ_run_frameP_track (pcfgs (F := Ideal)) (fun _ => adm) (dats m) 0 launch0 defs₀ Variants.none m g main
    (hbody := fun c => (body_obligation m c).loose)
    (hshare := share_eq m) (howed := fun _ _ => rfl)
    (V := entryV m)
    (hmain := Pipeline.hmainP_prefix (pcfgs (F := Ideal)) 0 defs₀ Variants.none m main hostOps0 hostOps0_sub ⟨rfl, rfl, rfl⟩ main_chain)
    (hA := fun _ _ => rfl)
    (hpf := fun c k => by
      fin_cases k
      · rfl
      · rfl)
    (hin := phi_in m) (hout := phi_out m)
    (Q' := Ends m) (hQ' := fun _ h => h)

/-- No host operation writes an argument. -/
theorem entry_arg (c : Dev nD) (b : Ref sig .tc) (hb : b ∉ [main_c, main_c_0, main_v0]) : entryV m c b = m ((c : Thread nD τ).loc b) :=
  StableHlo.after_of_writes_sub (W := [main_c, main_c_0, main_v0]) hostOps0 _
    ⟨by intro x hx; simp at hx ⊢; tauto, by intro x hx; simp at hx ⊢; tauto, by intro x hx; simp at hx ⊢; tauto⟩ hb

theorem args_kept {r : PUnit × MemSt nD τ sig (Elt Ideal)} (h : Ends m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(((h.1 c).1 (0 : Fin 6)).trans ((dats m 0 c).arrAt_in (0 : Fin 6) rfl _)).trans (entry_arg m c main_arg0 (by decide)),
   (((h.1 c).1 (1 : Fin 6)).trans ((dats m 0 c).arrAt_in (1 : Fin 6) rfl _)).trans (entry_arg m c main_arg1 (by decide)),
   (((h.1 c).1 (2 : Fin 6)).trans ((dats m 0 c).arrAt_in (2 : Fin 6) rfl _)).trans (entry_arg m c main_arg2 (by decide)),
   ((h.1 c).2 main_arg3 (by decide)).trans (entry_arg m c main_arg3 (by decide)),
   (((h.1 c).1 (4 : Fin 6)).trans ((dats m 0 c).arrAt_in (4 : Fin 6) rfl _)).trans (entry_arg m c main_arg4 (by decide))⟩

/-- The frame of the program. -/
theorem frame_main (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨args_kept m h, h.2⟩) (run_main m g)

end Cert.KernelIdeal.Own

end
-- ==== Proof.Value.Points.lean ====
/- What the grid's points are: which sequence, query tile and key tile a point works on, and where its blocks lie. -/
module

public import proofs.«01_k».proof.Proof.Ideal.Tables
public import Idealize.ShloMosaic.Lib.Pipeline.ValueKit

@[expose] public section

set_option maxRecDepth 16384
set_option Elab.async false

noncomputable section

namespace Cert.KernelIdeal.Own

open Cert.KernelIdeal Cert.KernelIdeal.Gen
open Idealize.ShloMosaic Idealize.ShloMosaic.TcCoe

/-- A point's sequence, query tile and key tile, and the point before it. -/
abbrev sN (t : Fin pl.N) : ℕ := t.val / 72
abbrev qN (t : Fin pl.N) : ℕ := (qa t).toNat
abbrev kN (t : Fin pl.N) : ℕ := (kb t).toNat
abbrev before (t : Fin pl.N) : Fin pl.N := ⟨t.val - 1, Nat.lt_of_le_of_lt (Nat.sub_le _ _) t.isLt⟩

/-- The order of the points: a query tile's key tiles follow one another from the first; all but the last lie before the
    tile's queries, the last reaches past them. -/
abbrev OrderFacts (t : Fin pl.N) : Prop :=
  (IsFirst (kb t) ↔ kN t = 0)
  ∧ (¬ IsFirst (kb t) → 0 < t.val ∧ sN (before t) = sN t ∧ qN (before t) = qN t ∧ kN (before t) + 1 = kN t)
  ∧ (IsMid (qa t) (kb t) → 512 * (kN t + 1) ≤ 256 * qN t)
  ∧ (¬ IsMid (qa t) (kb t) → 256 * qN t + 256 ≤ 512 * (kN t + 1))
  ∧ qN t < 16 ∧ kN t < 8 ∧ sN t < 2

theorem order_a : ∀ t : Fin pl.N, 0 ≤ t.val → t.val < 48 → OrderFacts t := by decide +kernel
theorem order_b : ∀ t : Fin pl.N, 48 ≤ t.val → t.val < 96 → OrderFacts t := by decide +kernel
theorem order_c : ∀ t : Fin pl.N, 96 ≤ t.val → t.val < 144 → OrderFacts t := by decide +kernel

theorem order_at (t : Fin pl.N) : OrderFacts t := by
  rcases Nat.lt_or_ge t.val 48 with h | h1; · exact order_a t (Nat.zero_le _) h
  rcases Nat.lt_or_ge t.val 96 with h | h2; · exact order_b t h1 h
  exact order_c t h2 t.isLt

/-- Where the blocks of a point lie. -/
abbrev PlaceFacts (t : Fin pl.N) : Prop :=
  (pl.win (0 : Fin 6)).index t = ![0, 16 * sN t + qN t, 0]
  ∧ (pl.win (1 : Fin 6)).index t = ![8 * sN t + kN t, 0]
  ∧ (pl.win (2 : Fin 6)).index t = ![0, 8 * sN t + kN t]
  ∧ (pl.win (3 : Fin 6)).index t = ![16 * sN t + qN t, 0]
  ∧ (pl.win (4 : Fin 6)).index t = ![0, 0, 0]
  ∧ (pl.win (5 : Fin 6)).index t = ![16 * sN t + qN t, 0]

theorem place_a : ∀ t : Fin pl.N, 0 ≤ t.val → t.val < 48 → PlaceFacts t := by decide +kernel
theorem place_b : ∀ t : Fin pl.N, 48 ≤ t.val → t.val < 96 → PlaceFacts t := by decide +kernel
theorem place_c : ∀ t : Fin pl.N, 96 ≤ t.val → t.val < 144 → PlaceFacts t := by decide +kernel

theorem place_at (t : Fin pl.N) : PlaceFacts t := by
  rcases Nat.lt_or_ge t.val 48 with h | h1; · exact place_a t (Nat.zero_le _) h
  rcases Nat.lt_or_ge t.val 96 with h | h2; · exact place_b t h1 h
  exact place_c t h2 t.isLt

/-- The written blocks fill the result. -/
theorem result_covers : (pl.win (5 : Fin 6)).Covers := by decide +kernel

end Cert.KernelIdeal.Own

end
-- ==== Proof.Value.Softmax.lean ====
/- The softmax of a row taken tile by tile, over the extended reals: the running maximum, sum and weighted sum of a
   row's scores, what one more tile makes of them, and the weighted average at the end. -/
module

public import Idealize.ShloMosaic.PureOps.Ideal

@[expose] public section

noncomputable section

namespace Cert.Attention

open Idealize.ShloMosaic
open Finset

/-- Two to the power. -/
abbrev E (x : EReal) : EReal := Ideal.exp2 x

/-- The scores are finite or masked, the first one is not masked. -/
structure Row (s : ℕ → EReal) : Prop where
  ne_top : ∀ k, s k ≠ ⊤
  first : s 0 ≠ ⊥

variable {s : ℕ → EReal} (v : ℕ → EReal)

/-- The maximum of the first `n` scores, the sum of their powers, the weighted sum. -/
def M (s : ℕ → EReal) (n : ℕ) : EReal := (range n).sup s
def L (s : ℕ → EReal) (n : ℕ) : EReal := ∑ k ∈ range n, E (s k - M s n)
def A (s v : ℕ → EReal) (n : ℕ) : EReal := ∑ k ∈ range n, v k * E (s k - M s n)

theorem E_nonneg (x : EReal) : 0 ≤ E x := by
  induction x with
  | bot => simp [E]
  | top => simp [E]
  | coe r => simp only [E, Ideal.exp2_coe]; exact_mod_cast (Real.rpow_pos_of_pos (by norm_num) r).le

theorem E_coe_pos (r : ℝ) : 0 < E (r : EReal) := by
  simp only [E, Ideal.exp2_coe]; exact_mod_cast (Real.rpow_pos_of_pos (by norm_num) r)

theorem E_ne_top {x : EReal} (h : x ≠ ⊤) : E x ≠ ⊤ := by
  induction x with
  | bot => simp [E]
  | top => exact absurd rfl h
  | coe r => simp only [E, Ideal.exp2_coe]; exact EReal.coe_ne_top _

theorem M_zero : M s 0 = ⊥ := by simp [M]

/-- The maximum of a nonempty stretch is a real number. -/
theorem M_real (hs : Row s) {n : ℕ} (hn : 0 < n) : ∃ r : ℝ, M s n = (r : EReal) := by
  have h1 : M s n ≠ ⊤ := by
    unfold M
    have : (range n).sup s < ⊤ := (Finset.sup_lt_iff (by simp)).2 fun k _ => lt_top_iff_ne_top.2 (hs.ne_top k)
    exact this.ne
  have h2 : M s n ≠ ⊥ := by
    have : s 0 ≤ M s n := Finset.le_sup (f := s) (mem_range.2 hn)
    intro h; rw [h] at this; exact hs.first (le_bot_iff.1 this)
  exact ⟨(M s n).toReal, (EReal.coe_toReal h1 h2).symm⟩

/-- Changing the reference maximum multiplies a power. -/
theorem E_rescale {x : EReal} (hx : x ≠ ⊤) (m m' : ℝ) : E ((m : EReal) - m') * E (x - m) = E (x - m') := by
  induction x with
  | top => exact absurd rfl hx
  | bot => simp [E, EReal.bot_sub]
  | coe r =>
    simp only [E, ← EReal.coe_sub, Ideal.exp2_coe, ← EReal.coe_mul]
    congr 1
    show (2 : ℝ) ^ (m - m') * (2 : ℝ) ^ (r - m) = (2 : ℝ) ^ (r - m')
    rw [← Real.rpow_add (by norm_num)]; congr 1; ring

/-- A sum times a nonnegative real. -/
theorem mul_sum_of_real {ι : Type*} (S : Finset ι) (f : ι → EReal) {a : EReal} (h0 : 0 ≤ a) (h1 : a ≠ ⊤) :
    a * ∑ i ∈ S, f i = ∑ i ∈ S, a * f i := by
  classical
  induction S using Finset.induction_on with
  | empty => simp
  | insert i S hi ih => rw [sum_insert hi, sum_insert hi, EReal.left_distrib_of_nonneg_of_ne_top h0 h1, ih]

/-- One more tile: the maximum. -/
theorem M_add (n T : ℕ) : M s (n + T) = max (M s n) ((range T).sup fun i => s (n + i)) := by
  unfold M
  apply le_antisymm
  · refine Finset.sup_le fun k hk => ?_
    rw [mem_range] at hk
    by_cases h : k < n
    · exact le_max_of_le_left (Finset.le_sup (f := s) (mem_range.2 h))
    · refine le_max_of_le_right ?_
      have := Finset.le_sup (f := fun i => s (n + i)) (mem_range.2 (show k - n < T by omega))
      simpa [Nat.add_sub_cancel' (Nat.le_of_not_lt h)] using this
  · refine max_le (Finset.sup_mono (range_subset_range.2 (Nat.le_add_right _ _))) (Finset.sup_le fun i hi => ?_)
    rw [mem_range] at hi
    exact Finset.le_sup (f := s) (mem_range.2 (show n + i < n + T by omega))

/-- The factor that the tile's new maximum brings. -/
theorem scale (hs : Row s) (n T : ℕ) (hT : 0 < T) (f : ℕ → EReal) :
    E (M s n - M s (n + T)) * ∑ k ∈ range n, f k * E (s k - M s n) = ∑ k ∈ range n, f k * E (s k - M s (n + T)) := by
  rcases Nat.eq_zero_or_pos n with rfl | hn
  · simp
  obtain ⟨r, hr⟩ := M_real hs hn
  obtain ⟨r', hr'⟩ := M_real hs (show 0 < n + T by omega)
  rw [hr, hr', mul_sum_of_real _ _ (E_nonneg _) (E_ne_top (by rw [← EReal.coe_sub]; exact EReal.coe_ne_top _))]
  refine sum_congr rfl fun k _ => ?_
  rw [← E_rescale (hs.ne_top k) r r', mul_left_comm]

/-- One more tile: the sum. -/
theorem L_add (hs : Row s) (n T : ℕ) (hT : 0 < T) :
    L s (n + T) = E (M s n - M s (n + T)) * L s n + ∑ i ∈ range T, E (s (n + i) - M s (n + T)) := by
  have := scale hs n T hT fun _ => 1
  simp only [one_mul] at this
  unfold L
  rw [this, sum_range_add]

/-- One more tile: the weighted sum. -/
theorem A_add (hs : Row s) (n T : ℕ) (hT : 0 < T) :
    A s v (n + T) = E (M s n - M s (n + T)) * A s v n + ∑ i ∈ range T, v (n + i) * E (s (n + i) - M s (n + T)) := by
  unfold A
  rw [scale hs n T hT, sum_range_add]

/-- Masked scores behind the last tile change nothing. -/
theorem M_tail {n N : ℕ} (h : n ≤ N) (hm : ∀ k, n ≤ k → s k = ⊥) : M s N = M s n := by
  obtain ⟨T, rfl⟩ := Nat.exists_eq_add_of_le h
  rw [M_add, max_eq_left]
  refine Finset.sup_le fun i _ => ?_
  simp [hm (n + i) (Nat.le_add_right _ _)]

theorem E_masked (r : EReal) : E (⊥ - r) = 0 := by simp [E, EReal.bot_sub]

theorem L_tail {n N : ℕ} (h : n ≤ N) (hm : ∀ k, n ≤ k → s k = ⊥) : L s N = L s n := by
  have hM := M_tail h hm
  obtain ⟨T, rfl⟩ := Nat.exists_eq_add_of_le h
  unfold L
  rw [sum_range_add, hM, sum_eq_zero (s := range T), add_zero]
  intro i _; rw [hm (n + i) (Nat.le_add_right _ _), E_masked]

theorem A_tail {n N : ℕ} (h : n ≤ N) (hm : ∀ k, n ≤ k → s k = ⊥) : A s v N = A s v n := by
  have hM := M_tail h hm
  obtain ⟨T, rfl⟩ := Nat.exists_eq_add_of_le h
  unfold A
  rw [sum_range_add, hM, sum_eq_zero (s := range T), add_zero]
  intro i _; rw [hm (n + i) (Nat.le_add_right _ _), E_masked, mul_zero]

/-- The sum of the powers is a positive real. -/
theorem L_real (hs : Row s) {n : ℕ} (hn : 0 < n) : ∃ l : ℝ, 0 < l ∧ L s n = (l : EReal) := by
  obtain ⟨r, hr⟩ := M_real hs hn
  have hpos : 0 < L s n := by
    have h0 : E (s 0 - M s n) ≤ L s n :=
      Finset.single_le_sum (f := fun k => E (s k - M s n)) (fun k _ => E_nonneg _) (mem_range.2 hn)
    refine lt_of_lt_of_le ?_ h0
    have hx : s 0 = ((s 0).toReal : EReal) := (EReal.coe_toReal (hs.ne_top 0) hs.first).symm
    rw [hr, hx, ← EReal.coe_sub]; exact E_coe_pos _
  have htop : L s n ≠ ⊤ := by
    unfold L; rw [hr]
    have key : ∀ S : Finset ℕ, ∑ k ∈ S, E (s k - (r : EReal)) ≠ ⊤ := by
      intro S
      induction S using Finset.induction_on with
      | empty => simp
      | insert i S hi ih =>
        rw [sum_insert hi]
        refine EReal.add_ne_top (E_ne_top ?_) ih
        have := hs.ne_top i
        induction h : s i with
        | top => exact absurd h this
        | bot => simp [EReal.bot_sub]
        | coe y => rw [← EReal.coe_sub]; exact EReal.coe_ne_top _
    exact key _
  refine ⟨(L s n).toReal, ?_, (EReal.coe_toReal htop (ne_of_gt (lt_trans EReal.bot_lt_zero hpos))).symm⟩
  exact EReal.toReal_pos hpos htop

/-- The weighted average: the quotient of the sums is the sum with the quotients as weights. -/
theorem average (hs : Row s) {n : ℕ} (hn : 0 < n) :
    Ideal.div (A s v n) (L s n) = ∑ k ∈ range n, v k * Ideal.div (E (s k - M s n)) (L s n) := by
  obtain ⟨l, hl, hL⟩ := L_real hs hn
  rw [hL]
  simp only [Ideal.div_coe hl.ne']
  unfold A
  rw [mul_comm, mul_sum_of_real _ _ (by exact_mod_cast (by positivity : (0:ℝ) ≤ 1 / l)) (EReal.coe_ne_top _)]
  refine sum_congr rfl fun k _ => ?_
  rw [mul_comm, mul_assoc]

end Cert.Attention

end
-- ==== Proof.Value.Spec.lean ====
/- The attention of one query over its sequence's keys, read off the argument arrays, and the result it gives. -/
module

public import proofs.«01_k».proof.Proof.Value.Softmax
public import Idealize.ShloMosaic.Lib.Pointwise

@[expose] public section

set_option maxRecDepth 16384

noncomputable section

namespace Cert.Attention

open Idealize.ShloMosaic
open Finset

variable (q : (⟨3, ![16, 8192, 384]⟩ : Shape).Idx → EReal) (k : (⟨2, ![8192, 384]⟩ : Shape).Idx → EReal)
  (v : (⟨2, ![256, 8192]⟩ : Shape).Idx → EReal) (z : (⟨2, ![8192, 11264]⟩ : Shape).Idx → EReal)
  (w : (⟨3, ![16, 256, 128]⟩ : Shape).Idx → EReal)

/-- The place of a sequence's key among the rows of both sequences. -/
def place (n : ℕ) (i : ℕ) : Fin 8192 := ⟨(4096 * n + i) % 8192, Nat.mod_lt _ (by norm_num)⟩

theorem place_val {n i : ℕ} (hn : n < 2) (hi : i < 4096) : (place n i).val = 4096 * n + i := by
  unfold place; exact Nat.mod_eq_of_lt (by omega)

/-- A query's score at a key. -/
def score (h : Fin 16) (r x : Fin 8192) : EReal := ∑ c : Fin 384, k (ix2 x c) * q (ix3 h r c)

/-- The scores of query `p` of sequence `n` over the sequence's keys, the later ones masked. -/
def row (h : Fin 16) (n p : ℕ) : ℕ → EReal := fun i => if i ≤ p then score q k h (place n p) (place n i) else ⊥

/-- A component of the sequence's values. -/
def comp (c : Fin 256) (n : ℕ) : ℕ → EReal := fun i => v (ix2 c (place n i))

/-- The gate. -/
def gate (x : EReal) : EReal := x * Ideal.div 1 (1 + Ideal.exp (-x))

/-- The result at head `h`, query `p` of sequence `n`, component `d`. -/
def out (h : Fin 16) (n p : ℕ) (d : Fin 128) (x : EReal) : EReal :=
  (∑ c : Fin 256, Ideal.div (A (row q k h n p) (comp v c n) 4096) (L (row q k h n p) 4096) * w (ix3 h c d)) * gate x

/-- The result array. -/
def result (r : Fin 8192) (j : Fin 2048) : EReal :=
  out q k v w ⟨j.val / 128, by omega⟩ (r.val / 4096) (r.val % 4096) ⟨j.val % 128, by omega⟩
    (z (ix2 r ⟨j.val, by omega⟩))

/-- Finite queries and keys. -/
structure Fin' : Prop where
  hq : ∀ i, q i ≠ ⊤ ∧ q i ≠ ⊥
  hk : ∀ i, k i ≠ ⊤ ∧ k i ≠ ⊥

variable {q k}

theorem sum_real {ι : Type*} (S : Finset ι) (f : ι → EReal) (hf : ∀ i, ∃ r : ℝ, f i = r) : ∃ r : ℝ, ∑ i ∈ S, f i = r := by
  classical
  induction S using Finset.induction_on with
  | empty => exact ⟨0, by simp⟩
  | insert i S hi ih =>
    obtain ⟨a, ha⟩ := hf i
    obtain ⟨b, hb⟩ := ih
    exact ⟨a + b, by rw [sum_insert hi, ha, hb, EReal.coe_add]⟩

/-- Of finite queries and keys every score is a real number. -/
theorem score_real (H : Fin' q k) (h : Fin 16) (r x : Fin 8192) : ∃ y : ℝ, score q k h r x = y :=
  sum_real _ _ fun c => by
    have h1 := H.hq (ix3 h r c)
    have h2 := H.hk (ix2 x c)
    refine ⟨(k (ix2 x c)).toReal * (q (ix3 h r c)).toReal, ?_⟩
    rw [EReal.coe_mul, EReal.coe_toReal h2.1 h2.2, EReal.coe_toReal h1.1 h1.2]

theorem row_ok (H : Fin' q k) (h : Fin 16) (n p : ℕ) : Row (row q k h n p) where
  ne_top i := by
    unfold row; split
    · obtain ⟨y, hy⟩ := score_real H h (place n p) (place n i); rw [hy]; exact EReal.coe_ne_top _
    · exact bot_ne_top
  first := by
    unfold row; rw [if_pos (Nat.zero_le _)]
    obtain ⟨y, hy⟩ := score_real H h (place n p) (place n 0); rw [hy]; exact EReal.coe_ne_bot _

theorem row_masked (h : Fin 16) (n p : ℕ) {e : ℕ} (he : p < e) : ∀ i, e ≤ i → row q k h n p i = ⊥ := by
  intro i hi; unfold row; rw [if_neg (by omega)]

/-- A maximum taken over a tile by its positions. -/
theorem fold_max (n : ℕ) (f : ℕ → EReal) : (Finset.univ : Finset (Fin n)).fold max ⊥ (fun i => f i.val) = (range n).sup f := by
  have h : (Finset.univ : Finset (Fin n)).fold max ⊥ (fun i => f i.val) = (Finset.univ : Finset (Fin n)).sup fun i => f i.val := rfl
  rw [h]
  apply le_antisymm
  · exact Finset.sup_le fun i _ => Finset.le_sup (f := f) (mem_range.2 i.isLt)
  · exact Finset.sup_le fun i hi => Finset.le_sup (f := fun i : Fin n => f i.val) (mem_univ ⟨i, mem_range.1 hi⟩)

/-- The weighted average over the whole row, as a sum over its positions. -/
theorem average_fin {s : ℕ → EReal} (u : ℕ → EReal) (hs : Row s) :
    Ideal.div (A s u 4096) (L s 4096) = ∑ x : Fin 4096, u x.val * Ideal.div (E (s x.val - (range 4096).sup s))
      (∑ x : Fin 4096, E (s x.val - (range 4096).sup s)) := by
  rw [average u hs (by norm_num)]
  unfold L M
  rw [Finset.sum_range, Finset.sum_range]

/-- The word of minus infinity, and of two. -/
theorem word_bot : Ideal.ofBits .f32 0xFF800000#32 = ⊥ := by
  simp [Ideal.ofBits, Ideal.ieee]
theorem word_two : Ideal.ofBits .f32 0x40000000#32 = ((2 : ℝ) : EReal) := by
  simp [Ideal.ofBits, Ideal.ieee, -EReal.coe_mul]; norm_num

/-- Two to the power by the general power. -/
theorem pow_two_eq (x : EReal) : Ideal.pow ((2 : ℝ) : EReal) x = E x := by
  induction x with
  | bot => rw [Ideal.pow_coe_bot, if_neg (by norm_num), if_pos (by norm_num)]; rfl
  | top => rw [Ideal.pow_coe_top, if_neg (by norm_num), if_pos (by norm_num)]; rfl
  | coe r => rfl

/-- A choice by a signed comparison of two words below half the range. -/
theorem select_le {α : Type} (x y : BitVec 32) (hx : x.toNat < 2 ^ 31) (hy : y.toNat < 2 ^ 31) (u w : α) :
    Scalar.select (IntOp.cmpi .sle x y) u w = if x.toNat ≤ y.toNat then u else w := by
  have hx' : x.toInt = x.toNat := by rw [BitVec.toInt_eq_toNat_of_lt (by omega)]
  have hy' : y.toInt = y.toNat := by rw [BitVec.toInt_eq_toNat_of_lt (by omega)]
  have h : IntOp.cmpi .sle x y = BitVec.ofBool (decide (x.toNat ≤ y.toNat)) := by
    show BitVec.ofBool (BitVec.sle x y) = _
    congr 1
    rw [BitVec.sle_eq_decide, hx', hy']; simp
  rw [h]
  by_cases hxy : x.toNat ≤ y.toNat
  · simp [hxy, Scalar.select]
  · simp [hxy, Scalar.select]

end Cert.Attention

end
-- ==== Proof.Value.Blocks.lean ====
/- The blocks of a point, read off the argument arrays. -/
module

public import proofs.«01_k».proof.Proof.Ideal.Frame
public import proofs.«01_k».proof.Proof.Value.Points
public import proofs.«01_k».proof.Proof.Value.Spec
public import Idealize.ShloMosaic.Lib.Pipeline.ValueKit

@[expose] public section

set_option maxRecDepth 16384

noncomputable section

namespace Cert.KernelIdeal.Own

open Cert.KernelIdeal Cert.KernelIdeal.Gen
open Idealize.ShloMosaic Idealize.ShloMosaic.TcCoe
open Cert.Attention (place place_val)

variable (m : (ℓ : Loc nD τ sig) → Buf (Elt Ideal) ℓ)

/-- The arrays the call reads. -/
abbrev argQ (c : Dev nD) : FVec Ideal S16x8192x384 .bf16 := m ((c : Thread nD τ).loc main_arg0)
abbrev argK (c : Dev nD) : FVec Ideal S8192x384 .bf16 := m ((c : Thread nD τ).loc main_arg1)
abbrev argV (c : Dev nD) : FVec Ideal S256x8192 .bf16 := m ((c : Thread nD τ).loc main_arg2)
abbrev argZ (c : Dev nD) : FVec Ideal S8192x11264 .bf16 := m ((c : Thread nD τ).loc main_arg3)
abbrev argW (c : Dev nD) : FVec Ideal S16x256x128 .bf16 := m ((c : Thread nD τ).loc main_arg4)

/-- The gate's array is the first columns of its argument. -/
theorem entry_gate (c : Dev nD) : entryV m c main_v0
    = (extractStridedSlice S8192x2048 ![0, 0] (argZ m c) slices_S8192x11264_S8192x2048_0_0 : FVec Ideal S8192x2048 .bf16) := by
  unfold entryV hostOps0
  after_results_simp

theorem blk0_at (c : Dev nD) (t : Fin pl.N) (h : Fin 16) (i : Fin 256) (x : Fin 384) :
    blk0 m c t (ix3 h i x) = argQ m c (ix3 h (place (sN t) (256 * qN t + i.val)) x) := by
  obtain ⟨p0, -, -, -, -, -⟩ := place_at t
  obtain ⟨-, -, -, -, hq, hk, hs⟩ := order_at t
  have hp := place_val (n := sN t) (i := 256 * qN t + i.val) hs (by omega)
  unfold blk0 blk argQ
  rw [show entryV m c (Pipeline.arrRef pl.spec (0 : Fin 6)) = m ((c : Thread nD τ).loc main_arg0) from entry_arg m c main_arg0 (by decide)]
  refine congrArg (m ((c : Thread nD τ).loc main_arg0)) (funext fun a => Fin.ext ?_)
  have e : ∀ a, ((((pl.win (0 : Fin 6)).blk t).view.emb (ix3 h i x)) a : ℕ)
      = (pl.win (0 : Fin 6)).index t a * (pl.win (0 : Fin 6)).size a + ((ix3 h i x) a : ℕ) :=
    fun a => by exact Pipeline.Window.rect_emb_val ..
  rw [e, p0]
  fin_cases a
  · show 0 * 16 + h.val = h.val; omega
  · show (16 * sN t + qN t) * 256 + i.val = (place _ _).val; rw [hp]; omega
  · show 0 * 384 + x.val = x.val; omega

theorem blk1_at (c : Dev nD) (t : Fin pl.N) (i : Fin 512) (x : Fin 384) :
    blk1 m c t (ix2 i x) = argK m c (ix2 (place (sN t) (512 * kN t + i.val)) x) := by
  obtain ⟨-, p1, -, -, -, -⟩ := place_at t
  obtain ⟨-, -, -, -, hq, hk, hs⟩ := order_at t
  have hp := place_val (n := sN t) (i := 512 * kN t + i.val) hs (by omega)
  unfold blk1 blk argK
  rw [show entryV m c (Pipeline.arrRef pl.spec (1 : Fin 6)) = m ((c : Thread nD τ).loc main_arg1) from entry_arg m c main_arg1 (by decide)]
  refine congrArg (m ((c : Thread nD τ).loc main_arg1)) (funext fun a => Fin.ext ?_)
  have e : ∀ a, ((((pl.win (1 : Fin 6)).blk t).view.emb (ix2 i x)) a : ℕ)
      = (pl.win (1 : Fin 6)).index t a * (pl.win (1 : Fin 6)).size a + ((ix2 i x) a : ℕ) :=
    fun a => by exact Pipeline.Window.rect_emb_val ..
  rw [e, p1]
  fin_cases a
  · show (8 * sN t + kN t) * 512 + i.val = (place _ _).val; rw [hp]; omega
  · show 0 * 384 + x.val = x.val; omega

theorem blk2_at (c : Dev nD) (t : Fin pl.N) (d : Fin 256) (i : Fin 512) :
    blk2 m c t (ix2 d i) = argV m c (ix2 d (place (sN t) (512 * kN t + i.val))) := by
  obtain ⟨-, -, p2, -, -, -⟩ := place_at t
  obtain ⟨-, -, -, -, hq, hk, hs⟩ := order_at t
  have hp := place_val (n := sN t) (i := 512 * kN t + i.val) hs (by omega)
  unfold blk2 blk argV
  rw [show entryV m c (Pipeline.arrRef pl.spec (2 : Fin 6)) = m ((c : Thread nD τ).loc main_arg2) from entry_arg m c main_arg2 (by decide)]
  refine congrArg (m ((c : Thread nD τ).loc main_arg2)) (funext fun a => Fin.ext ?_)
  have e : ∀ a, ((((pl.win (2 : Fin 6)).blk t).view.emb (ix2 d i)) a : ℕ)
      = (pl.win (2 : Fin 6)).index t a * (pl.win (2 : Fin 6)).size a + ((ix2 d i) a : ℕ) :=
    fun a => by exact Pipeline.Window.rect_emb_val ..
  rw [e, p2]
  fin_cases a
  · show 0 * 256 + d.val = d.val; omega
  · show (8 * sN t + kN t) * 512 + i.val = (place _ _).val; rw [hp]; omega

theorem blk4_at (c : Dev nD) (t : Fin pl.N) (h : Fin 16) (i : Fin 256) (d : Fin 128) :
    blk4 m c t (ix3 h i d) = argW m c (ix3 h i d) := by
  obtain ⟨-, -, -, -, p4, -⟩ := place_at t
  unfold blk4 blk argW
  rw [show entryV m c (Pipeline.arrRef pl.spec (4 : Fin 6)) = m ((c : Thread nD τ).loc main_arg4) from entry_arg m c main_arg4 (by decide)]
  refine congrArg (m ((c : Thread nD τ).loc main_arg4)) (funext fun a => Fin.ext ?_)
  have e : ∀ a, ((((pl.win (4 : Fin 6)).blk t).view.emb (ix3 h i d)) a : ℕ)
      = (pl.win (4 : Fin 6)).index t a * (pl.win (4 : Fin 6)).size a + ((ix3 h i d) a : ℕ) :=
    fun a => by exact Pipeline.Window.rect_emb_val ..
  rw [e, p4]
  fin_cases a
  · show 0 * 16 + h.val = h.val; omega
  · show 0 * 256 + i.val = i.val; omega
  · show 0 * 128 + d.val = d.val; omega

theorem blk3_at (c : Dev nD) (t : Fin pl.N) (i : Fin 256) (j : Fin 2048) :
    blk3 m c t (ix2 i j) = argZ m c (ix2 (place (sN t) (256 * qN t + i.val)) ⟨j.val, by omega⟩) := by
  obtain ⟨-, -, -, p3, -, -⟩ := place_at t
  obtain ⟨-, -, -, -, hq, hk, hs⟩ := order_at t
  have hp := place_val (n := sN t) (i := 256 * qN t + i.val) hs (by omega)
  have hx : ∀ j' : S8192x2048.Idx, (j' 0).val = (place (sN t) (256 * qN t + i.val)).val → (j' 1).val = j.val →
      (extractStridedSlice S8192x2048 ![0, 0] (argZ m c) slices_S8192x11264_S8192x2048_0_0 : FVec Ideal S8192x2048 .bf16) j'
        = argZ m c (ix2 (place (sN t) (256 * qN t + i.val)) ⟨j.val, by omega⟩) := by
    intro j' h0 h1
    idx_vars j'
    generalize argZ m c = X
    pointwise
    refine congrArg X (funext fun a => Fin.ext ?_)
    fin_cases a
    · exact h0
    · exact h1
  unfold blk3 blk
  rw [show entryV m c (Pipeline.arrRef pl.spec (3 : Fin 6)) = _ from entry_gate m c]
  have e : ∀ a, ((((pl.win (3 : Fin 6)).blk t).view.emb (ix2 i j)) a : ℕ)
      = (pl.win (3 : Fin 6)).index t a * (pl.win (3 : Fin 6)).size a + ((ix2 i j) a : ℕ) :=
    fun a => by exact Pipeline.Window.rect_emb_val ..
  refine hx _ ?_ ?_
  · refine (e 0).trans ?_
    rw [p3, hp]; show (16 * sN t + qN t) * 256 + i.val = _; omega
  · refine (e 1).trans ?_
    rw [p3]; show 0 * 2048 + j.val = _; omega

end Cert.KernelIdeal.Own

end
-- ==== Proof.Value.Reads.lean ====
/- One tile's update of the running maximum, sum and weighted sum, column by column. -/
module

public import proofs.«01_k».proof.Proof.Ideal.Runs
public import proofs.«01_k».proof.Proof.Value.Spec
public import Idealize.ShloMosaic.Lib.Pipeline.ValueKit

@[expose] public section

set_option maxRecDepth 16384

noncomputable section

namespace Cert.KernelIdeal.Own

open Cert.KernelIdeal Cert.KernelIdeal.Gen
open Idealize.ShloMosaic Idealize.ShloMosaic.TcCoe

/-- The update from a tile's scores: the new maximum, sum and weighted sum. -/
def newM (S : FVec Ideal S512x4096 .f32) (m : FVec Ideal S1x4096 .f32) : FVec Ideal S1x4096 .f32 :=
  maximumf m (shapeCast S1x4096 (multiReduction .maximumf [0] S4096 S 0xFF800000#32 reduces_S512x4096_S4096 (.inl rfl) rfl) shapeCasts_S4096_S1x4096)
def newE (S : FVec Ideal S512x4096 .f32) (m : FVec Ideal S1x4096 .f32) : FVec Ideal S512x4096 .f32 :=
  exp2 (subf S (broadcastTo S512x4096 m broadcasts_S1x4096_S512x4096))
def newL (S : FVec Ideal S512x4096 .f32) (m l : FVec Ideal S1x4096 .f32) : FVec Ideal S1x4096 .f32 :=
  shapeCast S1x4096 (addf (mulf (exp2 (subf m (newM S m))) l)
    (shapeCast S1x4096 (multiReduction .add [0] S4096 (newE S (newM S m)) 0x00000000#32 reduces_S512x4096_S4096 (.inl rfl) rfl) shapeCasts_S4096_S1x4096)) shapeCasts_S1x4096_S1x4096
def newA (S : FVec Ideal S512x4096 .f32) (v : FVec Ideal S256x512 .bf16) (m : FVec Ideal S1x4096 .f32) (a : FVec Ideal S256x4096 .f32) : FVec Ideal S256x4096 .f32 :=
  shapeCast S256x4096 (addf (mulf (broadcastTo S256x4096 (exp2 (subf m (newM S m))) broadcasts_S1x4096_S256x4096) a)
    (matmul dot_S256x512_S512x4096_S256x4096_1_0_0_1_n_n none v (truncf .bf16 (newE S (newM S m)) bitsLt_bf16_f32) (constant S256x4096 .f32 0x00000000#32))) shapeCasts_S256x4096_S256x4096

section Forms

variable (a b : BitVec 32) (q : S16x256x384.Idx → Elt Ideal .bf16) (k : S512x384.Idx → Elt Ideal .bf16) (v : S256x512.Idx → Elt Ideal .bf16)
  (m l : S1x4096.Idx → Elt Ideal .f32) (acc : S256x4096.Idx → Elt Ideal .f32)

theorem midM_eq (j) : midM q k m j = newM (k0_pay5 q k) m j := by
  unfold midM k0_pay11; rw [show k0_pay6 q k m = newM (k0_pay5 q k) m from rfl]
  generalize newM (k0_pay5 q k) m = X; idx_vars j; pointwise
theorem lastM_eq (j) : lastM a b q k m j = newM (k0_pay12 a b q k) m j := by
  unfold lastM k0_pay19; rw [show k0_pay13 a b q k m = newM (k0_pay12 a b q k) m from rfl]
  generalize newM (k0_pay12 a b q k) m = X; idx_vars j; pointwise
theorem midL_eq : midL q k m l = newL (k0_pay5 q k) m l := rfl
theorem lastL_eq : lastL a b q k m l = newL (k0_pay12 a b q k) m l := rfl
theorem midA_eq : midA q k v m acc = newA (k0_pay5 q k) v m acc := rfl
theorem lastA_eq : lastA a b q k v m acc = newA (k0_pay12 a b q k) v m acc := rfl

end Forms

section Columns

variable (S : FVec Ideal S512x4096 .f32) (v : FVec Ideal S256x512 .bf16) (m l : FVec Ideal S1x4096 .f32) (a : FVec Ideal S256x4096 .f32)

theorem colMax (j : Fin 4096) :
    (multiReduction .maximumf [0] S4096 S 0xFF800000#32 reduces_S512x4096_S4096 (.inl rfl) rfl : FVec Ideal S4096 .f32) (ix1 j)
      = (Finset.univ : Finset (Fin 512)).fold max (⊥ : EReal) (fun i => S (ix2 i j)) := by
  refine (Ideal.multiReduction_maximumf_single (a := 0) S _ reduces_S512x4096_S4096 _ _ (ix1 j)).trans ?_
  rw [← Cert.Attention.word_bot]
  have h : ∀ i : Fin 512, reduces_S512x4096_S4096.lift (ix1 j) i = ix2 i j := by
    intro i; funext x; fin_cases x <;> rfl
  refine Finset.fold_congr fun i _ => ?_
  exact congrArg S (h i)

theorem newM_at (j : Fin 4096) : newM S m (ix2 0 j) = max (m (ix2 0 j) : EReal) ((Finset.univ : Finset (Fin 512)).fold max (⊥ : EReal) (fun i => S (ix2 i j))) := by
  rw [← colMax]
  unfold newM
  generalize (multiReduction .maximumf [0] S4096 S 0xFF800000#32 reduces_S512x4096_S4096 (.inl rfl) rfl : FVec Ideal S4096 .f32) = X
  pointwise

theorem newL_at (j : Fin 4096) : newL S m l (ix2 0 j)
    = (Ideal.exp2 (m (ix2 0 j) - newM S m (ix2 0 j)) * l (ix2 0 j) + ∑ i : Fin 512, Ideal.exp2 (S (ix2 i j) - newM S m (ix2 0 j)) : EReal) := by
  unfold newL newE
  generalize newM S m = X
  pointwise
  rfl

theorem newA_at (c : Fin 256) (j : Fin 4096) : newA S v m a (ix2 c j)
    = (Ideal.exp2 (m (ix2 0 j) - newM S m (ix2 0 j)) * a (ix2 c j) + ∑ i : Fin 512, v (ix2 c i) * Ideal.exp2 (S (ix2 i j) - newM S m (ix2 0 j)) : EReal) := by
  unfold newA newE
  generalize newM S m = X
  pointwise
  rfl

end Columns

section Scores

variable (a b : BitVec 32) (q : S16x256x384.Idx → Elt Ideal .bf16) (k : S512x384.Idx → Elt Ideal .bf16)

theorem scores_at (i : Fin 512) (j : Fin 4096) : k0_pay5 (F := Ideal) q k (ix2 i j)
    = (∑ x : Fin 384, k (ix2 i x) * q (ix3 ⟨j.val / 256, by omega⟩ ⟨j.val % 256, by omega⟩ x) : EReal) := by
  pointwise [k0_pay5]

/-- The masked scores: query tile `A`, key tile `B`. -/
theorem masked_at (A B : ℕ) (ha : a.toNat = A) (hb : b.toNat = B) (hA : A < 16) (hB : B < 8) (i : Fin 512) (j : Fin 4096) :
    k0_pay12 (F := Ideal) a b q k (ix2 i j)
    = (if 512 * B + i.val ≤ 256 * A + j.val % 256 then
        ∑ x : Fin 384, k (ix2 i x) * q (ix3 ⟨j.val / 256, by omega⟩ ⟨j.val % 256, by omega⟩ x) else ⊥ : EReal) := by
  have hmask : (Named.named κ "mask" (0xF149F2CA#32 : BitVec (FTy.bits .f32)) : Ideal .f32) = (⊥ : EReal) := by
    rfl
  pointwise [k0_pay12]
  rw [hmask]
  have e0 : (IntOp.andi (BitVec.ofNat 32 j.val) 255#32).toNat = j.val % 256 := by
    show (BitVec.ofNat 32 j.val &&& 255#32).toNat = _
    rw [BitVec.toNat_and]
    have : (BitVec.ofNat 32 j.val).toNat = j.val := by simp; omega
    rw [this]; exact Nat.and_two_pow_sub_one_eq_mod j.val 8
  have e1 : (IntOp.addi (Scalar.muli a 256#32) (IntOp.andi (BitVec.ofNat 32 j.val) 255#32)).toNat = 256 * A + j.val % 256 := by
    show (a * 256#32 + IntOp.andi (BitVec.ofNat 32 j.val) 255#32).toNat = _
    rw [BitVec.toNat_add, BitVec.toNat_mul, e0, ha]; simp; omega
  have e2 : (IntOp.addi (Scalar.muli b 512#32) (BitVec.ofNat 32 i.val)).toNat = 512 * B + i.val := by
    show (b * 512#32 + BitVec.ofNat 32 i.val).toNat = _
    rw [BitVec.toNat_add, BitVec.toNat_mul, hb]; simp; omega
  rw [Cert.Attention.select_le _ _ (by rw [e2]; omega) (by rw [e1]; omega), e1, e2]

theorem initM_at (j : Fin 4096) : initM (ix2 0 j) = (⊥ : EReal) := by
  pointwise [initM, k0_pay1]
  rfl
theorem initL_at (j : Fin 4096) : initL (ix2 0 j) = (0 : EReal) := by
  pointwise [initL, k0_pay2]
theorem initA_at (c : Fin 256) (j : Fin 4096) : initA (ix2 c j) = (0 : EReal) := by
  pointwise [initA, k0_pay3]

end Scores

end Cert.KernelIdeal.Own

end
-- ==== Proof.Value.Columns.lean ====
/- The scratch's contents after every point: each column holds its query's running maximum, sum and weighted sum. -/
module

public import proofs.«01_k».proof.Proof.Value.Blocks
public import proofs.«01_k».proof.Proof.Value.Reads

@[expose] public section

set_option maxRecDepth 16384

noncomputable section

namespace Cert.KernelIdeal.Own

open Cert.KernelIdeal Cert.KernelIdeal.Gen
open Idealize.ShloMosaic Idealize.ShloMosaic.TcCoe
open Cert.Attention

/-! ## One key tile -/

section Tile

variable {S : FVec Ideal S512x4096 .f32} {v : FVec Ideal S256x512 .bf16} {x l : FVec Ideal S1x4096 .f32} {a : FVec Ideal S256x4096 .f32}
  {R : ℕ → EReal} {b : ℕ} {j : Fin 4096}

/-- If a tile's scores are the row's next ones and the scratch is at the row's first `512 b`, the update takes it to
    the first `512 (b + 1)`. -/
theorem tile_M (hS : ∀ i : Fin 512, S (ix2 i j) = R (512 * b + i.val)) (hx : x (ix2 0 j) = M R (512 * b)) :
    newM S x (ix2 0 j) = M R (512 * b + 512) := by
  rw [newM_at, M_add, hx, ← fold_max 512 fun i => R (512 * b + i)]
  exact congrArg _ (Finset.fold_congr fun i _ => hS i)

theorem tile_L (hR : Row R) (hS : ∀ i : Fin 512, S (ix2 i j) = R (512 * b + i.val)) (hx : x (ix2 0 j) = M R (512 * b))
    (hl : l (ix2 0 j) = L R (512 * b)) : newL S x l (ix2 0 j) = L R (512 * b + 512) := by
  rw [newL_at, tile_M hS hx, hx, hl, L_add hR _ 512 (by norm_num), Finset.sum_range]
  congr 1
  exact Finset.sum_congr rfl fun i _ => by rw [hS i]

theorem tile_A {u : ℕ → EReal} {d : Fin 256} (hR : Row R) (hS : ∀ i : Fin 512, S (ix2 i j) = R (512 * b + i.val))
    (hx : x (ix2 0 j) = M R (512 * b)) (hv : ∀ i : Fin 512, v (ix2 d i) = u (512 * b + i.val))
    (ha : a (ix2 d j) = A R u (512 * b)) : newA S v x a (ix2 d j) = A R u (512 * b + 512) := by
  rw [newA_at, tile_M hS hx, hx, ha, A_add u hR _ 512 (by norm_num), Finset.sum_range]
  congr 1
  exact Finset.sum_congr rfl fun i _ => by rw [hS i, hv i]

end Tile

/-! ## The points -/

variable (m : (ℓ : Loc nD τ sig) → Buf (Elt Ideal) ℓ)

/-- The scores of the query in column `j` of the scratch, at point `t`. -/
abbrev rowAt (c : Dev nD) (t : Fin pl.N) (j : Fin 4096) : ℕ → EReal :=
  row (argQ m c) (argK m c) ⟨j.val / 256, by omega⟩ (sN t) (256 * qN t + j.val % 256)

/-- The scratch holds, in every column, the row's state after its first `n` keys. -/
structure Holds (c : Dev nD) (t : Fin pl.N) (s : St) (n : ℕ) : Prop where
  mx : ∀ j : Fin 4096, s.mx (ix2 0 j) = M (rowAt m c t j) n
  sm : ∀ j : Fin 4096, s.sm (ix2 0 j) = L (rowAt m c t j) n
  ac : ∀ (d : Fin 256) (j : Fin 4096), s.ac (ix2 d j) = A (rowAt m c t j) (comp (argV m c) d (sN t)) n

variable {m}

/-- The unmasked tile's scores. -/
theorem mid_scores (c : Dev nD) (t : Fin pl.N) (ht : 512 * (kN t + 1) ≤ 256 * qN t) (i : Fin 512) (j : Fin 4096) :
    k0_pay5 (F := Ideal) (blk0 m c t) (blk1 m c t) (ix2 i j) = rowAt m c t j (512 * kN t + i.val) := by
  refine (scores_at _ _ i j).trans ?_
  unfold rowAt row
  rw [if_pos (by omega)]
  unfold score
  refine Finset.sum_congr rfl fun x _ => ?_
  rw [blk0_at, blk1_at]

/-- The masked tile's scores. -/
theorem last_scores (c : Dev nD) (t : Fin pl.N) (i : Fin 512) (j : Fin 4096) :
    k0_pay12 (F := Ideal) (qa t) (kb t) (blk0 m c t) (blk1 m c t) (ix2 i j) = rowAt m c t j (512 * kN t + i.val) := by
  obtain ⟨-, -, -, -, hq, hk, hs⟩ := order_at t
  refine (masked_at (qa t) (kb t) _ _ (qN t) (kN t) rfl rfl hq hk i j).trans ?_
  unfold rowAt row
  congr 1
  unfold score
  refine Finset.sum_congr rfl fun x _ => ?_
  rw [blk0_at, blk1_at]

theorem upd_holds (c : Dev nD) (H : Fin' (argQ m c) (argK m c)) (t : Fin pl.N) (s : St) (h : Holds m c t s (512 * kN t)) :
    Holds m c t (upd m c t s) (512 * kN t + 512) := by
  have hR := fun j : Fin 4096 => row_ok H ⟨j.val / 256, by omega⟩ (sN t) (256 * qN t + j.val % 256)
  have hv : ∀ (d : Fin 256) (i : Fin 512), blk2 m c t (ix2 d i) = comp (argV m c) d (sN t) (512 * kN t + i.val) := fun d i => blk2_at m c t d i
  unfold upd
  by_cases hm : IsMid (qa t) (kb t)
  · rw [if_pos hm]
    have hS := fun (j : Fin 4096) (i : Fin 512) => mid_scores (m := m) c t ((order_at t).2.2.1 hm) i j
    exact ⟨fun j => (midM_eq _ _ _ _).trans (tile_M (hS j) (h.mx j)),
      fun j => (congrFun (midL_eq _ _ _ _) _).trans (tile_L (hR j) (hS j) (h.mx j) (h.sm j)),
      fun d j => (congrFun (midA_eq _ _ _ _ _) _).trans (tile_A (hR j) (hS j) (h.mx j) (hv d) (h.ac d j))⟩
  · rw [if_neg hm]
    have hS := fun (j : Fin 4096) (i : Fin 512) => last_scores (m := m) c t i j
    exact ⟨fun j => (lastM_eq _ _ _ _ _ _).trans (tile_M (hS j) (h.mx j)),
      fun j => (congrFun (lastL_eq _ _ _ _ _ _) _).trans (tile_L (hR j) (hS j) (h.mx j) (h.sm j)),
      fun d j => (congrFun (lastA_eq _ _ _ _ _ _ _) _).trans (tile_A (hR j) (hS j) (h.mx j) (hv d) (h.ac d j))⟩

/-- After point `t` the scratch holds its query tile's state over the key tiles up to `t`'s. -/
theorem st_holds (c : Dev nD) (H : Fin' (argQ m c) (argK m c)) : ∀ (n : ℕ) (t : Fin pl.N), t.val = n →
    Holds m c t (st m c (t.val + 1)) (512 * kN t + 512) := by
  intro n
  induction n with
  | zero => exact fun t ht => step t fun hn => absurd (order_at t).2.1 (by intro h; have := (h hn).1; omega)
  | succ n ih =>
    intro t ht
    refine step t fun hn => ?_
    obtain ⟨h0, hs, hq, hk⟩ := (order_at t).2.1 hn
    have hb : (before t).val + 1 = t.val := by unfold before; dsimp only; omega
    have := ih (before t) (by omega)
    rw [hb] at this
    have e : 512 * kN (before t) + 512 = 512 * kN t := by omega
    rw [e] at this
    refine ⟨fun j => ?_, fun j => ?_, fun d j => ?_⟩
    · rw [this.mx j]; unfold rowAt; rw [hs, hq]
    · rw [this.sm j]; unfold rowAt; rw [hs, hq]
    · rw [this.ac d j]; unfold rowAt; rw [hs, hq]
where
  step (t : Fin pl.N) (h : ¬ IsFirst (kb t) → Holds m c t (st m c t.val) (512 * kN t)) :
      Holds m c t (st m c (t.val + 1)) (512 * kN t + 512) := by
    rw [st_succ]
    refine upd_holds c H t _ ?_
    unfold start
    by_cases hf : IsFirst (kb t)
    · rw [if_pos hf, (order_at t).1.1 hf]
      exact ⟨fun j => (initM_at j).trans M_zero.symm, fun j => (initL_at j).trans (by simp [L]),
        fun d j => (initA_at d j).trans (by simp [A])⟩
    · rw [if_neg hf]; exact h hf

/-- After a query tile's last key tile its rows are complete. -/
theorem st_done (c : Dev nD) (H : Fin' (argQ m c) (argK m c)) (t : Fin pl.N) (ht : ¬ IsMid (qa t) (kb t)) :
    Holds m c t (st m c (t.val + 1)) 4096 := by
  have h := st_holds c H t.val t rfl
  obtain ⟨-, -, -, hl, hq, hk, hs⟩ := order_at t
  have hl := hl ht
  have hn : 512 * kN t + 512 ≤ 4096 := by omega
  have hm := fun j : Fin 4096 => row_masked (q := argQ m c) (k := argK m c) ⟨j.val / 256, by omega⟩ (sN t) (256 * qN t + j.val % 256)
    (e := 512 * kN t + 512) (by omega)
  exact ⟨fun j => (h.mx j).trans (M_tail hn (hm j)).symm, fun j => (h.sm j).trans (L_tail hn (hm j)).symm,
    fun d j => (h.ac d j).trans (A_tail _ hn (hm j)).symm⟩

end Cert.KernelIdeal.Own

end
-- ==== Proof.Value.Output.lean ====
/- What the last key tile of a query tile writes: each head's average times its weights, gated. -/
module

public import proofs.«01_k».proof.Proof.Value.Columns

@[expose] public section

set_option maxRecDepth 16384

noncomputable section

namespace Cert.KernelIdeal.Own

open Cert.KernelIdeal Cert.KernelIdeal.Gen
open Idealize.ShloMosaic Idealize.ShloMosaic.TcCoe
open Cert.Attention

variable (o : FVec Ideal S256x4096 .f32) (z : S256x2048.Idx → Elt Ideal .bf16) (w : S16x256x128.Idx → Elt Ideal .bf16)

/-- The block written, index by index. -/
def blockOf (y : S256x2048.Idx) : EReal :=
  (∑ c : Fin 256, (o (ix2 c ⟨256 * ((y 1).val / 128) + (y 0).val, by have := (y 0).isLt; have := (y 1).isLt; dsimp at *; omega⟩)
    * w (ix3 ⟨(y 1).val / 128, by have := (y 1).isLt; dsimp at *; omega⟩ c ⟨(y 1).val % 128, by omega⟩) : EReal)) * gate (z y)

/-- One head's slice at an index. -/
theorem headV_at (off : ℕ) (hoff : off + 256 ≤ 4096) (hs : S256x4096.Slices ![0, off] S256x256) (W : Vec Ideal S1x256x128 .bf16)
    (Z : Vec Ideal S256x128 .bf16) (i : Fin 256) (d : Fin 128) :
    headV o ![0, off] hs W Z (ix2 i d)
      = (∑ c : Fin 256, (o (ix2 c ⟨off + i.val, by omega⟩) * W (ix3 0 c d) : EReal)) * gate (Z (ix2 i d)) := by
  pointwise [headV]
  unfold gate
  rw [zero_sub]

theorem piece (h offz offo : ℕ) (hh : h < 16) (ez : offz = 128 * h) (eo : offo = 256 * h)
    (hs : S256x4096.Slices ![0, offo] S256x256) (bw) (bz) (x : S256x128.Idx) (y : S256x2048.Idx)
    (h0 : (y 0 : ℕ) = x 0) (h1 : (y 1 : ℕ) = offz + x 1) :
    headV o ![0, offo] hs (View.ld (Val := Elt Ideal) (e' := .bf16) w (Rect.unit (s := S16x256x128) ![h, 0, 0] S1x256x128.size bw))
      (View.ld (Val := Elt Ideal) (e' := .bf16) z (Rect.unit (s := S256x2048) ![0, offz] S256x128.size bz)) x = blockOf o z w y := by
  subst ez eo
  have x0 : (x 0 : ℕ) < 256 := (x 0).isLt
  have x1 : (x 1 : ℕ) < 128 := (x 1).isLt
  have e1 : (y 1 : ℕ) / 128 = h := by omega
  have e2 : (y 1 : ℕ) % 128 = x 1 := by omega
  obtain ⟨i, d, rfl⟩ : ∃ (i : Fin 256) (d : Fin 128), x = ix2 i d := ⟨x 0, x 1, eq_ix2 x⟩
  rw [headV_at o (256 * h) (by omega)]
  unfold blockOf
  congr 1
  · refine Finset.sum_congr rfl fun c _ => ?_
    congr 1
    · refine congrArg o (funext fun a => Fin.ext ?_)
      fin_cases a
      · rfl
      · show 256 * h + i.val = 256 * ((y 1 : ℕ) / 128) + (y 0 : ℕ)
        rw [e1, h0]; rfl
    · refine congrArg w (funext fun a => Fin.ext ?_)
      fin_cases a
      · show h + 1 * 0 = (y 1 : ℕ) / 128
        omega
      · show 0 + 1 * c.val = c.val
        omega
      · show 0 + 1 * d.val = (y 1 : ℕ) % 128
        rw [e2]; show 0 + 1 * d.val = d.val; omega
  · refine congrArg gate (congrArg z (funext fun a => Fin.ext ?_))
    fin_cases a
    · show 0 + 1 * i.val = (y 0 : ℕ)
      rw [h0]; show 0 + 1 * i.val = i.val; omega
    · show 128 * h + 1 * d.val = (y 1 : ℕ)
      rw [h1]; show 128 * h + 1 * d.val = 128 * h + d.val; omega

theorem outV_at (acc : S256x4096.Idx → Elt Ideal .f32) (l : S1x4096.Idx → Elt Ideal .f32) (y : S256x2048.Idx) :
    outV acc l z w y = blockOf (k0_pay20 acc l) z w y := by
  unfold outV outPieces
  generalize k0_pay20 acc l = o
  canon_tiles x h
  all_goals exact piece o z w _ _ _ (by norm_num) (by norm_num) (by norm_num) _ _ _ x y h0 (by omega)

end Cert.KernelIdeal.Own

end
-- ==== Proof.Value.Array.lean ====
/- The result array after the run. -/
module

public import proofs.«01_k».proof.Proof.Value.Output

@[expose] public section

set_option maxRecDepth 16384

noncomputable section

namespace Cert.KernelIdeal.Own

open Cert.KernelIdeal Cert.KernelIdeal.Gen
open Idealize.ShloMosaic Idealize.ShloMosaic.TcCoe
open Cert.Attention

variable (m : (ℓ : Loc nD τ sig) → Buf (Elt Ideal) ℓ)

/-- The average of a column. -/
theorem average_at (acc : FVec Ideal S256x4096 .f32) (l : FVec Ideal S1x4096 .f32) (d : Fin 256) (j : Fin 4096) :
    k0_pay20 (F := Ideal) acc l (ix2 d j) = (Ideal.div (acc (ix2 d j)) (l (ix2 0 j)) : EReal) := by
  pointwise [k0_pay20]

/-- The result array's expected contents. -/
def want (c : Dev nD) : S8192x2048.Idx → EReal := fun i =>
  result (argQ m c) (argK m c) (argV m c) (argZ m c) (argW m c) (i 0) (i 1)

/-- The block written at a query tile's last key tile. -/
theorem outB_at (c : Dev nD) (H : Fin' (argQ m c) (argK m c)) (t : Fin pl.N) (ht : ¬ IsMid (qa t) (kb t)) (i : Fin 256) (j : Fin 2048) :
    outB m c t (ix2 i j) = want m c (ix2 (place (sN t) (256 * qN t + i.val)) j) := by
  obtain ⟨-, -, -, -, hq, hk, hs⟩ := order_at t
  have hp := place_val (n := sN t) (i := 256 * qN t + i.val) hs (by omega)
  have e1 : (place (sN t) (256 * qN t + i.val)).val / 4096 = sN t := by rw [hp]; omega
  have e2 : (place (sN t) (256 * qN t + i.val)).val % 4096 = 256 * qN t + i.val := by rw [hp]; omega
  have hd := st_done (m := m) c H t ht
  unfold outB
  rw [outV_at]
  unfold want blockOf
  dsimp only
  show _ = result _ _ _ _ _ (place (sN t) (256 * qN t + i.val)) j
  unfold result out
  rw [e1, e2, blk3_at]
  refine congrArg₂ (fun a b : EReal => a * b) (Finset.sum_congr rfl fun x _ => ?_) rfl
  have hr : rowAt m c t ⟨256 * (j.val / 128) + i.val, by omega⟩ = row (argQ m c) (argK m c) ⟨j.val / 128, by omega⟩ (sN t) (256 * qN t + i.val) := by
    unfold rowAt
    congr 1
    · exact Fin.ext (by dsimp only; omega)
    · dsimp only; omega
  rw [← hr]
  refine congrArg₂ (fun a b : EReal => a * b) ?_ (blk4_at m c t _ _ _)
  refine (average_at _ _ x _).trans ?_
  exact congrArg₂ Ideal.div (hd.ac x _) (hd.sm _)

theorem final (c : Dev nD) (H : Fin' (argQ m c) (argK m c)) : (dats m 0 c).arrAt (5 : Fin 6) pl.N = want m c := by
  refine (dats m 0 c).arrAt_eq_of_covers (5 : Fin 6) (want m c) result_covers fun t hf y => ?_
  obtain ⟨-, -, -, -, -, p5⟩ := place_at t
  obtain ⟨-, -, -, -, hq, hk, hs⟩ := order_at t
  have hm : ¬ IsMid (qa t) (kb t) := fun h => by
    obtain ⟨-, -, hl⟩ := (facts_at t).1 h
    exact Bool.noConfusion (hf.symm.trans hl)
  refine Eq.trans (b := outB m c t y) (by rfl) ?_
  obtain ⟨i, j, rfl⟩ : ∃ (i : Fin 256) (j : Fin 2048), y = ix2 i j := ⟨y 0, y 1, eq_ix2 y⟩
  rw [outB_at m c H t hm i j]
  have hp := place_val (n := sN t) (i := 256 * qN t + i.val) hs (by omega)
  have e : ∀ a, ((((pl.win (5 : Fin 6)).blk t).view.emb (ix2 i j)) a : ℕ)
      = (pl.win (5 : Fin 6)).index t a * (pl.win (5 : Fin 6)).size a + (ix2 i j a : ℕ) :=
    fun a => by exact Pipeline.Window.rect_emb_val ..
  refine congrArg (want m c) (funext fun a => Fin.ext ?_)
  refine Eq.trans ?_ (e a).symm
  rw [p5]
  fin_cases a
  · show (place _ _).val = (16 * sN t + qN t) * 256 + i.val
    rw [hp]; omega
  · show j.val = 0 * 2048 + j.val
    omega

end Cert.KernelIdeal.Own

end
-- ==== Proof.Value.Reference.lean ====
/- The reference's result, read at an index. -/
module
public import proofs.«01_k».proof.Proof.Gen.ReferenceIdeal.Run
public import proofs.«01_k».proof.Proof.Value.Spec
public import Idealize.ShloMosaic.Lib.Pipeline.ValueKit
public import Idealize.ShloMosaic.Lib.Tactic.CleanTypes
@[expose] public section
set_option maxRecDepth 16384
noncomputable section
namespace Cert.ReferenceIdeal.Value
open Idealize.ShloMosaic Idealize.ShloMosaic.TcCoe Idealize.SL.Sem
open Cert.ReferenceIdeal Cert.ReferenceIdeal.Gen
variable (m : (ℓ : Loc nD τ sig) → Buf (Elt Ideal) ℓ)

set_option maxHeartbeats 2000000 in
/-- What the reference returns at row `r` and column `j`. -/
theorem reference_at (c : Dev nD)
    (H : Cert.Attention.Fin' (m ((c.tc : Thread nD τ).loc main_arg0)) (m ((c.tc : Thread nD τ).loc main_arg1)))
    (r : Fin 8192) (j : Fin 2048) :
    res_main_v32 (F := Ideal) m c (ix2 r j)
      = Cert.Attention.result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) r j := by
  unfold res_main_v32
  revert H
  generalize (m ((c.tc : Thread nD τ).loc main_arg0)) = A0
  generalize (m ((c.tc : Thread nD τ).loc main_arg1)) = A1
  generalize (m ((c.tc : Thread nD τ).loc main_arg2)) = A2
  generalize (m ((c.tc : Thread nD τ).loc main_arg3)) = A3
  generalize (m ((c.tc : Thread nD τ).loc main_arg4)) = A4
  intro H
  clean_types
  pointwise
  have hr : r.val / 4096 < 2 := by omega
  have hp : r.val % 4096 < 4096 := by omega
  have hplace : ∀ x : Fin 4096, (⟨r.val / 4096 * 4096 + x.val, by omega⟩ : Fin 8192) = Cert.Attention.place (r.val / 4096) x.val :=
    fun x => Fin.ext (by rw [Cert.Attention.place_val hr x.isLt]; dsimp only; omega)
  have hrow' : (⟨r.val / 4096 * 4096 + r.val % 4096, by omega⟩ : Fin 8192) = r := Fin.ext (by dsimp only; omega)
  have hrow : Cert.Attention.place (r.val / 4096) (r.val % 4096) = r :=
    Fin.ext (by rw [Cert.Attention.place_val hr hp]; omega)
  have hid : (id (constant (F := Ideal) S_ .f32 0xFF800000#32) : FVec Ideal S_ .f32) ix0 = (⊥ : EReal) := Cert.Attention.word_bot
  have hs : ∀ x : Fin 4096, (Scalar.select (IntOp.cmpi CmpIPredicate.sle (BitVec.ofNat 32 x.val) (BitVec.ofNat 32 (r.val % 4096)))
      (∑ x_3 : Fin 384, @HMul.hMul EReal EReal EReal _ (A0 (ix3 ⟨j.val / 128, by omega⟩ r x_3)) (A1 (ix2 (Cert.Attention.place (r.val / 4096) x.val) x_3)))
      (⊥ : EReal) : EReal)
      = Cert.Attention.row A0 A1 ⟨j.val / 128, by omega⟩ (r.val / 4096) (r.val % 4096) x.val := by
    intro x
    rw [Cert.Attention.select_le _ _ (by simp; omega) (by simp; omega)]
    unfold Cert.Attention.row Cert.Attention.score
    rw [hrow]
    have e1 : (BitVec.ofNat 32 x.val).toNat = x.val := by simp; omega
    have e2 : (BitVec.ofNat 32 (r.val % 4096)).toNat = r.val % 4096 := by simp; omega
    rw [e1, e2]
    exact if_congr Iff.rfl (Finset.sum_congr rfl fun _ _ => mul_comm _ _) rfl
  have hrowok := Cert.Attention.row_ok H ⟨j.val / 128, by omega⟩ (r.val / 4096) (r.val % 4096)
  simp only [hrow', hid, hplace]
  simp only [hs]
  rw [Cert.Attention.word_bot, Cert.Attention.word_two]
  simp only [Cert.Attention.fold_max, Cert.Attention.pow_two_eq]
  unfold Cert.Attention.result Cert.Attention.out Cert.Attention.gate
  refine congrArg₂ (fun a b : EReal => a * b) (Finset.sum_congr rfl fun x _ => ?_) rfl
  rw [Cert.Attention.average_fin (Cert.Attention.comp A2 x (r.val / 4096)) hrowok]
  exact mul_comm _ _
end Cert.ReferenceIdeal.Value
end
-- ==== Proof.Value.Precondition.lean ====
/- What the precondition says: the queries and the keys are finite. -/
module

public import proofs.«01_k».proof.Pre_finite
public import proofs.«01_k».proof.Proof.Value.Spec
public import Idealize.ShloMosaic.Lib.Pipeline.ValueKit
public import Idealize.ShloMosaic.Lib.ReduceAll
public import Idealize.ShloMosaic.Lib.Decide
public import Idealize.ShloMosaic.Lib.Affine

@[expose] public section

set_option maxRecDepth 16384

noncomputable section

namespace Cert.Attention

open Idealize.ShloMosaic

/-- The side conditions of the precondition's operations. -/
instance finite_facts : Cert.Pre_finite.Facts where
  bcast_S_S16x8192x384 := by decide
  reducesTo_S16x8192x384_S_d0_1_2 := by decide
  h_S_ := by decide
  bcast_S_S8192x384 := by decide
  reducesTo_S8192x384_S_d0_1 := by decide

/-- The word of infinity. -/
theorem word_top : Ideal.ofBits .bf16 0x7F80#16 = ⊤ := by
  simp [Ideal.ofBits, Ideal.ieee]

/-- A magnitude below infinity is that of a real number. -/
theorem finite_of_abs (x : EReal) (h : Ideal.cmp .olt (max x (-x)) (⊤ : EReal) = 1#1) : x ≠ ⊤ ∧ x ≠ ⊥ := by
  constructor
  · rintro rfl
    simp [Ideal.cmp] at h
  · rintro rfl
    simp [Ideal.cmp] at h

open Cert.Pre_finite in
theorem fin_of_pre (q : FVec Ideal S16x8192x384 .bf16) (k : FVec Ideal S8192x384 .bf16) (v : FVec Ideal S256x8192 .bf16)
    (z : FVec Ideal S8192x11264 .bf16) (w : FVec Ideal S16x256x128 .bf16)
    (h : Cert.Pre_finite.fn (F := Ideal) q k v z w = fun _ => 1#1) : Fin' q k := by
  have h0 := congrFun h ix0
  unfold fn at h0
  dsimp only at h0
  have h1 : ∀ a b : BitVec 1, IntOp.andi a b = 1#1 → a = 1#1 ∧ b = 1#1 := by decide
  obtain ⟨hq, hk⟩ := h1 _ _ h0
  constructor
  · intro i
    have := Host.reduce_andi_all _ _ _ _ _ hq i
    refine finite_of_abs _ ?_
    rw [← word_top]
    exact this
  · intro i
    have := Host.reduce_andi_all _ _ _ _ _ hk i
    refine finite_of_abs _ ?_
    rw [← word_top]
    exact this

end Cert.Attention

end
-- ==== Proof.Calls.InWide.lean ====
/- The input projection onto the columns kept in the narrower format: the normalised rows times the weights. The rows are
   normalised at a row group's first column group and kept in the scratch for the ten after it. -/
module

public import proofs.«01_k».proof.Defs
public import proofs.«01_k».proof.Proof.Gen.InWide.Frame
public import proofs.«01_k».proof.Proof.Gen.InWideIdeal.Value
public import proofs.«01_k».proof.Proof.Gen.InWideReferenceIdeal.Run
public import Idealize.ShloMosaic.Lib.Pipeline.ValueKit
public import Idealize.ShloMosaic.Lib.Pipeline.ReadBack
public import Idealize.ShloMosaic.Lib.Quiescent

@[expose] public section

set_option maxRecDepth 16384

noncomputable section

namespace Cert.InWideReferenceIdeal.Own

open Cert.InWideReferenceIdeal Cert.InWideReferenceIdeal.Gen
open Idealize.ShloMosaic Idealize.ShloMosaic.TcCoe Idealize.SL.Sem

/-- What the reference returns, of the rows, their scale and the weights. -/
abbrev want (X : FVec Ideal S8192x2048 .f32) (G : FVec Ideal S1x2048 .f32) (W : FVec Ideal S11264x2048 .bf16) :
    FVec Ideal S8192x11264 .bf16 :=
  truncf .bf16 (Host.dotGeneral dot_S8192x2048_S2048x11264_S8192x11264_1_0_0_1_n_n none
    (mulf (mulf X (broadcastInDim S8192x2048 ![0, 1] bcast_S8192x1_S8192x2048_0_1
        (Host.rsqrt (addf (Host.divf (broadcastInDim S8192x1 ![0] bcast_S8192_S8192x1_0
            (Host.reduceAdd (mulf X X) (constant S_ .f32 0x00000000#32) reducesTo_S8192x2048_S8192_d1 h_S_))
            (broadcastInDim S8192x1 ![] bcast_S_S8192x1 (constant S_ .f32 0x45000000#32)))
          (broadcastInDim S8192x1 ![] bcast_S_S8192x1 (constant S_ .f32 0x358637BD#32))))))
      (broadcastInDim S8192x2048 ![0, 1] bcast_S1x2048_S8192x2048_0_1 G))
    (transpose S2048x11264 [1, 0] (extf .f32 W bitsLt_bf16_f32) transposes_S11264x2048_S2048x11264_1_0)) bitsLt_bf16_f32

end Cert.InWideReferenceIdeal.Own

namespace Cert.InWideIdeal.Own

open Cert.InWideIdeal Cert.InWideIdeal.Gen
open Idealize.ShloMosaic Idealize.ShloMosaic.TcCoe Idealize.SL.Sem
open Cert.InWideReferenceIdeal.Own (want)

variable (m : (ℓ : Loc nD τ sig) → Buf (Elt Ideal) ℓ)

/-- Where each window lies at a point: row group by the quotient, column group by the remainder. -/
theorem idx : ∀ t : Fin cfg0.N, win0_0.index t = ![t.val / 11, 0] ∧ win0_1.index t = ![0, 0]
    ∧ win0_2.index t = ![t.val % 11, 0] ∧ win0_3.index t = ![t.val / 11, t.val % 11] :=
  (by decide +kernel : ∀ t : Fin grid0.N, _)

/-- What the reference returns of the arguments in memory `m`. -/
abbrev result (c : Dev nD) : FVec Ideal S8192x11264 .bf16 :=
  want (m ((c : Thread nD τ).loc main_arg0)) (m ((c : Thread nD τ).loc main_arg1)) (m ((c : Thread nD τ).loc main_arg2))

/-- Two points of one row group normalise the same rows. -/
theorem same (c : Dev nD) (t t' : Fin cfg0.N) (h : t.val / 11 = t'.val / 11) :
    k0_pay1 (iblk m c 0 t) (iblk m c 1 t) = k0_pay1 (iblk m c 0 t') (iblk m c 1 t') := by
  funext y
  pointwise [k0_pay1]
  blk_point [iblk, V, idx t, idx t', h]

/-- After every point the scratch holds its row group's normalised rows. -/
theorem scratch (c : Dev nD) : ∀ (n : ℕ) (hn : n < cfg0.N),
    (outsAt0 m c n hn).2 = k0_pay1 (iblk m c 0 ⟨n, hn⟩) (iblk m c 1 ⟨n, hn⟩) := by
  intro n
  induction n using Nat.strong_induction_on with
  | _ n ih =>
    intro hn
    by_cases h0 : n % 11 = 0
    · rw [outsAt0_A m c ⟨n, hn⟩ h0]
      frame_out
    · rw [outsAt0_B m c ⟨n, hn⟩ h0]
      frame_out
      rw [ih (n - 1) (by omega)]
      exact same m c _ _ (by dsimp only; omega)

theorem point (c : Dev nD) (t : Fin cfg0.N) (y : S1024x1024.Idx) :
    k0_pay2 (k0_pay1 (iblk m c 0 t) (iblk m c 1 t)) (iblk m c 2 t) y = result m c (((cfg0.win 3).blk t).view.emb y) := by
  pointwise [k0_pay1, k0_pay2, result, want]
  blk_point [iblk, V, idx t]

theorem final (c : Dev nD) : (dats m 0 c).arrAt 3 cfg0.N = result m c := by
  refine (dats m 0 c).arrAt_eq_of_covers 3 _ (by decide +kernel) fun t _ y => ?_
  blk_simp
  rw [after0_3]
  by_cases h0 : t.val % 11 = 0
  · rw [outsAt0_A m c t h0]
    frame_out
    exact point m c t y
  · rw [outsAt0_B m c t h0]
    frame_out
    rw [read_unread_whole]
    rw [scratch, same m c _ t (by dsimp only; omega)]
    exact point m c t y

end Cert.InWideIdeal.Own

namespace Cert.Proof

open Idealize.ShloMosaic Idealize.SL.Sem

/-- The projection as it is ends, with its arguments unchanged and every counter at zero; so does its ideal form. -/
theorem inwide_frame : Cert.quiescent_InWide := fun m g _ => Cert.InWide.Gen.frame m g

theorem inwide_frame_ideal : Cert.quiescent_InWideIdeal := fun m g _ => Cert.InWideIdeal.Gen.frame m g

theorem inwide_frame_reference : Cert.quiescent_InWideReferenceIdeal := by
  intro m g _
  exact (θ_run Cert.InWideReferenceIdeal.defs _ _).mono
    (fun r h => ⟨fun c => (h c).2, sem_eq_zero_of_no_sems (by decide) r.2⟩) (Cert.InWideReferenceIdeal.Value.run m g)

/-- Kernel and reference return the same array. -/
theorem inwide_equal : Cert.algebraic_InWideIdeal_InWideReferenceIdeal := by
  intro m g m' g' _ hargs
  refine ⟨Cert.InWideIdeal.Own.result m, ?_, ?_⟩
  · exact (θ_run Cert.InWideIdeal.defs _ _).mono (fun r h c => ⟨(h c).1.trans (Cert.InWideIdeal.Own.final m c), (h c).2⟩)
      (Cert.InWideIdeal.Value.run_blocks m g)
  · refine (θ_run Cert.InWideReferenceIdeal.defs _ _).mono (fun r h c => ⟨(h c).1.trans ?_, (h c).2⟩)
      (Cert.InWideReferenceIdeal.Value.run m' g')
    obtain ⟨e0, e1, e2⟩ := hargs c
    rw [e0, e1, e2]

end Cert.Proof

end
-- ==== Proof.Calls.InState.lean ====
/- The input projection onto the columns kept in the wider format: the normalised rows times the weights. -/
module

public import proofs.«01_k».proof.Defs
public import proofs.«01_k».proof.Proof.Gen.InState.Frame
public import proofs.«01_k».proof.Proof.Gen.InStateIdeal.Value
public import proofs.«01_k».proof.Proof.Gen.InStateReferenceIdeal.Run
public import Idealize.ShloMosaic.Lib.Pipeline.ValueKit
public import Idealize.ShloMosaic.Lib.Quiescent

@[expose] public section

set_option maxRecDepth 16384

noncomputable section

namespace Cert.InStateReferenceIdeal.Own

open Cert.InStateReferenceIdeal Cert.InStateReferenceIdeal.Gen
open Idealize.ShloMosaic Idealize.ShloMosaic.TcCoe Idealize.SL.Sem

/-- What the reference returns, of the rows, their scale and the weights. -/
abbrev want (X : FVec Ideal S8192x2048 .f32) (G : FVec Ideal S1x2048 .f32) (W : FVec Ideal S2176x2048 .bf16) :
    FVec Ideal S8192x2176 .f32 :=
  Host.dotGeneral dot_S8192x2048_S2048x2176_S8192x2176_1_0_0_1_n_n none
    (mulf (mulf X (broadcastInDim S8192x2048 ![0, 1] bcast_S8192x1_S8192x2048_0_1
        (Host.rsqrt (addf (Host.divf (broadcastInDim S8192x1 ![0] bcast_S8192_S8192x1_0
            (Host.reduceAdd (mulf X X) (constant S_ .f32 0x00000000#32) reducesTo_S8192x2048_S8192_d1 h_S_))
            (broadcastInDim S8192x1 ![] bcast_S_S8192x1 (constant S_ .f32 0x45000000#32)))
          (broadcastInDim S8192x1 ![] bcast_S_S8192x1 (constant S_ .f32 0x358637BD#32))))))
      (broadcastInDim S8192x2048 ![0, 1] bcast_S1x2048_S8192x2048_0_1 G))
    (transpose S2048x2176 [1, 0] (extf .f32 W bitsLt_bf16_f32) transposes_S2176x2048_S2048x2176_1_0)

end Cert.InStateReferenceIdeal.Own

namespace Cert.InStateIdeal.Own

open Cert.InStateIdeal Cert.InStateIdeal.Gen
open Idealize.ShloMosaic Idealize.ShloMosaic.TcCoe Idealize.SL.Sem
open Cert.InStateReferenceIdeal.Own (want)

variable (m : (ℓ : Loc nD τ sig) → Buf (Elt Ideal) ℓ)

/-- Where each window lies at a point: one group of rows a point, everything else whole. -/
theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

/-- What the reference returns of the arguments in memory `m`. -/
abbrev result (c : Dev nD) : FVec Ideal S8192x2176 .f32 :=
  want (m ((c : Thread nD τ).loc main_arg0)) (m ((c : Thread nD τ).loc main_arg1)) (m ((c : Thread nD τ).loc main_arg2))

theorem point (c : Dev nD) (t : Fin cfg0.N) (y : S512x2176.Idx) :
    k0_pay2 (k0_pay1 (iblk m c 0 t) (iblk m c 1 t)) (iblk m c 2 t) y = result m c (((cfg0.win 3).blk t).view.emb y) := by
  pointwise [k0_pay1, k0_pay2, result, want]
  blk_point [iblk, V, idx t]

theorem final (c : Dev nD) : (dats m 0 c).arrAt 3 cfg0.N = result m c := by
  refine (dats m 0 c).arrAt_eq_of_covers 3 _ (by decide +kernel) fun t _ y => ?_
  blk_simp
  rw [after0_3, outsAt0]
  frame_out
  exact point m c t y

end Cert.InStateIdeal.Own

namespace Cert.Proof

open Idealize.ShloMosaic Idealize.SL.Sem

/-- The projection as it is ends, with its arguments unchanged and every counter at zero; so does its ideal form. -/
theorem instate_frame : Cert.quiescent_InState := fun m g _ => Cert.InState.Gen.frame m g

theorem instate_frame_ideal : Cert.quiescent_InStateIdeal := fun m g _ => Cert.InStateIdeal.Gen.frame m g

theorem instate_frame_reference : Cert.quiescent_InStateReferenceIdeal := by
  intro m g _
  exact (θ_run Cert.InStateReferenceIdeal.defs _ _).mono
    (fun r h => ⟨fun c => (h c).2, sem_eq_zero_of_no_sems (by decide) r.2⟩) (Cert.InStateReferenceIdeal.Value.run m g)

/-- Kernel and reference return the same array. -/
theorem instate_equal : Cert.algebraic_InStateIdeal_InStateReferenceIdeal := by
  intro m g m' g' _ hargs
  refine ⟨Cert.InStateIdeal.Own.result m, ?_, ?_⟩
  · exact (θ_run Cert.InStateIdeal.defs _ _).mono (fun r h c => ⟨(h c).1.trans (Cert.InStateIdeal.Own.final m c), (h c).2⟩)
      (Cert.InStateIdeal.Value.run_blocks m g)
  · refine (θ_run Cert.InStateReferenceIdeal.defs _ _).mono (fun r h c => ⟨(h c).1.trans ?_, (h c).2⟩)
      (Cert.InStateReferenceIdeal.Value.run m' g')
    obtain ⟨e0, e1, e2⟩ := hargs c
    rw [e0, e1, e2]

end Cert.Proof

end
-- ==== Proof.Calls.Merge.lean ====
/- The merge of the three branches: the array the kernel leaves is the gated sum of the three projections. -/
module

public import proofs.«01_k».proof.Defs
public import proofs.«01_k».proof.Proof.Gen.Merge.Frame
public import proofs.«01_k».proof.Proof.Gen.MergeIdeal.Value
public import proofs.«01_k».proof.Proof.Gen.MergeReferenceIdeal.Run
public import Idealize.ShloMosaic.Lib.Pipeline.ValueKit
public import Idealize.ShloMosaic.Lib.Quiescent

@[expose] public section

set_option maxRecDepth 16384

noncomputable section

namespace Cert.MergeReferenceIdeal.Own

open Cert.MergeReferenceIdeal Cert.MergeReferenceIdeal.Gen
open Idealize.ShloMosaic Idealize.ShloMosaic.TcCoe Idealize.SL.Sem

/-- The gates as the reference forms them: the last three column groups through the logistic function. -/
abbrev gates (H : FVec Ideal S8192x11264 .bf16) : FVec Ideal S8192x3x2048 .f32 :=
  shapeCast _ (Host.divf (broadcastInDim S8192x6144 ![] bcast_S_S8192x6144 (constant S_ .f32 0x3F800000#32))
    (addf (broadcastInDim S8192x6144 ![] bcast_S_S8192x6144 (constant S_ .f32 0x3F800000#32))
      (Host.exp (Host.negf (extf .f32 (extractStridedSlice S8192x6144 ![0, 5120] H slices_S8192x11264_S8192x6144_0_5120)
        bitsLt_bf16_f32))))) shapeCasts_S8192x6144_S8192x3x2048

/-- What the reference returns, of its seven arguments. -/
abbrev want (Ya : FVec Ideal S8192x1024 .bf16) (Yb : FVec Ideal S8192x2048 .bf16) (Yc : FVec Ideal S8192x1024 .bf16)
    (H : FVec Ideal S8192x11264 .bf16) (Pa : FVec Ideal S1024x2048 .bf16) (Pb : FVec Ideal S2048x2048 .bf16)
    (Pc : FVec Ideal S1024x2048 .bf16) : FVec Ideal S8192x2048 .bf16 :=
  truncf .bf16 (addf (addf
    (mulf (shapeCast _ (extractStridedSlice S8192x1x2048 ![0, 0, 0] (gates H) slices_S8192x3x2048_S8192x1x2048_0_0_0)
        shapeCasts_S8192x1x2048_S8192x2048)
      (Host.dotGeneral dot_S8192x1024_S1024x2048_S8192x2048_1_0_0_1_n_n none (extf .f32 Ya bitsLt_bf16_f32)
        (extf .f32 Pa bitsLt_bf16_f32)))
    (mulf (shapeCast _ (extractStridedSlice S8192x1x2048 ![0, 1, 0] (gates H) slices_S8192x3x2048_S8192x1x2048_0_1_0)
        shapeCasts_S8192x1x2048_S8192x2048)
      (Host.dotGeneral dot_S8192x2048_S2048x2048_S8192x2048_1_0_0_1_n_n none (extf .f32 Yb bitsLt_bf16_f32)
        (extf .f32 Pb bitsLt_bf16_f32))))
    (mulf (shapeCast _ (extractStridedSlice S8192x1x2048 ![0, 2, 0] (gates H) slices_S8192x3x2048_S8192x1x2048_0_2_0)
        shapeCasts_S8192x1x2048_S8192x2048)
      (Host.dotGeneral dot_S8192x1024_S1024x2048_S8192x2048_1_0_0_1_n_n none (extf .f32 Yc bitsLt_bf16_f32)
        (extf .f32 Pc bitsLt_bf16_f32)))) bitsLt_bf16_f32

end Cert.MergeReferenceIdeal.Own

namespace Cert.MergeIdeal.Own

open Cert.MergeIdeal Cert.MergeIdeal.Gen
open Idealize.ShloMosaic Idealize.ShloMosaic.TcCoe Idealize.SL.Sem
open Cert.MergeReferenceIdeal.Own (want gates)

variable (m : (ℓ : Loc nD τ sig) → Buf (Elt Ideal) ℓ)

/-- Where each window lies at a point: rows by the quotient, columns by the remainder, the gates' after the other columns. -/
theorem idx : ∀ t : Fin cfg0.N, win0_0.index t = ![t.val / 4, 0] ∧ win0_1.index t = ![t.val / 4, 0]
    ∧ win0_2.index t = ![t.val / 4, 0] ∧ win0_3.index t = ![t.val / 4, 10 + t.val % 4]
    ∧ win0_4.index t = ![t.val / 4, 14 + t.val % 4] ∧ win0_5.index t = ![t.val / 4, 18 + t.val % 4]
    ∧ win0_6.index t = ![0, t.val % 4] ∧ win0_7.index t = ![0, t.val % 4] ∧ win0_8.index t = ![0, t.val % 4]
    ∧ win0_9.index t = ![t.val / 4, t.val % 4] :=
  (by decide +kernel : ∀ t : Fin grid0.N, _)

/-- What the reference returns of the arguments in memory `m`. -/
abbrev result (c : Dev nD) : FVec Ideal S8192x2048 .bf16 :=
  want (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

theorem point (c : Dev nD) (t : Fin cfg0.N) (y : S1024x512.Idx) :
    k0_pay1 (k0_pay2 (iblk m c 3 t) (iblk m c 0 t) (iblk m c 6 t) (iblk m c 4 t) (iblk m c 1 t) (iblk m c 7 t))
        (k0_pay3 (iblk m c 5 t)) (iblk m c 2 t) (iblk m c 8 t) y
      = result m c (((cfg0.win 9).blk t).view.emb y) := by
  pointwise [k0_pay1, k0_pay2, k0_pay3, result, want, gates]
  simp only [zero_sub]
  blk_point [iblk, V, idx t]

theorem final (c : Dev nD) : (dats m 0 c).arrAt 9 cfg0.N = result m c := by
  refine (dats m 0 c).arrAt_eq_of_covers 9 _ (by decide +kernel) fun t _ y => ?_
  blk_simp
  rw [after0_9]
  frame_out
  exact point m c t y

end Cert.MergeIdeal.Own

namespace Cert.Proof

open Idealize.ShloMosaic Idealize.SL.Sem

/-- The merge as it is ends, with its arguments unchanged and every counter at zero; so does its ideal form. -/
theorem merge_frame : Cert.quiescent_Merge := fun m g _ => Cert.Merge.Gen.frame m g

theorem merge_frame_ideal : Cert.quiescent_MergeIdeal := fun m g _ => Cert.MergeIdeal.Gen.frame m g

theorem merge_frame_reference : Cert.quiescent_MergeReferenceIdeal := by
  intro m g _
  exact (θ_run Cert.MergeReferenceIdeal.defs _ _).mono
    (fun r h => ⟨fun c => (h c).2, sem_eq_zero_of_no_sems (by decide) r.2⟩) (Cert.MergeReferenceIdeal.Value.run m g)

/-- Kernel and reference return the same array. -/
theorem merge_equal : Cert.algebraic_MergeIdeal_MergeReferenceIdeal := by
  intro m g m' g' _ hargs
  refine ⟨Cert.MergeIdeal.Own.result m, ?_, ?_⟩
  · exact (θ_run Cert.MergeIdeal.defs _ _).mono (fun r h c => ⟨(h c).1.trans (Cert.MergeIdeal.Own.final m c), (h c).2⟩)
      (Cert.MergeIdeal.Value.run_blocks m g)
  · refine (θ_run Cert.MergeReferenceIdeal.defs _ _).mono (fun r h c => ⟨(h c).1.trans ?_, (h c).2⟩)
      (Cert.MergeReferenceIdeal.Value.run m' g')
    obtain ⟨e0, e1, e2, e3, e4, e5, e6⟩ := hargs c
    rw [e0, e1, e2, e3, e4, e5, e6]

end Cert.Proof

end
-- ==== Proof.Calls.Out.lean ====
/- The output projection: the array the kernel leaves is the layer's input plus the product the reference forms. -/
module

public import proofs.«01_k».proof.Defs
public import proofs.«01_k».proof.Proof.Gen.Out.Frame
public import proofs.«01_k».proof.Proof.Gen.OutIdeal.Value
public import proofs.«01_k».proof.Proof.Gen.OutReferenceIdeal.Run
public import Idealize.ShloMosaic.Lib.Pipeline.ValueKit
public import Idealize.ShloMosaic.Lib.Quiescent

@[expose] public section

set_option maxRecDepth 16384

noncomputable section

namespace Cert.OutIdeal.Own

open Cert.OutIdeal Cert.OutIdeal.Gen
open Idealize.ShloMosaic Idealize.ShloMosaic.TcCoe Idealize.SL.Sem

variable (m : (ℓ : Loc nD τ sig) → Buf (Elt Ideal) ℓ)

/-- What the reference returns, of its three arguments. -/
abbrev want (M : FVec Ideal S8192x2048 .bf16) (W : FVec Ideal S2048x2048 .bf16) (X : FVec Ideal S8192x2048 .f32) :
    FVec Ideal S8192x2048 .f32 :=
  addf X (Host.dotGeneral Cert.OutReferenceIdeal.dot_S8192x2048_S2048x2048_S8192x2048_1_0_0_1_n_n none
    (extf .f32 M Cert.OutReferenceIdeal.Gen.bitsLt_bf16_f32) (extf .f32 W Cert.OutReferenceIdeal.Gen.bitsLt_bf16_f32))

/-- Where each window lies at a point: rows by the quotient, columns by the remainder. -/
theorem idx : ∀ t : Fin cfg0.N, win0_0.index t = ![t.val / 4, 0] ∧ win0_1.index t = ![0, t.val % 4]
    ∧ win0_2.index t = ![t.val / 4, t.val % 4] ∧ win0_3.index t = ![t.val / 4, t.val % 4] :=
  (by decide +kernel : ∀ t : Fin grid0.N, _)

theorem point (c : Dev nD) (t : Fin cfg0.N) (y : S1024x512.Idx) :
    k0_pay1 (iblk m c 2 t) (iblk m c 0 t) (iblk m c 1 t) y
      = want (m ((c : Thread nD τ).loc main_arg0)) (m ((c : Thread nD τ).loc main_arg1)) (m ((c : Thread nD τ).loc main_arg2))
          (((cfg0.win 3).blk t).view.emb y) := by
  pointwise [k0_pay1, want]
  blk_point [iblk, V, idx t]

/-- The same of the arguments in memory `m`. -/
abbrev result (c : Dev nD) : FVec Ideal S8192x2048 .f32 :=
  want (m ((c : Thread nD τ).loc main_arg0)) (m ((c : Thread nD τ).loc main_arg1)) (m ((c : Thread nD τ).loc main_arg2))

theorem final (c : Dev nD) : (dats m 0 c).arrAt 3 cfg0.N = result m c := by
  refine (dats m 0 c).arrAt_eq_of_covers 3 _ (by decide +kernel) fun t _ y => ?_
  blk_simp
  rw [after0_3]
  frame_out
  exact point m c t y

end Cert.OutIdeal.Own

namespace Cert.Proof

open Idealize.ShloMosaic Idealize.SL.Sem

/-- The output projection as it is ends, with its arguments unchanged and every counter at zero; so does its ideal form. -/
theorem out_frame : Cert.quiescent_Out := fun m g _ => Cert.Out.Gen.frame m g

theorem out_frame_ideal : Cert.quiescent_OutIdeal := fun m g _ => Cert.OutIdeal.Gen.frame m g

theorem out_frame_reference : Cert.quiescent_OutReferenceIdeal := by
  intro m g _
  exact (θ_run Cert.OutReferenceIdeal.defs _ _).mono
    (fun r h => ⟨fun c => (h c).2, sem_eq_zero_of_no_sems (by decide) r.2⟩) (Cert.OutReferenceIdeal.Value.run m g)

/-- Kernel and reference return the same array. -/
theorem out_equal : Cert.algebraic_OutIdeal_OutReferenceIdeal := by
  intro m g m' g' _ hargs
  refine ⟨Cert.OutIdeal.Own.result m, ?_, ?_⟩
  · exact (θ_run Cert.OutIdeal.defs _ _).mono (fun r h c => ⟨(h c).1.trans (Cert.OutIdeal.Own.final m c), (h c).2⟩)
      (Cert.OutIdeal.Value.run_blocks m g)
  · refine (θ_run Cert.OutReferenceIdeal.defs _ _).mono (fun r h c => ⟨(h c).1.trans ?_, (h c).2⟩)
      (Cert.OutReferenceIdeal.Value.run m' g')
    obtain ⟨e0, e1, e2⟩ := hargs c
    rw [e0, e1, e2]

end Cert.Proof

end
-- ==== Proof.Calls.PrepBlocks.lean ====
/- The preparation of the latent queries and keys: what the reference returns, and what a point is handed. -/
module

public import proofs.«01_k».proof.Defs
public import proofs.«01_k».proof.Proof.Gen.Prep.Frame
public import proofs.«01_k».proof.Proof.Gen.PrepIdeal.Value
public import proofs.«01_k».proof.Proof.Gen.PrepReferenceIdeal.Run
public import Idealize.ShloMosaic.Lib.Pipeline.ValueKit
public import Idealize.ShloMosaic.Lib.Quiescent

@[expose] public section

set_option maxRecDepth 16384

noncomputable section

namespace Cert.PrepReferenceIdeal.Own

open Cert.PrepReferenceIdeal Cert.PrepReferenceIdeal.Gen
open Idealize.ShloMosaic Idealize.ShloMosaic.TcCoe Idealize.SL.Sem

/-- The query's columns of the projected rows, each row normalised and scaled. -/
abbrev queries (X : FVec Ideal S8192x2176 .f32) (G : FVec Ideal S1x512 .f32) : FVec Ideal S8192x512 .f32 :=
  mulf (mulf (extractStridedSlice S8192x512 ![0, 1024] X slices_S8192x2176_S8192x512_0_1024)
      (broadcastInDim S8192x512 ![0, 1] bcast_S8192x1_S8192x512_0_1
        (Host.rsqrt (addf (Host.divf (broadcastInDim S8192x1 ![0] bcast_S8192_S8192x1_0
            (Host.reduceAdd (mulf (extractStridedSlice S8192x512 ![0, 1024] X slices_S8192x2176_S8192x512_0_1024)
                (extractStridedSlice S8192x512 ![0, 1024] X slices_S8192x2176_S8192x512_0_1024))
              (constant S_ .f32 0x00000000#32) reducesTo_S8192x512_S8192_d1 h_S_))
            (broadcastInDim S8192x1 ![] bcast_S_S8192x1 (constant S_ .f32 0x44000000#32)))
          (broadcastInDim S8192x1 ![] bcast_S_S8192x1 (constant S_ .f32 0x358637BD#32))))))
    (broadcastInDim S8192x512 ![0, 1] bcast_S1x512_S8192x512_0_1 G)

/-- The latent keys: their columns of the projected rows, each row normalised and scaled. -/
abbrev keys (X : FVec Ideal S8192x2176 .f32) (G : FVec Ideal S1x256 .f32) : FVec Ideal S8192x256 .f32 :=
  mulf (mulf (extractStridedSlice S8192x256 ![0, 1536] X slices_S8192x2176_S8192x256_0_1536)
      (broadcastInDim S8192x256 ![0, 1] bcast_S8192x1_S8192x256_0_1
        (Host.rsqrt (addf (Host.divf (broadcastInDim S8192x1 ![0] bcast_S8192_S8192x1_0
            (Host.reduceAdd (mulf (extractStridedSlice S8192x256 ![0, 1536] X slices_S8192x2176_S8192x256_0_1536)
                (extractStridedSlice S8192x256 ![0, 1536] X slices_S8192x2176_S8192x256_0_1536))
              (constant S_ .f32 0x00000000#32) reducesTo_S8192x256_S8192_d1 h_S_))
            (broadcastInDim S8192x1 ![] bcast_S_S8192x1 (constant S_ .f32 0x43800000#32)))
          (broadcastInDim S8192x1 ![] bcast_S_S8192x1 (constant S_ .f32 0x358637BD#32))))))
    (broadcastInDim S8192x256 ![0, 1] bcast_S1x256_S8192x256_0_1 G)

/-- The latent keys with rows and columns exchanged. -/
abbrev keysT (X : FVec Ideal S8192x2176 .f32) (G : FVec Ideal S1x256 .f32) : FVec Ideal S256x8192 .bf16 :=
  truncf .bf16 (transpose S256x8192 [1, 0] (keys X G) transposes_S8192x256_S256x8192_1_0) bitsLt_bf16_f32

/-- The shared rotary key. -/
abbrev rotary (X : FVec Ideal S8192x2176 .f32) (C : FVec Ideal S8192x128 .f32) : FVec Ideal S8192x64 .f32 :=
  addf (mulf (extractStridedSlice S8192x64 ![0, 0]
        (extractStridedSlice S8192x128 ![0, 2048] X slices_S8192x2176_S8192x128_0_2048) slices_S8192x128_S8192x64_0_0)
      (extractStridedSlice S8192x64 ![0, 0] C slices_S8192x128_S8192x64_0_0))
    (mulf (extractStridedSlice S8192x64 ![0, 64]
        (extractStridedSlice S8192x128 ![0, 2048] X slices_S8192x2176_S8192x128_0_2048) slices_S8192x128_S8192x64_0_64)
      (extractStridedSlice S8192x64 ![0, 64] C slices_S8192x128_S8192x64_0_64))

/-- Latent key, rotary key and padding side by side. -/
abbrev packed (X : FVec Ideal S8192x2176 .f32) (C : FVec Ideal S8192x128 .f32) (G : FVec Ideal S1x256 .f32) :
    FVec Ideal S8192x384 .bf16 :=
  truncf .bf16 (concatenate S8192x384 1 [⟨S8192x256, keys X G⟩, ⟨S8192x64, rotary X C⟩,
    ⟨S8192x64, broadcastInDim S8192x64 ![] bcast_S_S8192x64 (constant S_ .f32 0x00000000#32)⟩]
    concatenates_S8192x256_S8192x64_S8192x64_S8192x384_d1) bitsLt_bf16_f32

/-- The normalised queries times weights. -/
def products (X : FVec Ideal S8192x2176 .f32) (G : FVec Ideal S1x512 .f32) (W : FVec Ideal S512x2048 .bf16) :
    FVec Ideal S8192x2048 .f32 :=
  Host.dotGeneral dot_S8192x512_S512x2048_S8192x2048_1_0_0_1_n_n none (queries X G) (extf .f32 W bitsLt_bf16_f32)

/-- Every head's latent query, rotary query and padding side by side. -/
abbrev latent (X : FVec Ideal S8192x2176 .f32) (C : FVec Ideal S8192x128 .f32) (G : FVec Ideal S1x512 .f32)
    (N R : FVec Ideal S512x2048 .bf16) (U : FVec Ideal S16x128x256 .bf16) : FVec Ideal S16x8192x384 .bf16 :=
  truncf .bf16 (concatenate S16x8192x384 2
    [⟨S16x8192x256, mulf (Host.dotGeneral dot_S8192x16x128_S16x128x256_S16x8192x256_2_1_0_2_1_0 none
        (shapeCast _ (products X G N) shapeCasts_S8192x2048_S8192x16x128) (extf .f32 U bitsLt_bf16_f32))
        (broadcastInDim S16x8192x256 ![] bcast_S_S16x8192x256 (constant S_ .f32 0x3DD53B95#32))⟩,
      ⟨S16x8192x64, transpose S16x8192x64 [1, 0, 2] (mulf (addf
        (mulf (extractStridedSlice S8192x16x64 ![0, 0, 0] (shapeCast _
            (products X G R)
            shapeCasts_S8192x2048_S8192x16x128) slices_S8192x16x128_S8192x16x64_0_0_0)
          (broadcastInDim S8192x16x64 ![0, 1, 2] bcast_S8192x1x64_S8192x16x64_0_1_2
            (broadcastInDim S8192x1x64 ![0, 2] bcast_S8192x64_S8192x1x64_0_2
              (extractStridedSlice S8192x64 ![0, 0] C slices_S8192x128_S8192x64_0_0))))
        (mulf (extractStridedSlice S8192x16x64 ![0, 0, 64] (shapeCast _
            (products X G R)
            shapeCasts_S8192x2048_S8192x16x128) slices_S8192x16x128_S8192x16x64_0_0_64)
          (broadcastInDim S8192x16x64 ![0, 1, 2] bcast_S8192x1x64_S8192x16x64_0_1_2
            (broadcastInDim S8192x1x64 ![0, 2] bcast_S8192x64_S8192x1x64_0_2
              (extractStridedSlice S8192x64 ![0, 64] C slices_S8192x128_S8192x64_0_64)))))
        (broadcastInDim S8192x16x64 ![] bcast_S_S8192x16x64 (constant S_ .f32 0x3DD53B95#32)))
        transposes_S8192x16x64_S16x8192x64_1_0_2⟩,
      ⟨S16x8192x64, broadcastInDim S16x8192x64 ![] bcast_S_S16x8192x64 (constant S_ .f32 0x00000000#32)⟩]
    concatenates_S16x8192x256_S16x8192x64_S16x8192x64_S16x8192x384_d2) bitsLt_bf16_f32

end Cert.PrepReferenceIdeal.Own

namespace Cert.PrepIdeal.Own

open Cert.PrepIdeal Cert.PrepIdeal.Gen
open Idealize.ShloMosaic Idealize.ShloMosaic.TcCoe Idealize.SL.Sem
open Cert.PrepReferenceIdeal.Own (queries keys keysT rotary packed products latent)

variable (m : (ℓ : Loc nD τ sig) → Buf (Elt Ideal) ℓ)

/-- The mask of a lane row's first half. -/
theorem half_mask : ∀ n : Fin 128, IntOp.cmpi .slt (BitVec.ofNat 32 n.val) 64#32 = if n.val < 64 then 1#1 else 0#1 := by
  decide

theorem masked (n : ℕ) (h : n < 128) (a b : EReal) :
    Scalar.select (IntOp.cmpi .slt (BitVec.ofNat 32 n) 64#32) a b = if n < 64 then a else b := by
  have e := half_mask ⟨n, h⟩
  dsimp only at e
  rw [e]
  split <;> simp [Scalar.select]

/-- Where each window lies at a point. -/
theorem idx : ∀ t : Fin cfg0.N, win0_0.index t = ![t.val, 2] ∧ win0_1.index t = ![t.val, 6] ∧ win0_2.index t = ![t.val, 16]
    ∧ win0_3.index t = ![t.val, 0] ∧ win0_4.index t = ![0, 0] ∧ win0_5.index t = ![0, 0] ∧ win0_6.index t = ![0, 0]
    ∧ win0_7.index t = ![0, 0] ∧ win0_8.index t = ![0, 0, 0] ∧ win0_9.index t = ![0, t.val, 0] ∧ win0_10.index t = ![t.val, 0]
    ∧ win0_11.index t = ![0, t.val] ∧ win0_12.index t = ![t.val, 0] ∧ win0_13.index t = ![t.val, 0] :=
  (by decide +kernel : ∀ t : Fin grid0.N, _)

theorem points_lt (t : Fin cfg0.N) : t.val < 32 := lt_of_lt_of_eq t.isLt N_0

/-- The query columns a point is handed, as they stand in the argument. -/
theorem query_block (c : Dev nD) (t : Fin cfg0.N) : (X0_0 m c t : FVec Ideal S256x512 .f32)
    = fun y => (m ((c : Thread nD τ).loc main_arg0) : FVec Ideal S8192x2176 .f32)
        (ix2 ⟨t.val * 256 + y 0, by have := points_lt t; have := (y 0).isLt; simp at this; omega⟩
          ⟨1024 + y 1, by have := (y 1).isLt; simp at this; omega⟩) := by
  funext y
  unfold X0_0 Pipeline.Window.fill
  rw [dif_pos (moved0_0 t y)]
  blk_point [iblk, V, idx t]

/-- The key columns a point is handed, as they stand in the argument. -/
theorem key_block (c : Dev nD) (t : Fin cfg0.N) : (X0_1 m c t : FVec Ideal S256x256 .f32)
    = fun y => (m ((c : Thread nD τ).loc main_arg0) : FVec Ideal S8192x2176 .f32)
        (ix2 ⟨t.val * 256 + y 0, by have := points_lt t; have := (y 0).isLt; simp at this; omega⟩
          ⟨1536 + y 1, by have := (y 1).isLt; simp at this; omega⟩) := by
  funext y
  unfold X0_1 Pipeline.Window.fill
  rw [dif_pos (moved0_1 t y)]
  blk_point [iblk, V, idx t]

abbrev result10 (c : Dev nD) : FVec Ideal S8192x384 .bf16 :=
  packed (m ((c : Thread nD τ).loc main_arg0)) (m ((c : Thread nD τ).loc main_arg1)) (m ((c : Thread nD τ).loc main_arg3))

abbrev result11 (c : Dev nD) : FVec Ideal S256x8192 .bf16 :=
  keysT (m ((c : Thread nD τ).loc main_arg0)) (m ((c : Thread nD τ).loc main_arg3))

abbrev result12 (c : Dev nD) : FVec Ideal S8192x256 .f32 :=
  keys (m ((c : Thread nD τ).loc main_arg0)) (m ((c : Thread nD τ).loc main_arg3))

abbrev result13 (c : Dev nD) : FVec Ideal S8192x64 .f32 :=
  rotary (m ((c : Thread nD τ).loc main_arg0)) (m ((c : Thread nD τ).loc main_arg1))

abbrev result9 (c : Dev nD) : FVec Ideal S16x8192x384 .bf16 :=
  latent (m ((c : Thread nD τ).loc main_arg0)) (m ((c : Thread nD τ).loc main_arg1)) (m ((c : Thread nD τ).loc main_arg2))
    (m ((c : Thread nD τ).loc main_arg4)) (m ((c : Thread nD τ).loc main_arg5)) (m ((c : Thread nD τ).loc main_arg6))

end Cert.PrepIdeal.Own

end
-- ==== Proof.Calls.PrepKeys.lean ====
/- The preparation's keys: the norm, the rotary key, and both packed. -/
module

public import proofs.«01_k».proof.Proof.Calls.PrepBlocks

@[expose] public section

set_option maxRecDepth 16384

noncomputable section

namespace Cert.PrepIdeal.Own

open Cert.PrepIdeal Cert.PrepIdeal.Gen
open Idealize.ShloMosaic Idealize.ShloMosaic.TcCoe Idealize.SL.Sem
open Cert.PrepReferenceIdeal.Own (queries keys keysT rotary packed products latent)

variable (m : (ℓ : Loc nD τ sig) → Buf (Elt Ideal) ℓ)

/-- A point's normalised keys, at any of their places. -/
theorem keys_at (c : Dev nD) (t : Fin cfg0.N) (i : S256x256.Idx) (j : S8192x256.Idx)
    (h0 : (j 0 : ℕ) = t.val * 256 + i 0) (h1 : (j 1 : ℕ) = i 1) :
    k0_pay52 (X0_1 m c t) (iblk m c 5 t) i = result12 m c j := by
  rw [key_block]
  pointwise [k0_pay52, result12, keys]
  blk_point [iblk, V, idx t]

/-- A point's rotary key, on its first half. -/
theorem rotary_at (c : Dev nD) (t : Fin cfg0.N) (i : S256x128.Idx) (j : S8192x64.Idx)
    (h0 : (j 0 : ℕ) = t.val * 256 + i 0) (h1 : (j 1 : ℕ) = i 1) :
    k0_pay3 (F := Ideal) (iblk m c 3 t) (iblk m c 2 t) i = result13 m c j := by
  pointwise [k0_pay3, result13, rotary]
  blk_point [iblk, V, idx t]

theorem final13 (c : Dev nD) : (dats m 0 c).arrAt 13 cfg0.N = result13 m c := by
  refine (dats m 0 c).arrAt_eq_of_covers 13 _ (by decide +kernel) fun t _ y => ?_
  blk_simp
  rw [after0_13, outsAt0]
  frame_out
  pointwise [k0_pay4, k0_pay3, result13, rotary]
  blk_point [iblk, V, idx t]

theorem final12 (c : Dev nD) : (dats m 0 c).arrAt 12 cfg0.N = result12 m c := by
  refine (dats m 0 c).arrAt_eq_of_covers 12 _ (by decide +kernel) fun t _ y => ?_
  blk_simp
  rw [after0_12, outsAt0]
  frame_out
  refine keys_at m c t y _ ?_ ?_ <;> (blk_simp [idx t] <;> try omega)

theorem final11 (c : Dev nD) : (dats m 0 c).arrAt 11 cfg0.N = result11 m c := by
  refine (dats m 0 c).arrAt_eq_of_covers 11 _ (by decide +kernel) fun t _ y => ?_
  blk_simp
  rw [after0_11, outsAt0, key_block]
  frame_out
  pointwise [k0_pay2, k0_pay52, result11, keysT, keys]
  blk_point [iblk, V, idx t]

/-- The packed keys, read in each of their three parts. -/
theorem packed_key (X : FVec Ideal S8192x2176 .f32) (C : FVec Ideal S8192x128 .f32) (G : FVec Ideal S1x256 .f32)
    (j : S8192x384.Idx) (h : (j 1 : ℕ) < 256) : packed X C G j = keys X G (ix2 (j 0) ⟨j 1, h⟩) := by
  generalize hk : keys X G = K
  pointwise [packed, hk, h]

theorem packed_rotary (X : FVec Ideal S8192x2176 .f32) (C : FVec Ideal S8192x128 .f32) (G : FVec Ideal S1x256 .f32)
    (j : S8192x384.Idx) (h : 256 ≤ (j 1 : ℕ)) (h' : (j 1 : ℕ) - 256 < 64) :
    packed X C G j = rotary X C (ix2 (j 0) ⟨j 1 - 256, h'⟩) := by
  generalize hk : rotary X C = K
  generalize hk' : keys X G = K'
  have := Nat.not_lt.mpr h
  pointwise [packed, hk, hk', h', this]

theorem packed_rest (X : FVec Ideal S8192x2176 .f32) (C : FVec Ideal S8192x128 .f32) (G : FVec Ideal S1x256 .f32)
    (j : S8192x384.Idx) (h : 320 ≤ (j 1 : ℕ)) : packed X C G j = (0 : EReal) := by
  generalize hk : rotary X C = K
  generalize hk' : keys X G = K'
  have h1 : ¬ (j 1 : ℕ) < 256 := by omega
  have h2 : ¬ (j 1 : ℕ) - 256 < 64 := by omega
  pointwise [packed, hk, hk', h1, h2]

/-- The rotary key, zero on the second half. -/
theorem masked_at (C K : FVec Ideal S256x128 .f32) (i : S256x128.Idx) :
    k0_pay5 (F := Ideal) k0_pay6 C K i = if (i 1 : ℕ) < 64 then k0_pay3 (F := Ideal) C K i else (0 : EReal) := by
  pointwise [k0_pay5, k0_pay6]
  exact masked _ (i 1).isLt _ _

theorem final10 (c : Dev nD) : (dats m 0 c).arrAt 10 cfg0.N = result10 m c := by
  refine (dats m 0 c).arrAt_eq_of_covers 10 _ (by decide +kernel) fun t _ y => ?_
  blk_simp
  rw [after0_10, outsAt0]
  frame_out
  canon_tiles x e using (View.cover_of_tiledBy _ ![256, 128] (by sl_kernel_rfl) y)
  · have j0 : (((((View.whole main_v0_1).slice (win0_10.rect t)).emb y : S8192x384.Idx) 0 : Fin _) : ℕ) = t.val * 256 + x 0 := by
      blk_simp [idx t] <;> omega
    have j1 : (((((View.whole main_v0_1).slice (win0_10.rect t)).emb y : S8192x384.Idx) 1 : Fin _) : ℕ) = 256 + x 1 := by
      blk_simp [idx t] <;> omega
    rw [masked_at]
    split
    · refine (rotary_at m c t x _ j0 (Nat.sub_eq_of_eq_add (j1.trans (Nat.add_comm _ _)))).trans
        (packed_rotary _ _ _ _ (by omega) (by omega)).symm
    · exact (packed_rest _ _ _ _ (by omega)).symm
  · have j0 : (((((View.whole main_v0_1).slice (win0_10.rect t)).emb y : S8192x384.Idx) 0 : Fin _) : ℕ) = t.val * 256 + x 0 := by
      blk_simp [idx t] <;> omega
    have j1 : (((((View.whole main_v0_1).slice (win0_10.rect t)).emb y : S8192x384.Idx) 1 : Fin _) : ℕ) = x 1 := by
      blk_simp [idx t] <;> omega
    refine Eq.trans ?_ ((keys_at m c t x _ j0 j1).trans (packed_key _ _ _ _ (by omega)).symm)
    pointwise [k0_pay1]

end Cert.PrepIdeal.Own

end
-- ==== Proof.Calls.PrepQueries.lean ====
/- The preparation's queries: every head's latent query and rotary query. -/
module

public import proofs.«01_k».proof.Proof.Calls.PrepBlocks

@[expose] public section

set_option maxRecDepth 16384

noncomputable section

namespace Cert.PrepIdeal.Own

open Cert.PrepIdeal Cert.PrepIdeal.Gen
open Idealize.ShloMosaic Idealize.ShloMosaic.TcCoe Idealize.SL.Sem
open Cert.PrepReferenceIdeal.Own (queries keys keysT rotary packed products latent)

variable (m : (ℓ : Loc nD τ sig) → Buf (Elt Ideal) ℓ)

/-- The weights reach every point whole. -/
theorem nope_weights (c : Dev nD) (t : Fin cfg0.N) : (iblk m c 6 t : FVec Ideal S512x2048 .bf16) = m ((c : Thread nD τ).loc main_arg4) := by
  funext y
  blk_point [iblk, V, idx t]

theorem rope_weights (c : Dev nD) (t : Fin cfg0.N) : (iblk m c 7 t : FVec Ideal S512x2048 .bf16) = m ((c : Thread nD τ).loc main_arg5) := by
  funext y
  blk_point [iblk, V, idx t]

theorem latent_weights (c : Dev nD) (t : Fin cfg0.N) : (iblk m c 8 t : FVec Ideal S16x128x256 .bf16) = m ((c : Thread nD τ).loc main_arg6) := by
  funext y
  blk_point [iblk, V, idx t]

/-- A point's products are its rows of the reference's. -/
theorem products_at (c : Dev nD) (t : Fin cfg0.N) (B : FVec Ideal S512x2048 .bf16) :
    k0_pay8 (X0_0 m c t) (iblk m c 4 t) B = fun i =>
      products (m ((c : Thread nD τ).loc main_arg0)) (m ((c : Thread nD τ).loc main_arg2)) B
        (ix2 ⟨t.val * 256 + i 0, by have := points_lt t; have := (i 0).isLt; simp at this; omega⟩ (i 1)) := by
  funext i
  rw [query_block]
  pointwise [k0_pay8, k0_pay7, products, queries]
  blk_point [iblk, V, idx t]

/-- The cosines and sines, once per head, read at any column. -/
theorem repeated_at (C : FVec Ideal S256x128 .f32) (i : S256x2048.Idx) :
    concatenate S256x2048 1 [⟨S256x128, C⟩, ⟨S256x128, C⟩, ⟨S256x128, C⟩, ⟨S256x128, C⟩, ⟨S256x128, C⟩, ⟨S256x128, C⟩,
      ⟨S256x128, C⟩, ⟨S256x128, C⟩, ⟨S256x128, C⟩, ⟨S256x128, C⟩, ⟨S256x128, C⟩, ⟨S256x128, C⟩, ⟨S256x128, C⟩, ⟨S256x128, C⟩,
      ⟨S256x128, C⟩, ⟨S256x128, C⟩]
      concatenates_S256x128_S256x128_S256x128_S256x128_S256x128_S256x128_S256x128_S256x128_S256x128_S256x128_S256x128_S256x128_S256x128_S256x128_S256x128_S256x128_S256x2048_d1 i
      = C (ix2 (i 0) ⟨(i 1 : ℕ) % 128, Nat.mod_lt _ (by decide)⟩) :=
  concatenate_replicate_apply (t := S256x2048) (s₁ := S256x128) 1 16 C
    concatenates_S256x128_S256x128_S256x128_S256x128_S256x128_S256x128_S256x128_S256x128_S256x128_S256x128_S256x128_S256x128_S256x128_S256x128_S256x128_S256x128_S256x2048_d1
    rfl i _ rfl (by intro b hb; fin_cases b <;> first | rfl | exact absurd rfl hb)

/-- The turn by half a head. -/
theorem turned_at (T : FVec Ideal S256x2048 .f32) (i : S256x2048.Idx) :
    dynamicRotate 1 1984#32 none T rotates_S256x2048_d1 i = T (ix2 (i 0) ⟨((i 1 : ℕ) + 64) % 2048, Nat.mod_lt _ (by decide)⟩) := by
  pointwise
  blk_ext

/-- A rotated column: the product there by its cosine or sine, and half a head further on. -/
theorem rotated_at (C : FVec Ideal S256x128 .f32) (A : FVec Ideal S256x512 .f32) (G : FVec Ideal S1x512 .f32)
    (B : FVec Ideal S512x2048 .bf16) (i : S256x2048.Idx) :
    k0_pay9 C A G B i = k0_pay8 A G B i * C (ix2 (i 0) ⟨(i 1 : ℕ) % 128, Nat.mod_lt _ (by decide)⟩)
      + k0_pay8 A G B (ix2 (i 0) ⟨((i 1 : ℕ) + 64) % 2048, Nat.mod_lt _ (by decide)⟩)
        * C (ix2 (i 0) ⟨(((i 1 : ℕ) + 64) % 2048) % 128, Nat.mod_lt _ (by decide)⟩) := by
  generalize hT : mulf (k0_pay8 A G B) (concatenate S256x2048 1 [⟨S256x128, C⟩, ⟨S256x128, C⟩, ⟨S256x128, C⟩, ⟨S256x128, C⟩,
    ⟨S256x128, C⟩, ⟨S256x128, C⟩, ⟨S256x128, C⟩, ⟨S256x128, C⟩, ⟨S256x128, C⟩, ⟨S256x128, C⟩, ⟨S256x128, C⟩, ⟨S256x128, C⟩,
    ⟨S256x128, C⟩, ⟨S256x128, C⟩, ⟨S256x128, C⟩, ⟨S256x128, C⟩]
    concatenates_S256x128_S256x128_S256x128_S256x128_S256x128_S256x128_S256x128_S256x128_S256x128_S256x128_S256x128_S256x128_S256x128_S256x128_S256x128_S256x128_S256x2048_d1) = T
  have e : ∀ i, T i = k0_pay8 A G B i * C (ix2 (i 0) ⟨(i 1 : ℕ) % 128, Nat.mod_lt _ (by decide)⟩) := by
    intro i
    rw [← hT, ← repeated_at C i]
    rfl
  have e' : k0_pay9 C A G B = addf T (dynamicRotate 1 1984#32 none T rotates_S256x2048_d1) := by
    rw [← hT]
    rfl
  rw [e']
  show T i + dynamicRotate 1 1984#32 none T rotates_S256x2048_d1 i = _
  rw [turned_at, e, e]
  rfl

/-- What a point writes of the queries: per head the latent query, the rotary query, and zeros. -/
def written (Q P : FVec Ideal S256x2048 .f32) (U : FVec Ideal S16x128x256 .bf16) (y : S16x256x384.Idx) : EReal :=
  if h : (y 2 : ℕ) < 256 then
    (∑ k : Fin 128, Q (ix2 (y 1) ⟨(y 0 : ℕ) * 128 + k, by have := (y 0).isLt; simp at this; omega⟩) * U (ix3 (y 0) k ⟨y 2, h⟩))
      * (FloatOps.ofBits .f32 0x3DD53B95#32 : Ideal .f32)
  else if h' : (y 2 : ℕ) - 256 < 64 then
    P (ix2 (y 1) ⟨(y 0 : ℕ) * 128 + (y 2 - 256), by have := (y 0).isLt; simp at this; omega⟩)
      * (FloatOps.ofBits .f32 0x3DD53B95#32 : Ideal .f32)
  else 0

abbrev written_point (c : Dev nD) (t : Fin cfg0.N) : S16x256x384.Idx → EReal :=
  written (k0_pay8 (X0_0 m c t) (iblk m c 4 t) (iblk m c 6 t)) (k0_pay9 (iblk m c 3 t) (X0_0 m c t) (iblk m c 4 t) (iblk m c 7 t))
    (iblk m c 8 t)

/-- The stores of a point, one pair a head, together. -/
theorem stored (c : Dev nD) (t : Fin cfg0.N) (y : S16x256x384.Idx) : (outsAt0 m c t).1 y = written_point m c t y := by
  rw [outsAt0]
  frame_out
  unfold written_point
  generalize hQ : k0_pay8 (X0_0 m c t) (iblk m c 4 t) (iblk m c 6 t) = Q
  generalize k0_pay9 (iblk m c 3 t) (X0_0 m c t) (iblk m c 4 t) (iblk m c 7 t) = P
  canon_tiles x e using (View.cover_of_tiledBy _ ![1, 256, 128] (by sl_kernel_rfl) y)
  all_goals pointwise [hQ, written, e0, e1, e2, k0_pay6, k0_pay10, k0_pay11, k0_pay12, k0_pay13, k0_pay14, k0_pay15,
    k0_pay16, k0_pay17, k0_pay18, k0_pay19, k0_pay20, k0_pay21, k0_pay22, k0_pay23, k0_pay24, k0_pay25,
    k0_pay26, k0_pay27, k0_pay28, k0_pay29, k0_pay30, k0_pay31, k0_pay32, k0_pay33, k0_pay34, k0_pay35,
    k0_pay36, k0_pay37, k0_pay38, k0_pay39, k0_pay40, k0_pay41, k0_pay42, k0_pay43, k0_pay44, k0_pay45,
    k0_pay46, k0_pay47, k0_pay48, k0_pay49, k0_pay50, k0_pay51]
  all_goals (try (rw [masked _ x2_lt]; split_ifs))
  all_goals blk_point []

/-- The latent query, the rotary query and the zeros of the reference, each read in its own columns. -/
theorem latent_latent (X : FVec Ideal S8192x2176 .f32) (C : FVec Ideal S8192x128 .f32) (G : FVec Ideal S1x512 .f32)
    (N R : FVec Ideal S512x2048 .bf16) (U : FVec Ideal S16x128x256 .bf16) (j : S16x8192x384.Idx) (h : (j 2 : ℕ) < 256) :
    latent X C G N R U j = (∑ k : Fin 128, products X G N (ix2 (j 1) ⟨(j 0 : ℕ) * 128 + k, by
      have := (j 0).isLt; simp at this; omega⟩) * U (ix3 (j 0) k ⟨j 2, h⟩)) * (FloatOps.ofBits .f32 0x3DD53B95#32 : Ideal .f32) := by
  generalize hN : products X G N = QN
  generalize hR : products X G R = QR
  pointwise [latent, hN, hR, h]

theorem latent_rotary (X : FVec Ideal S8192x2176 .f32) (C : FVec Ideal S8192x128 .f32) (G : FVec Ideal S1x512 .f32)
    (N R : FVec Ideal S512x2048 .bf16) (U : FVec Ideal S16x128x256 .bf16) (j : S16x8192x384.Idx) (h : 256 ≤ (j 2 : ℕ))
    (h' : (j 2 : ℕ) - 256 < 64) :
    latent X C G N R U j = (products X G R (ix2 (j 1) ⟨(j 0 : ℕ) * 128 + (j 2 - 256), by
        have := (j 0).isLt; simp at this; omega⟩) * C (ix2 (j 1) ⟨j 2 - 256, by omega⟩)
      + products X G R (ix2 (j 1) ⟨(j 0 : ℕ) * 128 + (64 + (j 2 - 256)), by have := (j 0).isLt; simp at this; omega⟩)
        * C (ix2 (j 1) ⟨64 + (j 2 - 256), by omega⟩)) * (FloatOps.ofBits .f32 0x3DD53B95#32 : Ideal .f32) := by
  generalize hN : products X G N = QN
  generalize hR : products X G R = QR
  have h1 := Nat.not_lt.mpr h
  pointwise [latent, hN, hR, h1, h']

theorem latent_rest (X : FVec Ideal S8192x2176 .f32) (C : FVec Ideal S8192x128 .f32) (G : FVec Ideal S1x512 .f32)
    (N R : FVec Ideal S512x2048 .bf16) (U : FVec Ideal S16x128x256 .bf16) (j : S16x8192x384.Idx) (h : 320 ≤ (j 2 : ℕ)) :
    latent X C G N R U j = (0 : EReal) := by
  generalize hN : products X G N = QN
  generalize hR : products X G R = QR
  have h1 : ¬ (j 2 : ℕ) < 256 := by omega
  have h2 : ¬ (j 2 : ℕ) - 256 < 64 := by omega
  pointwise [latent, hN, hR, h1, h2]

/-- What a point writes is the reference's, at the place it lands. -/
theorem written_at (c : Dev nD) (t : Fin cfg0.N) (y : S16x256x384.Idx) (j : S16x8192x384.Idx) (h0 : (j 0 : ℕ) = y 0)
    (h1 : (j 1 : ℕ) = t.val * 256 + y 1) (h2 : (j 2 : ℕ) = y 2) : written_point m c t y = result9 m c j := by
  unfold written_point written
  rw [nope_weights, rope_weights, latent_weights]
  split
  · refine Eq.trans ?_ (latent_latent _ _ _ _ _ _ j (by omega)).symm
    rw [products_at]
    blk_point []
  · split
    · refine Eq.trans ?_ (latent_rotary _ _ _ _ _ _ j (by omega) (by omega)).symm
      rw [rotated_at, products_at]
      blk_point [iblk, V, idx t]
    · exact (latent_rest _ _ _ _ _ _ j (by omega)).symm

theorem final9 (c : Dev nD) : (dats m 0 c).arrAt 9 cfg0.N = result9 m c := by
  refine (dats m 0 c).arrAt_eq_of_covers 9 _ (by decide +kernel) fun t _ y => ?_
  blk_simp
  rw [after0_9]
  refine (stored m c t y).trans (written_at m c t y _ ?_ ?_ ?_) <;> (blk_simp [idx t] <;> try omega)

end Cert.PrepIdeal.Own

end
-- ==== Proof.Calls.Prep.lean ====
/- The preparation of the latent queries and keys: two norms, the query products, the rotation and the packing. -/
module

public import proofs.«01_k».proof.Proof.Calls.PrepKeys
public import proofs.«01_k».proof.Proof.Calls.PrepQueries

@[expose] public section

set_option maxRecDepth 16384

noncomputable section

namespace Cert.Proof

open Idealize.ShloMosaic Idealize.SL.Sem

/-- The preparation as it is ends, with its arguments unchanged and every counter at zero; so does its ideal form. -/
theorem prep_frame : Cert.quiescent_Prep := fun m g _ => Cert.Prep.Gen.frame m g

theorem prep_frame_ideal : Cert.quiescent_PrepIdeal := fun m g _ => Cert.PrepIdeal.Gen.frame m g

theorem prep_frame_reference : Cert.quiescent_PrepReferenceIdeal := by
  intro m g _
  exact (θ_run Cert.PrepReferenceIdeal.defs _ _).mono
    (fun r h => ⟨fun c => (h c).2.2.2.2.2, sem_eq_zero_of_no_sems (by decide) r.2⟩) (Cert.PrepReferenceIdeal.Value.run m g)

/-- Kernel and reference return the same five arrays. -/
theorem prep_equal : Cert.algebraic_PrepIdeal_PrepReferenceIdeal := by
  intro m g m' g' _ hargs
  refine ⟨Cert.PrepIdeal.Own.result9 m, Cert.PrepIdeal.Own.result10 m, Cert.PrepIdeal.Own.result11 m,
    Cert.PrepIdeal.Own.result12 m, Cert.PrepIdeal.Own.result13 m, ?_, ?_⟩
  · exact (θ_run Cert.PrepIdeal.defs _ _).mono (fun r h c => ⟨(h c).1.trans (Cert.PrepIdeal.Own.final9 m c),
      (h c).2.1.trans (Cert.PrepIdeal.Own.final10 m c), (h c).2.2.1.trans (Cert.PrepIdeal.Own.final11 m c),
      (h c).2.2.2.1.trans (Cert.PrepIdeal.Own.final12 m c), (h c).2.2.2.2.1.trans (Cert.PrepIdeal.Own.final13 m c),
      (h c).2.2.2.2.2⟩) (Cert.PrepIdeal.Value.run_blocks m g)
  · refine (θ_run Cert.PrepReferenceIdeal.defs _ _).mono (fun r h c => ⟨(h c).1.trans ?_, (h c).2.1.trans ?_,
      (h c).2.2.1.trans ?_, (h c).2.2.2.1.trans ?_, (h c).2.2.2.2.1.trans ?_, (h c).2.2.2.2.2⟩)
      (Cert.PrepReferenceIdeal.Value.run m' g')
    all_goals obtain ⟨e0, e1, e2, e3, e4, e5, e6⟩ := hargs c
    · unfold Cert.PrepReferenceIdeal.Value.res_main_v39
      rw [e0, e1, e2, e4, e5, e6]
      rfl
    · rw [e0, e1, e3]
    · rw [e0, e3]
    · rw [e0, e3]
    · rw [e0, e1]

end Cert.Proof

end
-- ==== Proof.Calls.Norm.lean ====
/- The final norm: every row divided by its root mean square and scaled. -/
module

public import proofs.«01_k».proof.Defs
public import proofs.«01_k».proof.Proof.Gen.Norm.Frame
public import proofs.«01_k».proof.Proof.Gen.NormIdeal.Value
public import proofs.«01_k».proof.Proof.Gen.NormReferenceIdeal.Run
public import Idealize.ShloMosaic.Lib.Pipeline.ValueKit
public import Idealize.ShloMosaic.Lib.Quiescent

@[expose] public section

set_option maxRecDepth 16384

noncomputable section

namespace Cert.NormReferenceIdeal.Own

open Cert.NormReferenceIdeal Cert.NormReferenceIdeal.Gen
open Idealize.ShloMosaic Idealize.ShloMosaic.TcCoe Idealize.SL.Sem

/-- What the reference returns, of the rows and their scale. -/
abbrev want (X : FVec Ideal S8192x2048 .f32) (G : FVec Ideal S1x2048 .f32) : FVec Ideal S8192x2048 .f32 :=
  mulf (mulf X (broadcastInDim S8192x2048 ![0, 1] bcast_S8192x1_S8192x2048_0_1
      (Host.rsqrt (addf (Host.divf (broadcastInDim S8192x1 ![0] bcast_S8192_S8192x1_0
          (Host.reduceAdd (mulf X X) (constant S_ .f32 0x00000000#32) reducesTo_S8192x2048_S8192_d1 h_S_))
          (broadcastInDim S8192x1 ![] bcast_S_S8192x1 (constant S_ .f32 0x45000000#32)))
        (broadcastInDim S8192x1 ![] bcast_S_S8192x1 (constant S_ .f32 0x358637BD#32))))))
    (broadcastInDim S8192x2048 ![0, 1] bcast_S1x2048_S8192x2048_0_1 G)

end Cert.NormReferenceIdeal.Own

namespace Cert.NormIdeal.Own

open Cert.NormIdeal Cert.NormIdeal.Gen
open Idealize.ShloMosaic Idealize.ShloMosaic.TcCoe Idealize.SL.Sem
open Cert.NormReferenceIdeal.Own (want)

variable (m : (ℓ : Loc nD τ sig) → Buf (Elt Ideal) ℓ)

/-- Where each window lies at a point: one group of rows a point. -/
theorem idx : ∀ t : Fin cfg0.N, win0_0.index t = ![t.val, 0] ∧ win0_1.index t = ![0, 0] ∧ win0_2.index t = ![t.val, 0] :=
  (by decide +kernel : ∀ t : Fin grid0.N, _)

/-- What the reference returns of the arguments in memory `m`. -/
abbrev result (c : Dev nD) : FVec Ideal S8192x2048 .f32 :=
  want (m ((c : Thread nD τ).loc main_arg0)) (m ((c : Thread nD τ).loc main_arg1))

theorem point (c : Dev nD) (t : Fin cfg0.N) (y : S1024x2048.Idx) :
    k0_pay1 (iblk m c 0 t) (iblk m c 1 t) y = result m c (((cfg0.win 2).blk t).view.emb y) := by
  pointwise [k0_pay1, result, want]
  blk_point [iblk, V, idx t]

theorem final (c : Dev nD) : (dats m 0 c).arrAt 2 cfg0.N = result m c := by
  refine (dats m 0 c).arrAt_eq_of_covers 2 _ (by decide +kernel) fun t _ y => ?_
  blk_simp
  rw [after0_2]
  frame_out
  exact point m c t y

end Cert.NormIdeal.Own

namespace Cert.Proof

open Idealize.ShloMosaic Idealize.SL.Sem

/-- The norm as it is ends, with its arguments unchanged and every counter at zero; so does its ideal form. -/
theorem norm_frame : Cert.quiescent_Norm := fun m g _ => Cert.Norm.Gen.frame m g

theorem norm_frame_ideal : Cert.quiescent_NormIdeal := fun m g _ => Cert.NormIdeal.Gen.frame m g

theorem norm_frame_reference : Cert.quiescent_NormReferenceIdeal := by
  intro m g _
  exact (θ_run Cert.NormReferenceIdeal.defs _ _).mono
    (fun r h => ⟨fun c => (h c).2, sem_eq_zero_of_no_sems (by decide) r.2⟩) (Cert.NormReferenceIdeal.Value.run m g)

/-- Kernel and reference return the same array. -/
theorem norm_equal : Cert.algebraic_NormIdeal_NormReferenceIdeal := by
  intro m g m' g' _ hargs
  refine ⟨Cert.NormIdeal.Own.result m, ?_, ?_⟩
  · exact (θ_run Cert.NormIdeal.defs _ _).mono (fun r h c => ⟨(h c).1.trans (Cert.NormIdeal.Own.final m c), (h c).2⟩)
      (Cert.NormIdeal.Value.run_blocks m g)
  · refine (θ_run Cert.NormReferenceIdeal.defs _ _).mono (fun r h c => ⟨(h c).1.trans ?_, (h c).2⟩)
      (Cert.NormReferenceIdeal.Value.run m' g')
    obtain ⟨e0, e1⟩ := hargs c
    rw [e0, e1]

end Cert.Proof

end
-- ==== Proof.Calls.PoolMean.lean ====
/- Pooling over trailing windows: what the reference returns, entry by entry. -/
module

public import proofs.«01_k».proof.Defs
public import proofs.«01_k».proof.Proof.Gen.PoolReferenceIdeal.Run
public import Idealize.ShloMosaic.Lib.Pipeline.ValueKit
public import Idealize.ShloMosaic.Lib.Quiescent

@[expose] public section

set_option maxRecDepth 16384

noncomputable section

namespace Cert.PoolReferenceIdeal.Own

open Cert.PoolReferenceIdeal Cert.PoolReferenceIdeal.Gen
open Idealize.ShloMosaic Idealize.ShloMosaic.TcCoe Idealize.SL.Sem

/-- The mean of one group's rows over its trailing window. -/
def meanOf (w l : ℕ) (W : BitVec 32) (X : FVec Ideal S2x4096x256 .f32)
    (h : S2x4096x256.ReduceWindows (![1, w, 1] : Fin 3 → Nat) ![1, 1, 1] ![0, l, 0] ![0, 0, 0] S2x4096x256) : FVec Ideal S2x4096x256 .f32 :=
  Host.divf (Host.reduceWindowAdd ![1, w, 1] ![1, 1, 1] ![0, l, 0] ![0, 0, 0] X
      (broadcastInDim S_ ![] bcast_S_S_ (constant S_ .f32 0x00000000#32)) h h_S_)
    (broadcastInDim S2x4096x256 ![0, 1, 2] bcast_S1x4096x1_S2x4096x256_0_1_2
      (broadcastInDim S1x4096x1 ![1] bcast_S4096_S1x4096x1_1
        (sitofp .f32 (minsi (broadcastInDim S4096 ![] bcast_S_S4096 (constantI S_ 32 W))
          (addi (iotaInDim S4096 32 0) (broadcastInDim S4096 ![] bcast_S_S4096 (constantI S_ 32 1#32)))))))

/-- What the reference returns. -/
abbrev want (H : FVec Ideal S8192x2176 .f32) (Z : FVec Ideal S8192x11264 .bf16) (P : FVec Ideal S4x256x256 .bf16)
    (G : FVec Ideal S1x1024 .f32) : FVec Ideal S8192x1024 .bf16 :=
  let u : FVec Ideal S2x4096x1024 .f32 := shapeCast _ (extractStridedSlice S8192x1024 ![0, 0] H slices_S8192x2176_S8192x1024_0_0) shapeCasts_S8192x1024_S2x4096x1024
  let z : FVec Ideal S8192x1024 .f32 := extf .f32 (extractStridedSlice S8192x1024 ![0, 2048] Z slices_S8192x11264_S8192x1024_0_2048) bitsLt_bf16_f32
  truncf .bf16 (mulf (mulf (shapeCast _ (transpose S8192x4x256 [2, 0, 1]
      (Host.dotGeneral dot_S4x256x256_S8192x4x256_S4x256x8192_1_2_2_0_0_1 none P (shapeCast _ (truncf .bf16 (subf
        (concatenate S2x4096x1024 2 [
          ⟨S2x4096x256, meanOf 2 1 2#32 (extractStridedSlice S2x4096x256 ![0, 0, 0] u slices_S2x4096x1024_S2x4096x256_0_0_0) reduceWindows_S2x4096x256_S2x4096x256_w1s1p0_0_w2s1p1_0_w1s1p0_0⟩,
          ⟨S2x4096x256, meanOf 4 3 4#32 (extractStridedSlice S2x4096x256 ![0, 0, 256] u slices_S2x4096x1024_S2x4096x256_0_0_256) reduceWindows_S2x4096x256_S2x4096x256_w1s1p0_0_w4s1p3_0_w1s1p0_0⟩,
          ⟨S2x4096x256, meanOf 8 7 8#32 (extractStridedSlice S2x4096x256 ![0, 0, 512] u slices_S2x4096x1024_S2x4096x256_0_0_512) reduceWindows_S2x4096x256_S2x4096x256_w1s1p0_0_w8s1p7_0_w1s1p0_0⟩,
          ⟨S2x4096x256, meanOf 16 15 16#32 (extractStridedSlice S2x4096x256 ![0, 0, 768] u slices_S2x4096x1024_S2x4096x256_0_0_768) reduceWindows_S2x4096x256_S2x4096x256_w1s1p0_0_w16s1p15_0_w1s1p0_0⟩]
          concatenates_S2x4096x256_S2x4096x256_S2x4096x256_S2x4096x256_S2x4096x1024_d2) u) bitsLt_bf16_f32)
        shapeCasts_S2x4096x1024_S8192x4x256)) transposes_S4x256x8192_S8192x4x256_2_0_1) shapeCasts_S8192x4x256_S8192x1024)
      (broadcastInDim S8192x1024 ![0, 1] bcast_S1x1024_S8192x1024_0_1 G))
    (mulf z (Host.divf (broadcastInDim S8192x1024 ![] bcast_S_S8192x1024 (constant S_ .f32 0x3F800000#32))
      (addf (broadcastInDim S8192x1024 ![] bcast_S_S8192x1024 (constant S_ .f32 0x3F800000#32)) (Host.exp (Host.negf z)))))) bitsLt_bf16_f32

/-- Adding up a list's values one after another. -/
theorem foldl_add {α : Type*} (g : α → EReal) : ∀ (L : List α) (v : EReal), L.foldl (fun r n => r + g n) v = v + (L.map g).sum
  | [], v => by simp
  | n :: L, v => by
    rw [List.foldl_cons, foldl_add g L, List.map_cons, List.sum_cons, add_assoc]

/-- The sum over a trailing window: the entries up to `l` rows back, those before the first row left out. -/
theorem window_sum {w l : ℕ} (hw : w = l + 1) (hn : (⟨3, ![1, w, 1]⟩ : Shape).numel = l + 1)
    (place : ∀ n : Fin (⟨3, ![1, w, 1]⟩ : Shape).numel, (((⟨3, ![1, w, 1]⟩ : Shape).rowMajor.symm n) 1).val = n.val)
    (X : S2x4096x256.Idx → EReal)
    (h : S2x4096x256.ReduceWindows (![1, w, 1] : Fin 3 → Nat) ![1, 1, 1] ![0, l, 0] ![0, 0, 0] S2x4096x256)
    (a : Fin 2) (s : Fin 4096) (e : Fin 256) :
    Host.reduceWindow (· + ·) ![1, w, 1] ![1, 1, 1] ![0, l, 0] ![0, 0, 0] X (fun _ : (⟨0, ![]⟩ : Shape).Idx => 0) h (by decide) (ix3 a s e)
      = ∑ k : Fin (l + 1), if k.val ≤ s.val then X (ix3 a ⟨s.val - k.val, by omega⟩ e) else 0 := by
  subst hw
  unfold Host.reduceWindow
  dsimp only
  refine (foldl_add (fun n => _) _ 0).trans ?_
  rw [zero_add, ← Fin.sum_univ_def]
  refine Fintype.sum_equiv ((finCongr hn).trans Fin.revPerm) _ _ fun n => ?_
  have hl : n.val < l + 1 := lt_of_lt_of_eq n.isLt hn
  have hs := s.isLt
  have p0 : (((⟨3, ![1, l + 1, 1]⟩ : Shape).rowMajor.symm n) 0).val = 0 :=
    Nat.lt_one_iff.mp (((⟨3, ![1, l + 1, 1]⟩ : Shape).rowMajor.symm n) 0).isLt
  have p1 := place n
  have p2 : (((⟨3, ![1, l + 1, 1]⟩ : Shape).rowMajor.symm n) 2).val = 0 :=
    Nat.lt_one_iff.mp (((⟨3, ![1, l + 1, 1]⟩ : Shape).rowMajor.symm n) 2).isLt
  have hk : (((finCongr hn).trans Fin.revPerm) n).val = l - n.val := by
    show ((finCongr hn n).rev).val = _
    rw [Fin.val_rev]
    show l + 1 - (n.val + 1) = _
    omega
  by_cases hin : l - n.val ≤ s.val
  · rw [if_pos (by rw [hk]; exact hin), dif_pos]
    · refine congrArg X (funext fun b => Fin.ext ?_)
      match b with
      | ⟨0, _⟩ => show a.val * 1 + (((⟨3, ![1, l + 1, 1]⟩ : Shape).rowMajor.symm n) 0).val - 0 = a.val; omega
      | ⟨1, _⟩ => show s.val * 1 + (((⟨3, ![1, l + 1, 1]⟩ : Shape).rowMajor.symm n) 1).val - l = s.val - (((finCongr hn).trans Fin.revPerm) n).val; omega
      | ⟨2, _⟩ => show e.val * 1 + (((⟨3, ![1, l + 1, 1]⟩ : Shape).rowMajor.symm n) 2).val - 0 = e.val; omega
    · intro b
      match b with
      | ⟨0, _⟩ => show 0 ≤ a.val * 1 + (((⟨3, ![1, l + 1, 1]⟩ : Shape).rowMajor.symm n) 0).val ∧ a.val * 1 + (((⟨3, ![1, l + 1, 1]⟩ : Shape).rowMajor.symm n) 0).val - 0 < 2; omega
      | ⟨1, _⟩ => show l ≤ s.val * 1 + (((⟨3, ![1, l + 1, 1]⟩ : Shape).rowMajor.symm n) 1).val ∧ s.val * 1 + (((⟨3, ![1, l + 1, 1]⟩ : Shape).rowMajor.symm n) 1).val - l < 4096; omega
      | ⟨2, _⟩ => show 0 ≤ e.val * 1 + (((⟨3, ![1, l + 1, 1]⟩ : Shape).rowMajor.symm n) 2).val ∧ e.val * 1 + (((⟨3, ![1, l + 1, 1]⟩ : Shape).rowMajor.symm n) 2).val - 0 < 256; omega
  · rw [if_neg (by rw [hk]; exact hin), dif_neg]
    intro H
    have H1 : l ≤ s.val * 1 + (((⟨3, ![1, l + 1, 1]⟩ : Shape).rowMajor.symm n) 1).val := (H 1).1
    omega

/-- A group's mean at a row: the sum over the window divided by the number of rows in it. -/
theorem mean_at {w l : ℕ} (hw : w = l + 1) (hn : (⟨3, ![1, w, 1]⟩ : Shape).numel = l + 1)
    (place : ∀ n : Fin (⟨3, ![1, w, 1]⟩ : Shape).numel, (((⟨3, ![1, w, 1]⟩ : Shape).rowMajor.symm n) 1).val = n.val)
    (W : BitVec 32) (X : FVec Ideal S2x4096x256 .f32)
    (h : S2x4096x256.ReduceWindows (![1, w, 1] : Fin 3 → Nat) ![1, 1, 1] ![0, l, 0] ![0, 0, 0] S2x4096x256) (a : Fin 2) (s : Fin 4096) (e : Fin 256) :
    meanOf w l W X h (ix3 a s e) = Ideal.div (∑ k : Fin (l + 1), if k.val ≤ s.val then X (ix3 a ⟨s.val - k.val, by omega⟩ e) else 0)
      (FloatOps.sitofp (F := Ideal) FTy.f32 (IntOp.minsi W (IntOp.addi (BitVec.ofNat 32 s.val) 1#32))) := by
  pointwise [meanOf]
  refine congrArg (fun q => Ideal.div q _) ?_
  refine Eq.trans ?_ (window_sum hw hn place X h a s e)
  have z : (broadcastInDim S_ ![] bcast_S_S_ (constant (F := Ideal) S_ .f32 0x00000000#32)) (Shape.Idx.first h_S_) = 0 := by pointwise
  exact congrArg (fun v => Host.reduceWindow (α := EReal) (· + ·) ![1, w, 1] ![1, 1, 1] ![0, l, 0] ![0, 0, 0] X (fun _ : (⟨0, ![]⟩ : Shape).Idx => v) h (by decide) (ix3 a s e)) z

theorem place_2 : ∀ n : Fin (⟨3, ![1, 2, 1]⟩ : Shape).numel, (((⟨3, ![1, 2, 1]⟩ : Shape).rowMajor.symm n) 1).val = n.val := by decide +kernel
theorem place_4 : ∀ n : Fin (⟨3, ![1, 4, 1]⟩ : Shape).numel, (((⟨3, ![1, 4, 1]⟩ : Shape).rowMajor.symm n) 1).val = n.val := by decide +kernel
theorem place_8 : ∀ n : Fin (⟨3, ![1, 8, 1]⟩ : Shape).numel, (((⟨3, ![1, 8, 1]⟩ : Shape).rowMajor.symm n) 1).val = n.val := by decide +kernel
theorem place_16 : ∀ n : Fin (⟨3, ![1, 16, 1]⟩ : Shape).numel, (((⟨3, ![1, 16, 1]⟩ : Shape).rowMajor.symm n) 1).val = n.val := by decide +kernel

/-- One entry of a group's result: its deviations from the mean through the group's matrix, scaled and gated. -/
def entry (l o : ℕ) (W : BitVec 32) (g : Fin 4) (ho : o + 256 ≤ 1024) (H : FVec Ideal S8192x2176 .f32) (Z : FVec Ideal S8192x11264 .bf16)
    (P : FVec Ideal S4x256x256 .bf16) (G : FVec Ideal S1x1024 .f32) (r : Fin 8192) (e : Fin 256) : EReal :=
  (∑ x : Fin 256, P (ix3 g x e)
      * (Ideal.div (∑ k : Fin (l + 1), if k.val ≤ r.val % 4096 then H (ix2 ⟨r.val - k.val, by omega⟩ ⟨o + x.val, by omega⟩) else 0)
          (FloatOps.sitofp (F := Ideal) FTy.f32 (IntOp.minsi W (IntOp.addi (BitVec.ofNat 32 (r.val % 4096)) 1#32)))
        - H (ix2 r ⟨o + x.val, by omega⟩)))
    * G (ix2 0 ⟨o + e.val, by omega⟩)
    * (Z (ix2 r ⟨2048 + (o + e.val), by omega⟩) * Ideal.div 1 (1 + Ideal.exp (-Z (ix2 r ⟨2048 + (o + e.val), by omega⟩))))

/-- The entries of the group whose window is 2 rows. -/
theorem want_2 (H : FVec Ideal S8192x2176 .f32) (Z : FVec Ideal S8192x11264 .bf16) (P : FVec Ideal S4x256x256 .bf16)
    (G : FVec Ideal S1x1024 .f32) (r : Fin 8192) (e : Fin 256) :
    want H Z P G (ix2 r ⟨e.val, by omega⟩) = entry 1 0 2#32 0 (by decide) H Z P G r e := by
  have q0 : e.val / 256 = 0 := by omega
  have q1 : e.val % 256 = e.val := by omega
  pointwise [want]
  unfold entry
  simp only [q0, q1, Nat.zero_add]
  refine congrArg (fun q => q * _ * _) (Finset.sum_congr rfl fun x _ => congrArg₂ (· * ·) rfl (congrArg₂ (· - ·) ?_ ?_))
  · have hx := x.isLt
    rw [dif_pos (by omega)]
    rw [mean_at rfl (by rfl) place_2]
    refine congrArg (fun q => Ideal.div q _) (Finset.sum_congr rfl fun k _ => ?_)
    dsimp only
    split
    · pointwise
      refine congrArg H (congrArg₂ ix2 (Fin.ext ?_) (Fin.ext ?_)) <;> dsimp only <;> omega
    · rfl
  · refine congrArg H (congrArg₂ ix2 rfl (Fin.ext ?_))
    dsimp only
    omega

/-- The entries of the group whose window is 4 rows. -/
theorem want_4 (H : FVec Ideal S8192x2176 .f32) (Z : FVec Ideal S8192x11264 .bf16) (P : FVec Ideal S4x256x256 .bf16)
    (G : FVec Ideal S1x1024 .f32) (r : Fin 8192) (e : Fin 256) :
    want H Z P G (ix2 r ⟨256 + e.val, by omega⟩) = entry 3 256 4#32 1 (by decide) H Z P G r e := by
  have q0 : (256 + e.val) / 256 = 1 := by omega
  have q1 : (256 + e.val) % 256 = e.val := by omega
  pointwise [want]
  unfold entry
  simp only [q0, q1]
  refine congrArg (fun q => q * _ * _) (Finset.sum_congr rfl fun x _ => congrArg₂ (· * ·) rfl (congrArg₂ (· - ·) ?_ ?_))
  · have hx := x.isLt
    rw [dif_neg (by omega), dif_pos (by omega)]
    rw [mean_at rfl (by rfl) place_4]
    refine congrArg (fun q => Ideal.div q _) (Finset.sum_congr rfl fun k _ => ?_)
    dsimp only
    split
    · pointwise
      refine congrArg H (congrArg₂ ix2 (Fin.ext ?_) (Fin.ext ?_)) <;> dsimp only <;> omega
    · rfl
  · refine congrArg H (congrArg₂ ix2 rfl (Fin.ext ?_))
    dsimp only

/-- The entries of the group whose window is 8 rows. -/
theorem want_8 (H : FVec Ideal S8192x2176 .f32) (Z : FVec Ideal S8192x11264 .bf16) (P : FVec Ideal S4x256x256 .bf16)
    (G : FVec Ideal S1x1024 .f32) (r : Fin 8192) (e : Fin 256) :
    want H Z P G (ix2 r ⟨512 + e.val, by omega⟩) = entry 7 512 8#32 2 (by decide) H Z P G r e := by
  have q0 : (512 + e.val) / 256 = 2 := by omega
  have q1 : (512 + e.val) % 256 = e.val := by omega
  pointwise [want]
  unfold entry
  simp only [q0, q1]
  refine congrArg (fun q => q * _ * _) (Finset.sum_congr rfl fun x _ => congrArg₂ (· * ·) rfl (congrArg₂ (· - ·) ?_ ?_))
  · have hx := x.isLt
    rw [dif_neg (by omega), dif_neg (by omega), dif_pos (by omega)]
    rw [mean_at rfl (by rfl) place_8]
    refine congrArg (fun q => Ideal.div q _) (Finset.sum_congr rfl fun k _ => ?_)
    dsimp only
    split
    · pointwise
      refine congrArg H (congrArg₂ ix2 (Fin.ext ?_) (Fin.ext ?_)) <;> dsimp only <;> omega
    · rfl
  · refine congrArg H (congrArg₂ ix2 rfl (Fin.ext ?_))
    dsimp only

/-- The entries of the group whose window is 16 rows. -/
theorem want_16 (H : FVec Ideal S8192x2176 .f32) (Z : FVec Ideal S8192x11264 .bf16) (P : FVec Ideal S4x256x256 .bf16)
    (G : FVec Ideal S1x1024 .f32) (r : Fin 8192) (e : Fin 256) :
    want H Z P G (ix2 r ⟨768 + e.val, by omega⟩) = entry 15 768 16#32 3 (by decide) H Z P G r e := by
  have q0 : (768 + e.val) / 256 = 3 := by omega
  have q1 : (768 + e.val) % 256 = e.val := by omega
  pointwise [want]
  unfold entry
  simp only [q0, q1]
  refine congrArg (fun q => q * _ * _) (Finset.sum_congr rfl fun x _ => congrArg₂ (· * ·) rfl (congrArg₂ (· - ·) ?_ ?_))
  · have hx := x.isLt
    rw [dif_neg (by omega), dif_neg (by omega), dif_neg (by omega)]
    rw [mean_at rfl (by rfl) place_16]
    refine congrArg (fun q => Ideal.div q _) (Finset.sum_congr rfl fun k _ => ?_)
    dsimp only
    split
    · pointwise
      refine congrArg H (congrArg₂ ix2 (Fin.ext ?_) (Fin.ext ?_)) <;> dsimp only <;> omega
    · rfl
  · refine congrArg H (congrArg₂ ix2 rfl (Fin.ext ?_))
    dsimp only

end Cert.PoolReferenceIdeal.Own
end
-- ==== Proof.Calls.Pool.lean ====
/- Pooling: every row's deviation from the mean of a trailing window of its sequence, through its group's matrix, scaled and gated. -/
module

public import proofs.«01_k».proof.Defs
public import proofs.«01_k».proof.Proof.Gen.Pool.Frame
public import proofs.«01_k».proof.Proof.Gen.PoolIdeal.Value
public import proofs.«01_k».proof.Proof.Calls.PoolMean
public import Idealize.ShloMosaic.Lib.Pipeline.ValueKit
public import Idealize.ShloMosaic.Lib.Quiescent

@[expose] public section

set_option maxRecDepth 16384

noncomputable section

namespace Cert.PoolIdeal.Own

open Cert.PoolIdeal Cert.PoolIdeal.Gen
open Idealize.ShloMosaic Idealize.ShloMosaic.TcCoe Idealize.SL.Sem
open Cert.PoolReferenceIdeal.Own (want entry want_2 want_4 want_8 want_16)

variable (m : (ℓ : Loc nD τ sig) → Buf (Elt Ideal) ℓ)

/-- Where each window lies at a point: one tile of rows a point. -/
theorem idx : ∀ t : Fin cfg0.N, win0_0.index t = ![t.val, 0] ∧ win0_1.index t = ![t.val, 2]
    ∧ win0_2.index t = ![0, 0, 0] ∧ win0_3.index t = ![0, 0] ∧ win0_4.index t = ![t.val, 0] :=
  (by decide +kernel : ∀ t : Fin grid0.N, _)

theorem points_lt (t : Fin cfg0.N) : t.val < 16 := lt_of_lt_of_eq t.isLt N_0

/-- The rows a point is handed, as they stand in the argument. -/
theorem row_block (c : Dev nD) (t : Fin cfg0.N) : (X0_0 m c t : FVec Ideal S512x1024 .f32)
    = fun y => (m ((c : Thread nD τ).loc main_arg0) : FVec Ideal S8192x2176 .f32)
        (ix2 ⟨t.val * 512 + y 0, by have := points_lt t; have := (y 0).isLt; simp at this; omega⟩
          ⟨y 1, by have := (y 1).isLt; simp at this; omega⟩) := by
  funext y
  unfold X0_0 Pipeline.Window.fill
  rw [dif_pos (moved0_0 t y)]
  blk_point [iblk, V, idx t]

/-- What the scratch holds after a point: the sixteen rows before the tile (zeros at a sequence's start), then the tile. -/
def ext (c : Dev nD) (t : Fin cfg0.N) : FVec Ideal S528x1024 .f32 := fun y =>
  if 16 ≤ (y 0 : ℕ) ∨ t.val % 8 ≠ 0 then
    (m ((c : Thread nD τ).loc main_arg0) : FVec Ideal S8192x2176 .f32)
      (ix2 ⟨t.val * 512 + y 0 - 16, by have := points_lt t; have := (y 0).isLt; simp at this; omega⟩
        ⟨y 1, by have := (y 1).isLt; simp at this; omega⟩)
  else 0

theorem scratch_first (c : Dev nD) (t : Fin cfg0.N) (h0 : t.val % 8 = 0) :
    View.canon (Val := Elt Ideal) (e := .f32) [⟨Rect.unit (s := S528x1024) ![16, 0] S512x1024.size inb_S528x1024_S512x1024_16_0, k0_pay4 (X0_0 m c t)⟩,
      ⟨Rect.unit (s := S528x1024) ![0, 0] S16x1024.size inb_S528x1024_S16x1024_0_0, k0_pay2 (F := Ideal)⟩] = ext m c t := by
  funext y
  canon_tiles x e using (View.cover_of_tiledBy _ ![16, 1024] (by sl_kernel_rfl) y)
  · rw [row_block]
    pointwise [k0_pay4]
    unfold ext
    rw [if_pos (Or.inl (by omega))]
    refine congrArg (m ((c : Thread nD τ).loc main_arg0) : FVec Ideal S8192x2176 .f32) (congrArg₂ ix2 (Fin.ext ?_) (Fin.ext ?_)) <;> dsimp only <;> omega
  · pointwise [k0_pay2]
    unfold ext
    rw [if_neg (by omega)]

theorem scratch_next (c : Dev nD) (t t' : Fin cfg0.N) (ht : t.val = t'.val + 1) (h0 : ¬ t.val % 8 = 0) :
    View.canon (Val := Elt Ideal) (e := .f32) [⟨Rect.unit (s := S528x1024) ![16, 0] S512x1024.size inb_S528x1024_S512x1024_16_0, k0_pay4 (X0_0 m c t)⟩,
      ⟨Rect.unit (s := S528x1024) ![0, 0] S16x1024.size inb_S528x1024_S16x1024_0_0,
        k0_pay3 (F := Ideal) (View.ld (Val := Elt Ideal) (e' := .f32) (ext m c t') (Rect.unit (s := S528x1024) ![512, 0] S16x1024.size inb_S528x1024_S16x1024_512_0))⟩] = ext m c t := by
  funext y
  canon_tiles x e using (View.cover_of_tiledBy _ ![16, 1024] (by sl_kernel_rfl) y)
  · rw [row_block]
    pointwise [k0_pay4]
    unfold ext
    rw [if_pos (Or.inl (by omega))]
    refine congrArg (m ((c : Thread nD τ).loc main_arg0) : FVec Ideal S8192x2176 .f32) (congrArg₂ ix2 (Fin.ext ?_) (Fin.ext ?_)) <;> dsimp only <;> omega
  · pointwise [k0_pay3]
    unfold ext
    refine (if_pos (Or.inl (show 16 ≤ 512 + (x 0).val by omega))).trans (Eq.trans ?_ (if_pos (Or.inr h0)).symm)
    refine congrArg (m ((c : Thread nD τ).loc main_arg0) : FVec Ideal S8192x2176 .f32) (congrArg₂ ix2 (Fin.ext ?_) (Fin.ext ?_))
    · show t'.val * 512 + (512 + (x 0).val) - 16 = t.val * 512 + (y 0).val - 16
      omega
    · show (x 1).val = (y 1).val
      omega

theorem held (X : Vec Ideal S528x1024 .f32) :
    View.read (Elt Ideal) (View.whole cc0_scratch0) ((Memref.isWhole_whole cc0_scratch0).unread X) = X :=
  Memref.IsWhole.read_unread _ X

theorem scratch (c : Dev nD) : ∀ (n : ℕ) (hn : n < cfg0.N), (outsAt0 m c n hn).2 = ext m c ⟨n, hn⟩
  | 0, hn => by
    rw [outsAt0_A m c ⟨0, hn⟩ (Nat.zero_mod _) (by dsimp only; omega)]
    dsimp only
    frame_out
    exact scratch_first m c ⟨0, hn⟩ (Nat.zero_mod _)
  | n + 1, hn => by
    have ih := scratch c n (by omega)
    by_cases h0 : (n + 1) % 8 = 0
    · rw [outsAt0_A m c ⟨n + 1, hn⟩ h0 (by dsimp only; omega)]
      dsimp only
      frame_out
      exact scratch_first m c ⟨n + 1, hn⟩ h0
    · rw [outsAt0_B m c ⟨n + 1, hn⟩ h0 (by dsimp only; omega)]
      dsimp only
      frame_out
      rw [held]
      simp only [Nat.add_sub_cancel]
      rw [ih]
      exact scratch_next m c ⟨n + 1, hn⟩ ⟨n, by omega⟩ rfl h0

theorem matrix_block (c : Dev nD) (t : Fin cfg0.N) : (iblk m c 2 t : FVec Ideal S4x256x256 .bf16)
    = (m ((c : Thread nD τ).loc main_arg2) : FVec Ideal S4x256x256 .bf16) := by
  funext y
  blk_point [iblk, V, idx t]

theorem scale_block (c : Dev nD) (t : Fin cfg0.N) : (iblk m c 3 t : FVec Ideal S1x1024 .f32)
    = (m ((c : Thread nD τ).loc main_arg3) : FVec Ideal S1x1024 .f32) := by
  funext y
  blk_point [iblk, V, idx t]

theorem gate_block (c : Dev nD) (t : Fin cfg0.N) : (iblk m c 1 t : FVec Ideal S512x1024 .bf16)
    = fun y => (m ((c : Thread nD τ).loc main_arg1) : FVec Ideal S8192x11264 .bf16)
        (ix2 ⟨t.val * 512 + y 0, by have := points_lt t; have := (y 0).isLt; simp at this; omega⟩
          ⟨2048 + y 1, by have := (y 1).isLt; simp at this; omega⟩) := by
  funext y
  blk_point [iblk, V, idx t]

theorem second : ∀ t : Fin cfg0.N, (grid0.coords t 1).val = t.val % 8 := (by decide +kernel : ∀ t : Fin grid0.N, _)

/-- A tile's row numbers within its sequence. -/
theorem place (t : Fin cfg0.N) (r : ℕ) (hr : r < 512) :
    IntOp.addi (Scalar.muli (BitVec.ofNat 32 ↑(grid0.coords t 1)) 512#32) (BitVec.ofNat 32 r) = BitVec.ofNat 32 ((t.val * 512 + r) % 4096) := by
  have := points_lt t
  rw [second]
  show BitVec.ofNat 32 (t.val % 8) * 512#32 + BitVec.ofNat 32 r = _
  apply BitVec.eq_of_toNat_eq
  simp only [BitVec.toNat_add, BitVec.toNat_mul, BitVec.toNat_ofNat]
  omega

/-- The row `k` before row `R` of its sequence, zero before its start. -/
def back (H : FVec Ideal S8192x2176 .f32) (R : Fin 8192) (j : Fin 2176) (k : ℕ) : EReal :=
  if k ≤ R.val % 4096 then H (ix2 ⟨R.val - k, by omega⟩ j) else 0

theorem shift (c : Dev nD) (t : Fin cfg0.N) (k : ℕ) (q : ℕ) (hq : q + k = 16) (r : ℕ) (hr : r < 512) (j : ℕ) (hj : j < 1024)
    (h1 : q + r < 528) (h2 : t.val * 512 + r < 8192) :
    ext m c t (ix2 ⟨q + r, h1⟩ ⟨j, hj⟩)
      = back (m ((c : Thread nD τ).loc main_arg0) : FVec Ideal S8192x2176 .f32) ⟨t.val * 512 + r, h2⟩ ⟨j, by omega⟩ k := by
  have := points_lt t
  unfold ext back
  dsimp only
  by_cases hc : k ≤ (t.val * 512 + r) % 4096
  · rw [if_pos hc]
    refine (if_pos ?_).trans ?_
    · show 16 ≤ q + r ∨ t.val % 8 ≠ 0
      omega
    · refine congrArg (m ((c : Thread nD τ).loc main_arg0) : FVec Ideal S8192x2176 .f32) (congrArg₂ ix2 (Fin.ext ?_) rfl)
      show t.val * 512 + (q + r) - 16 = t.val * 512 + r - k
      omega
  · rw [if_neg hc]
    refine if_neg ?_
    show ¬(16 ≤ q + r ∨ t.val % 8 ≠ 0)
    omega

theorem back_zero (H : FVec Ideal S8192x2176 .f32) (R : Fin 8192) (j : Fin 2176) : back H R j 0 = H (ix2 R j) :=
  if_pos (Nat.zero_le _)

theorem sum_back (H : FVec Ideal S8192x2176 .f32) (R : Fin 8192) (j : Fin 2176) (l : ℕ) :
    (∑ k : Fin (l + 1), if k.val ≤ R.val % 4096 then H (ix2 ⟨R.val - k.val, by omega⟩ j) else 0) = ∑ k ∈ Finset.range (l + 1), back H R j k :=
  Fin.sum_univ_eq_sum_range (back H R j) (l + 1)

theorem row_lt (t : Fin cfg0.N) (r : Fin 512) : t.val * 512 + r.val < 8192 := by
  have := points_lt t
  omega

/-- The entries a point leaves in the group whose window is 2 rows. -/
theorem tile_2 (c : Dev nD) (t : Fin cfg0.N) (r : Fin 512) (e : Fin 256)
    (H : FVec Ideal S8192x2176 .f32) (Z : FVec Ideal S8192x11264 .bf16) (P P' : FVec Ideal S4x256x256 .bf16) (G G' : FVec Ideal S1x1024 .f32)
    (E : FVec Ideal S528x1024 .f32) (Z' : FVec Ideal S512x1024 .bf16) (hH : H = m ((c : Thread nD τ).loc main_arg0)) (hE : E = ext m c t)
    (hP : P' = P) (hG : G' = G) (hZ : ∀ (p : Fin 512) (q : Fin 1024), Z' (ix2 p q) = Z (ix2 ⟨t.val * 512 + p.val, row_lt t p⟩ ⟨2048 + q.val, by omega⟩)) :
    (∑ k : Fin 256, (Ideal.div (H (ix2 ⟨t.val * 512 + r.val, row_lt t r⟩ ⟨k.val, by omega⟩)
        + E (ix2 ⟨15 + r.val, by omega⟩ ⟨k.val, by omega⟩))
        (FloatOps.sitofp (F := Ideal) FTy.f32 (IntOp.minsi 2#32 (IntOp.addi (IntOp.addi (Scalar.muli (BitVec.ofNat 32 ↑(grid0.coords t 1)) 512#32) (BitVec.ofNat 32 r.val)) 1#32)))
        - H (ix2 ⟨t.val * 512 + r.val, row_lt t r⟩ ⟨k.val, by omega⟩)) * P' (ix3 0 k e))
      * G' (ix2 0 ⟨e.val, by omega⟩)
      * (Z' (ix2 r ⟨e.val, by omega⟩) * Ideal.div 1 (1 + Ideal.exp (0 - Z' (ix2 r ⟨e.val, by omega⟩))))
      = entry 1 0 2#32 0 (by decide) H Z P G ⟨t.val * 512 + r.val, row_lt t r⟩ e := by
  subst hE hP hG
  unfold entry
  simp only [Nat.zero_add]
  rw [hZ, zero_sub]
  refine congrArg₂ (· * ·) (congrArg₂ (· * ·) (Finset.sum_congr rfl fun k _ => ?_) rfl) rfl
  rw [mul_comm]
  refine congrArg₂ (· * ·) rfl (congrArg₂ (· - ·) (congrArg₂ Ideal.div ?_ ?_) rfl)
  · refine Eq.trans ?_ (sum_back H ⟨t.val * 512 + r.val, row_lt t r⟩ ⟨k.val, by omega⟩ 1).symm
    simp only [Finset.sum_range_succ, Finset.sum_range_zero, zero_add, back_zero]
    subst hH
    rw [shift m c t 1 15 rfl _ r.isLt _ _ _ (row_lt t r)]
  · rw [place t _ r.isLt]

/-- The entries a point leaves in the group whose window is 4 rows. -/
theorem tile_4 (c : Dev nD) (t : Fin cfg0.N) (r : Fin 512) (e : Fin 256)
    (H : FVec Ideal S8192x2176 .f32) (Z : FVec Ideal S8192x11264 .bf16) (P P' : FVec Ideal S4x256x256 .bf16) (G G' : FVec Ideal S1x1024 .f32)
    (E : FVec Ideal S528x1024 .f32) (Z' : FVec Ideal S512x1024 .bf16) (hH : H = m ((c : Thread nD τ).loc main_arg0)) (hE : E = ext m c t)
    (hP : P' = P) (hG : G' = G) (hZ : ∀ (p : Fin 512) (q : Fin 1024), Z' (ix2 p q) = Z (ix2 ⟨t.val * 512 + p.val, row_lt t p⟩ ⟨2048 + q.val, by omega⟩)) :
    (∑ k : Fin 256, (Ideal.div (H (ix2 ⟨t.val * 512 + r.val, row_lt t r⟩ ⟨256 + k.val, by omega⟩)
        + E (ix2 ⟨15 + r.val, by omega⟩ ⟨256 + k.val, by omega⟩)
        + E (ix2 ⟨14 + r.val, by omega⟩ ⟨256 + k.val, by omega⟩)
        + E (ix2 ⟨13 + r.val, by omega⟩ ⟨256 + k.val, by omega⟩))
        (FloatOps.sitofp (F := Ideal) FTy.f32 (IntOp.minsi 4#32 (IntOp.addi (IntOp.addi (Scalar.muli (BitVec.ofNat 32 ↑(grid0.coords t 1)) 512#32) (BitVec.ofNat 32 r.val)) 1#32)))
        - H (ix2 ⟨t.val * 512 + r.val, row_lt t r⟩ ⟨256 + k.val, by omega⟩)) * P' (ix3 1 k e))
      * G' (ix2 0 ⟨256 + e.val, by omega⟩)
      * (Z' (ix2 r ⟨256 + e.val, by omega⟩) * Ideal.div 1 (1 + Ideal.exp (0 - Z' (ix2 r ⟨256 + e.val, by omega⟩))))
      = entry 3 256 4#32 1 (by decide) H Z P G ⟨t.val * 512 + r.val, row_lt t r⟩ e := by
  subst hE hP hG
  unfold entry
  rw [hZ, zero_sub]
  refine congrArg₂ (· * ·) (congrArg₂ (· * ·) (Finset.sum_congr rfl fun k _ => ?_) rfl) rfl
  rw [mul_comm]
  refine congrArg₂ (· * ·) rfl (congrArg₂ (· - ·) (congrArg₂ Ideal.div ?_ ?_) rfl)
  · refine Eq.trans ?_ (sum_back H ⟨t.val * 512 + r.val, row_lt t r⟩ ⟨256 + k.val, by omega⟩ 3).symm
    simp only [Finset.sum_range_succ, Finset.sum_range_zero, zero_add, back_zero]
    subst hH
    rw [shift m c t 1 15 rfl _ r.isLt _ _ _ (row_lt t r), shift m c t 2 14 rfl _ r.isLt _ _ _ (row_lt t r), shift m c t 3 13 rfl _ r.isLt _ _ _ (row_lt t r)]
  · rw [place t _ r.isLt]

/-- The entries a point leaves in the group whose window is 8 rows. -/
theorem tile_8 (c : Dev nD) (t : Fin cfg0.N) (r : Fin 512) (e : Fin 256)
    (H : FVec Ideal S8192x2176 .f32) (Z : FVec Ideal S8192x11264 .bf16) (P P' : FVec Ideal S4x256x256 .bf16) (G G' : FVec Ideal S1x1024 .f32)
    (E : FVec Ideal S528x1024 .f32) (Z' : FVec Ideal S512x1024 .bf16) (hH : H = m ((c : Thread nD τ).loc main_arg0)) (hE : E = ext m c t)
    (hP : P' = P) (hG : G' = G) (hZ : ∀ (p : Fin 512) (q : Fin 1024), Z' (ix2 p q) = Z (ix2 ⟨t.val * 512 + p.val, row_lt t p⟩ ⟨2048 + q.val, by omega⟩)) :
    (∑ k : Fin 256, (Ideal.div (H (ix2 ⟨t.val * 512 + r.val, row_lt t r⟩ ⟨512 + k.val, by omega⟩)
        + E (ix2 ⟨15 + r.val, by omega⟩ ⟨512 + k.val, by omega⟩)
        + E (ix2 ⟨14 + r.val, by omega⟩ ⟨512 + k.val, by omega⟩)
        + E (ix2 ⟨13 + r.val, by omega⟩ ⟨512 + k.val, by omega⟩)
        + E (ix2 ⟨12 + r.val, by omega⟩ ⟨512 + k.val, by omega⟩)
        + E (ix2 ⟨11 + r.val, by omega⟩ ⟨512 + k.val, by omega⟩)
        + E (ix2 ⟨10 + r.val, by omega⟩ ⟨512 + k.val, by omega⟩)
        + E (ix2 ⟨9 + r.val, by omega⟩ ⟨512 + k.val, by omega⟩))
        (FloatOps.sitofp (F := Ideal) FTy.f32 (IntOp.minsi 8#32 (IntOp.addi (IntOp.addi (Scalar.muli (BitVec.ofNat 32 ↑(grid0.coords t 1)) 512#32) (BitVec.ofNat 32 r.val)) 1#32)))
        - H (ix2 ⟨t.val * 512 + r.val, row_lt t r⟩ ⟨512 + k.val, by omega⟩)) * P' (ix3 2 k e))
      * G' (ix2 0 ⟨512 + e.val, by omega⟩)
      * (Z' (ix2 r ⟨512 + e.val, by omega⟩) * Ideal.div 1 (1 + Ideal.exp (0 - Z' (ix2 r ⟨512 + e.val, by omega⟩))))
      = entry 7 512 8#32 2 (by decide) H Z P G ⟨t.val * 512 + r.val, row_lt t r⟩ e := by
  subst hE hP hG
  unfold entry
  rw [hZ, zero_sub]
  refine congrArg₂ (· * ·) (congrArg₂ (· * ·) (Finset.sum_congr rfl fun k _ => ?_) rfl) rfl
  rw [mul_comm]
  refine congrArg₂ (· * ·) rfl (congrArg₂ (· - ·) (congrArg₂ Ideal.div ?_ ?_) rfl)
  · refine Eq.trans ?_ (sum_back H ⟨t.val * 512 + r.val, row_lt t r⟩ ⟨512 + k.val, by omega⟩ 7).symm
    simp only [Finset.sum_range_succ, Finset.sum_range_zero, zero_add, back_zero]
    subst hH
    rw [shift m c t 1 15 rfl _ r.isLt _ _ _ (row_lt t r), shift m c t 2 14 rfl _ r.isLt _ _ _ (row_lt t r), shift m c t 3 13 rfl _ r.isLt _ _ _ (row_lt t r), shift m c t 4 12 rfl _ r.isLt _ _ _ (row_lt t r), shift m c t 5 11 rfl _ r.isLt _ _ _ (row_lt t r), shift m c t 6 10 rfl _ r.isLt _ _ _ (row_lt t r), shift m c t 7 9 rfl _ r.isLt _ _ _ (row_lt t r)]
  · rw [place t _ r.isLt]

/-- The entries a point leaves in the group whose window is 16 rows. -/
theorem tile_16 (c : Dev nD) (t : Fin cfg0.N) (r : Fin 512) (e : Fin 256)
    (H : FVec Ideal S8192x2176 .f32) (Z : FVec Ideal S8192x11264 .bf16) (P P' : FVec Ideal S4x256x256 .bf16) (G G' : FVec Ideal S1x1024 .f32)
    (E : FVec Ideal S528x1024 .f32) (Z' : FVec Ideal S512x1024 .bf16) (hH : H = m ((c : Thread nD τ).loc main_arg0)) (hE : E = ext m c t)
    (hP : P' = P) (hG : G' = G) (hZ : ∀ (p : Fin 512) (q : Fin 1024), Z' (ix2 p q) = Z (ix2 ⟨t.val * 512 + p.val, row_lt t p⟩ ⟨2048 + q.val, by omega⟩)) :
    (∑ k : Fin 256, (Ideal.div (H (ix2 ⟨t.val * 512 + r.val, row_lt t r⟩ ⟨768 + k.val, by omega⟩)
        + E (ix2 ⟨15 + r.val, by omega⟩ ⟨768 + k.val, by omega⟩)
        + E (ix2 ⟨14 + r.val, by omega⟩ ⟨768 + k.val, by omega⟩)
        + E (ix2 ⟨13 + r.val, by omega⟩ ⟨768 + k.val, by omega⟩)
        + E (ix2 ⟨12 + r.val, by omega⟩ ⟨768 + k.val, by omega⟩)
        + E (ix2 ⟨11 + r.val, by omega⟩ ⟨768 + k.val, by omega⟩)
        + E (ix2 ⟨10 + r.val, by omega⟩ ⟨768 + k.val, by omega⟩)
        + E (ix2 ⟨9 + r.val, by omega⟩ ⟨768 + k.val, by omega⟩)
        + E (ix2 ⟨8 + r.val, by omega⟩ ⟨768 + k.val, by omega⟩)
        + E (ix2 ⟨7 + r.val, by omega⟩ ⟨768 + k.val, by omega⟩)
        + E (ix2 ⟨6 + r.val, by omega⟩ ⟨768 + k.val, by omega⟩)
        + E (ix2 ⟨5 + r.val, by omega⟩ ⟨768 + k.val, by omega⟩)
        + E (ix2 ⟨4 + r.val, by omega⟩ ⟨768 + k.val, by omega⟩)
        + E (ix2 ⟨3 + r.val, by omega⟩ ⟨768 + k.val, by omega⟩)
        + E (ix2 ⟨2 + r.val, by omega⟩ ⟨768 + k.val, by omega⟩)
        + E (ix2 ⟨1 + r.val, by omega⟩ ⟨768 + k.val, by omega⟩))
        (FloatOps.sitofp (F := Ideal) FTy.f32 (IntOp.minsi 16#32 (IntOp.addi (IntOp.addi (Scalar.muli (BitVec.ofNat 32 ↑(grid0.coords t 1)) 512#32) (BitVec.ofNat 32 r.val)) 1#32)))
        - H (ix2 ⟨t.val * 512 + r.val, row_lt t r⟩ ⟨768 + k.val, by omega⟩)) * P' (ix3 3 k e))
      * G' (ix2 0 ⟨768 + e.val, by omega⟩)
      * (Z' (ix2 r ⟨768 + e.val, by omega⟩) * Ideal.div 1 (1 + Ideal.exp (0 - Z' (ix2 r ⟨768 + e.val, by omega⟩))))
      = entry 15 768 16#32 3 (by decide) H Z P G ⟨t.val * 512 + r.val, row_lt t r⟩ e := by
  subst hE hP hG
  unfold entry
  rw [hZ, zero_sub]
  refine congrArg₂ (· * ·) (congrArg₂ (· * ·) (Finset.sum_congr rfl fun k _ => ?_) rfl) rfl
  rw [mul_comm]
  refine congrArg₂ (· * ·) rfl (congrArg₂ (· - ·) (congrArg₂ Ideal.div ?_ ?_) rfl)
  · refine Eq.trans ?_ (sum_back H ⟨t.val * 512 + r.val, row_lt t r⟩ ⟨768 + k.val, by omega⟩ 15).symm
    simp only [Finset.sum_range_succ, Finset.sum_range_zero, zero_add, back_zero]
    subst hH
    rw [shift m c t 1 15 rfl _ r.isLt _ _ _ (row_lt t r), shift m c t 2 14 rfl _ r.isLt _ _ _ (row_lt t r), shift m c t 3 13 rfl _ r.isLt _ _ _ (row_lt t r), shift m c t 4 12 rfl _ r.isLt _ _ _ (row_lt t r), shift m c t 5 11 rfl _ r.isLt _ _ _ (row_lt t r), shift m c t 6 10 rfl _ r.isLt _ _ _ (row_lt t r), shift m c t 7 9 rfl _ r.isLt _ _ _ (row_lt t r), shift m c t 8 8 rfl _ r.isLt _ _ _ (row_lt t r), shift m c t 9 7 rfl _ r.isLt _ _ _ (row_lt t r), shift m c t 10 6 rfl _ r.isLt _ _ _ (row_lt t r), shift m c t 11 5 rfl _ r.isLt _ _ _ (row_lt t r), shift m c t 12 4 rfl _ r.isLt _ _ _ (row_lt t r), shift m c t 13 3 rfl _ r.isLt _ _ _ (row_lt t r), shift m c t 14 2 rfl _ r.isLt _ _ _ (row_lt t r), shift m c t 15 1 rfl _ r.isLt _ _ _ (row_lt t r)]
  · rw [place t _ r.isLt]

/-- What the reference returns of the arguments in memory `m`. -/
abbrev result (c : Dev nD) : FVec Ideal S8192x1024 .bf16 := want (m ((c : Thread nD τ).loc main_arg0) : FVec Ideal S8192x2176 .f32) (m ((c : Thread nD τ).loc main_arg1) : FVec Ideal S8192x11264 .bf16) (m ((c : Thread nD τ).loc main_arg2) : FVec Ideal S4x256x256 .bf16) (m ((c : Thread nD τ).loc main_arg3) : FVec Ideal S1x1024 .f32)

theorem final (c : Dev nD) : (dats m 0 c).arrAt 4 cfg0.N = result m c := by
  refine (dats m 0 c).arrAt_eq_of_covers 4 _ (by decide +kernel) fun t _ y => ?_
  blk_simp
  rw [after0_4]
  have j0 : (((((View.whole main_v0).slice (win0_4.rect t)).emb y : S8192x1024.Idx) 0 : Fin _) : ℕ) = t.val * 512 + y 0 := by
    blk_simp [idx t] <;> omega
  have j1 : (((((View.whole main_v0).slice (win0_4.rect t)).emb y : S8192x1024.Idx) 1 : Fin _) : ℕ) = y 1 := by
    blk_simp [idx t] <;> omega
  generalize (((View.whole main_v0).slice (win0_4.rect t)).emb y : S8192x1024.Idx) = j at j0 j1 ⊢
  obtain ⟨a, b, rfl⟩ : ∃ (a : Fin 8192) (b : Fin 1024), j = ix2 a b := ⟨j 0, j 1, eq_ix2 j⟩
  replace j0 : a.val = t.val * 512 + y 0 := j0
  replace j1 : b.val = y 1 := j1
  by_cases h0 : t.val % 8 = 0
  · rw [outsAt0_A m c t h0 (by omega)]
    frame_out
    simp only [View.readCov_eq_canon', scratch_first m c t h0]
    canon_tiles x e using (View.cover_of_tiledBy _ ![512, 256] (by sl_kernel_rfl) y)
    · obtain rfl : a = ⟨t.val * 512 + x 0, row_lt t (x 0)⟩ := Fin.ext (by dsimp only; omega)
      rw [show b = ⟨768 + x 1, by omega⟩ from Fin.ext (by dsimp only; omega)]
      refine Eq.trans ?_ (want_16 _ _ _ _ _ (x 1)).symm
      rw [row_block]
      pointwise [k0_pay1, k0_pay15, k0_pay14, k0_pay5]
      exact tile_16 m c t (x 0) (x 1) _ _ _ _ _ _ _ _ rfl rfl (matrix_block m c t) (scale_block m c t) (fun p q => congrFun (gate_block m c t) (ix2 p q))
    · obtain rfl : a = ⟨t.val * 512 + x 0, row_lt t (x 0)⟩ := Fin.ext (by dsimp only; omega)
      rw [show b = ⟨512 + x 1, by omega⟩ from Fin.ext (by dsimp only; omega)]
      refine Eq.trans ?_ (want_8 _ _ _ _ _ (x 1)).symm
      rw [row_block]
      pointwise [k0_pay13, k0_pay11, k0_pay12, k0_pay5]
      exact tile_8 m c t (x 0) (x 1) _ _ _ _ _ _ _ _ rfl rfl (matrix_block m c t) (scale_block m c t) (fun p q => congrFun (gate_block m c t) (ix2 p q))
    · obtain rfl : a = ⟨t.val * 512 + x 0, row_lt t (x 0)⟩ := Fin.ext (by dsimp only; omega)
      rw [show b = ⟨256 + x 1, by omega⟩ from Fin.ext (by dsimp only; omega)]
      refine Eq.trans ?_ (want_4 _ _ _ _ _ (x 1)).symm
      rw [row_block]
      pointwise [k0_pay10, k0_pay9, k0_pay5]
      exact tile_4 m c t (x 0) (x 1) _ _ _ _ _ _ _ _ rfl rfl (matrix_block m c t) (scale_block m c t) (fun p q => congrFun (gate_block m c t) (ix2 p q))
    · obtain rfl : a = ⟨t.val * 512 + x 0, row_lt t (x 0)⟩ := Fin.ext (by dsimp only; omega)
      rw [show b = ⟨x 1, by omega⟩ from Fin.ext (by dsimp only; omega)]
      refine Eq.trans ?_ (want_2 _ _ _ _ _ (x 1)).symm
      rw [row_block]
      pointwise [k0_pay8, k0_pay6, k0_pay7, k0_pay5]
      exact tile_2 m c t (x 0) (x 1) _ _ _ _ _ _ _ _ rfl rfl (matrix_block m c t) (scale_block m c t) (fun p q => congrFun (gate_block m c t) (ix2 p q))
  · rw [outsAt0_B m c t h0 (by omega)]
    frame_out
    rw [held, scratch m c (t.val - 1)]
    simp only [View.readCov_eq_canon', scratch_next m c t ⟨t.val - 1, lt_of_le_of_lt (Nat.sub_le _ _) t.isLt⟩ (by dsimp only; omega) h0]
    canon_tiles x e using (View.cover_of_tiledBy _ ![512, 256] (by sl_kernel_rfl) y)
    · obtain rfl : a = ⟨t.val * 512 + x 0, row_lt t (x 0)⟩ := Fin.ext (by dsimp only; omega)
      rw [show b = ⟨768 + x 1, by omega⟩ from Fin.ext (by dsimp only; omega)]
      refine Eq.trans ?_ (want_16 _ _ _ _ _ (x 1)).symm
      rw [row_block]
      pointwise [k0_pay1, k0_pay15, k0_pay14, k0_pay5]
      exact tile_16 m c t (x 0) (x 1) _ _ _ _ _ _ _ _ rfl rfl (matrix_block m c t) (scale_block m c t) (fun p q => congrFun (gate_block m c t) (ix2 p q))
    · obtain rfl : a = ⟨t.val * 512 + x 0, row_lt t (x 0)⟩ := Fin.ext (by dsimp only; omega)
      rw [show b = ⟨512 + x 1, by omega⟩ from Fin.ext (by dsimp only; omega)]
      refine Eq.trans ?_ (want_8 _ _ _ _ _ (x 1)).symm
      rw [row_block]
      pointwise [k0_pay13, k0_pay11, k0_pay12, k0_pay5]
      exact tile_8 m c t (x 0) (x 1) _ _ _ _ _ _ _ _ rfl rfl (matrix_block m c t) (scale_block m c t) (fun p q => congrFun (gate_block m c t) (ix2 p q))
    · obtain rfl : a = ⟨t.val * 512 + x 0, row_lt t (x 0)⟩ := Fin.ext (by dsimp only; omega)
      rw [show b = ⟨256 + x 1, by omega⟩ from Fin.ext (by dsimp only; omega)]
      refine Eq.trans ?_ (want_4 _ _ _ _ _ (x 1)).symm
      rw [row_block]
      pointwise [k0_pay10, k0_pay9, k0_pay5]
      exact tile_4 m c t (x 0) (x 1) _ _ _ _ _ _ _ _ rfl rfl (matrix_block m c t) (scale_block m c t) (fun p q => congrFun (gate_block m c t) (ix2 p q))
    · obtain rfl : a = ⟨t.val * 512 + x 0, row_lt t (x 0)⟩ := Fin.ext (by dsimp only; omega)
      rw [show b = ⟨x 1, by omega⟩ from Fin.ext (by dsimp only; omega)]
      refine Eq.trans ?_ (want_2 _ _ _ _ _ (x 1)).symm
      rw [row_block]
      pointwise [k0_pay8, k0_pay6, k0_pay7, k0_pay5]
      exact tile_2 m c t (x 0) (x 1) _ _ _ _ _ _ _ _ rfl rfl (matrix_block m c t) (scale_block m c t) (fun p q => congrFun (gate_block m c t) (ix2 p q))

end Cert.PoolIdeal.Own

namespace Cert.Proof

open Idealize.ShloMosaic Idealize.SL.Sem

/-- Pooling as it is ends, with its arguments unchanged and every counter at zero; so does its ideal form. -/
theorem pool_frame : Cert.quiescent_Pool := fun m g _ => Cert.Pool.Gen.frame m g

theorem pool_frame_ideal : Cert.quiescent_PoolIdeal := fun m g _ => Cert.PoolIdeal.Gen.frame m g

theorem pool_frame_reference : Cert.quiescent_PoolReferenceIdeal := by
  intro m g _
  exact (θ_run Cert.PoolReferenceIdeal.defs _ _).mono
    (fun r h => ⟨fun c => (h c).2, sem_eq_zero_of_no_sems (by decide) r.2⟩) (Cert.PoolReferenceIdeal.Value.run m g)

/-- Kernel and reference return the same array. -/
theorem pool_equal : Cert.algebraic_PoolIdeal_PoolReferenceIdeal := by
  intro m g m' g' _ hargs
  refine ⟨Cert.PoolIdeal.Own.result m, ?_, ?_⟩
  · exact (θ_run Cert.PoolIdeal.defs _ _).mono (fun r h c => ⟨(h c).1.trans (Cert.PoolIdeal.Own.final m c), (h c).2⟩)
      (Cert.PoolIdeal.Value.run_blocks m g)
  · refine (θ_run Cert.PoolReferenceIdeal.defs _ _).mono (fun r h c => ⟨(h c).1.trans ?_, (h c).2⟩)
      (Cert.PoolReferenceIdeal.Value.run m' g')
    obtain ⟨e0, e1, e2, e3⟩ := hargs c
    show Cert.PoolReferenceIdeal.Own.want _ _ _ _ = Cert.PoolReferenceIdeal.Own.want _ _ _ _
    rw [e0, e1, e2, e3]

end Cert.Proof

end
-- ==== Proof.lean ====
/- The claims about the attention kernel, the launches around it and their references. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Prep.Frame
public import proofs.«01_k».proof.Proof.Gen.PrepIdeal.Value
public import proofs.«01_k».proof.Proof.Gen.PrepReferenceIdeal.Run
public import proofs.«01_k».proof.Proof.Gen.Norm.Frame
public import proofs.«01_k».proof.Proof.Gen.NormIdeal.Value
public import proofs.«01_k».proof.Proof.Gen.NormReferenceIdeal.Run
public import proofs.«01_k».proof.Proof.Gen.Pool.Frame
public import proofs.«01_k».proof.Proof.Gen.PoolIdeal.Value
public import proofs.«01_k».proof.Proof.Gen.PoolReferenceIdeal.Run
public import proofs.«01_k».proof.Proof.Bits.Frame
public import proofs.«01_k».proof.Proof.Ideal.Frame
public import proofs.«01_k».proof.Proof.Value.Array
public import proofs.«01_k».proof.Proof.Value.Reference
public import proofs.«01_k».proof.Proof.Value.Precondition
public import proofs.«01_k».proof.Proof.Calls.InWide
public import proofs.«01_k».proof.Proof.Calls.InState
public import proofs.«01_k».proof.Proof.Calls.Merge
public import proofs.«01_k».proof.Proof.Calls.Out
public import proofs.«01_k».proof.Proof.Calls.Prep
public import proofs.«01_k».proof.Proof.Calls.Norm
public import proofs.«01_k».proof.Proof.Calls.Pool
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel as it is ends, with its arguments unchanged and every counter at zero. -/
theorem frame_kernel : Cert.quiescent_Kernel := fun m g _ => Cert.Kernel.Own.frame_main m g

/-- So does its ideal form. -/
theorem frame_ideal : Cert.quiescent_KernelIdeal := fun m g _ => Cert.KernelIdeal.Own.frame_main m g

/-- The reference changes none of its arguments; it has no semaphores. -/
theorem frame_reference : Cert.quiescent_ReferenceIdeal := by
  intro m g _
  exact (θ_run Cert.ReferenceIdeal.defs _ _).mono
    (fun r h => ⟨fun c => (h c).2, sem_eq_zero_of_no_sems (by decide) r.2⟩) (Cert.ReferenceIdeal.Value.run m g)

/-- Of finite queries and keys the kernel's ideal form and the reference return the same array: the attention of every
    query over its sequence's keys up to itself, weighted by the values, gated. -/
theorem equal_results : Cert.algebraic_KernelIdeal_ReferenceIdeal_pre_finite := by
  intro m g m' g' hpre hargs
  have H := fun c => Cert.Attention.fin_of_pre _ _ _ _ _ (hpre c)
  refine ⟨fun c => Cert.KernelIdeal.Own.want m c, ?_, ?_⟩
  · refine (θ_run Cert.KernelIdeal.defs _ _).mono (fun r h c => ?_) (Cert.KernelIdeal.Own.run_main m g)
    exact ⟨((h.1 c).1 (5 : Fin 6)).trans (Cert.KernelIdeal.Own.final m c (H c)), Cert.KernelIdeal.Own.args_kept m h c⟩
  · refine (θ_run Cert.ReferenceIdeal.defs _ _).mono (fun r h c => ?_) (Cert.ReferenceIdeal.Value.run m' g')
    refine ⟨(h c).1.trans ?_, (h c).2⟩
    obtain ⟨e0, e1, e2, e3, e4⟩ := hargs c
    have H' := H c
    funext i
    obtain ⟨a, b, rfl⟩ : ∃ (a : Fin 8192) (b : Fin 2048), i = ix2 a b := ⟨i 0, i 1, eq_ix2 i⟩
    rw [← e0, ← e1] at H'
    refine (Cert.ReferenceIdeal.Value.reference_at m' c H' a b).trans ?_
    rw [e0, e1, e2, e3, e4]
    rfl

theorem claim : Cert.Claim :=
  ⟨Cert.Kernel.Gen.facts, Cert.KernelIdeal.Gen.facts, Cert.ReferenceIdeal.Gen.facts,
    Cert.InWide.Gen.facts, Cert.InWideIdeal.Gen.facts, Cert.InWideReferenceIdeal.Gen.facts,
    Cert.InState.Gen.facts, Cert.InStateIdeal.Gen.facts, Cert.InStateReferenceIdeal.Gen.facts,
    Cert.Merge.Gen.facts, Cert.MergeIdeal.Gen.facts, Cert.MergeReferenceIdeal.Gen.facts,
    Cert.Out.Gen.facts, Cert.OutIdeal.Gen.facts, Cert.OutReferenceIdeal.Gen.facts,
    Cert.Prep.Gen.facts, Cert.PrepIdeal.Gen.facts, Cert.PrepReferenceIdeal.Gen.facts,
    Cert.Norm.Gen.facts, Cert.NormIdeal.Gen.facts, Cert.NormReferenceIdeal.Gen.facts,
    Cert.Pool.Gen.facts, Cert.PoolIdeal.Gen.facts, Cert.PoolReferenceIdeal.Gen.facts, Cert.Attention.finite_facts,
    frame_kernel, frame_ideal, fun m g _ => frame_ideal m g trivial, frame_reference, fun m g _ => frame_reference m g trivial,
    inwide_frame, inwide_frame_ideal, inwide_frame_reference, instate_frame, instate_frame_ideal, instate_frame_reference,
    merge_frame, merge_frame_ideal, merge_frame_reference, out_frame, out_frame_ideal, out_frame_reference,
    prep_frame, prep_frame_ideal, prep_frame_reference, norm_frame, norm_frame_ideal, norm_frame_reference,
    pool_frame, pool_frame_ideal, pool_frame_reference,
    IdealRules.named_const.statement Cert.KernelIdeal.κ "mask" .f32 0xF149F2CA#32 ⊥ rfl, equal_results,
    trivial, inwide_equal, trivial, instate_equal, trivial, merge_equal, trivial, out_equal,
    trivial, prep_equal, trivial, norm_equal, trivial, pool_equal⟩

end Cert.Proof

end
